-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x512x8x64 : S_.BroadcastsInDim S2x512x8x64 (![] : Fin 0 → Fin S2x512x8x64.rank)

variable [Facts]

def fn {F : FTy → Type} [FloatOps F] (main_arg0 : FVec F S2x512x768 .bf16) (main_arg1 : FVec F S768x4096 .bf16) (main_arg2 : FVec F S2x512x8x64 .bf16) (main_arg3 : FVec F S2x512x8x64 .bf16) (main_arg4 : FVec F S4096x768 .bf16) : IVec S2x512x768 1 × IVec S768x4096 1 × IVec S2x512x8x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x4096 .bf16 := Host.absf main_arg1
  let main_cst_0 : FVec F S_ .bf16 := constant S_ .bf16 0x7F80#16
  let main_v4 : FVec F S768x4096 .bf16 := broadcastInDim S768x4096 ![] bcast_S_S768x4096 main_cst_0
  let main_v5 : IVec S768x4096 1 := cmpf .olt main_v3 main_v4
  let main_v6 : FVec F S2x512x8x64 .bf16 := Host.absf main_arg2
  let main_cst_1 : FVec F S_ .bf16 := constant S_ .bf16 0x7F80#16
  let main_v7 : FVec F S2x512x8x64 .bf16 := broadcastInDim S2x512x8x64 ![] bcast_S_S2x512x8x64 main_cst_1
  let main_v8 : IVec S2x512x8x64 1 := cmpf .olt main_v6 main_v7
  (main_v2, main_v5, main_v8)
-- ==== Pre_finite_scores_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x512x64x64 : S_.BroadcastsInDim S2x512x64x64 (![] : Fin 0 → Fin S2x512x64x64.rank)

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S2x512x768 1 × IVec S768x4096 1 × IVec S2x512x64x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x4096 .bf16 := Host.absf main_arg1
  let main_cst_0 : FVec F S_ .bf16 := constant S_ .bf16 0x7F80#16
  let main_v4 : FVec F S768x4096 .bf16 := broadcastInDim S768x4096 ![] bcast_S_S768x4096 main_cst_0
  let main_v5 : IVec S768x4096 1 := cmpf .olt main_v3 main_v4
  let main_v6 : FVec F S2x512x64x64 .bf16 := Host.absf main_arg2
  let main_cst_1 : FVec F S_ .bf16 := constant S_ .bf16 0x7F80#16
  let main_v7 : FVec F S2x512x64x64 .bf16 := broadcastInDim S2x512x64x64 ![] bcast_S_S2x512x64x64 main_cst_1
  let main_v8 : IVec S2x512x64x64 1 := cmpf .olt main_v6 main_v7
  (main_v2, main_v5, main_v8)
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S3x1024x256 : Shape := ⟨3, ![3, 1024, 256]⟩
abbrev S3x512x256 : Shape := ⟨3, ![3, 512, 256]⟩
abbrev S3x256x256 : Shape := ⟨3, ![3, 256, 256]⟩
abbrev S18 : Shape := ⟨1, ![18]⟩
abbrev S_ : Shape := ⟨0, ![]⟩
abbrev S768x512 : Shape := ⟨2, ![768, 512]⟩
abbrev S512x768 : Shape := ⟨2, ![512, 768]⟩
abbrev S512x512 : Shape := ⟨2, ![512, 512]⟩
abbrev S1x512x768 : Shape := ⟨3, ![1, 512, 768]⟩
abbrev S1x512x8x64 : Shape := ⟨4, ![1, 512, 8, 64]⟩
abbrev S512x64 : Shape := ⟨2, ![512, 64]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1 : Shape := ⟨1, ![1]⟩
abbrev S1x256x256 : Shape := ⟨3, ![1, 256, 256]⟩
abbrev S256x256 : Shape := ⟨2, ![256, 256]⟩
abbrev S1x1024x256 : Shape := ⟨3, ![1, 1024, 256]⟩
abbrev S1024x256 : Shape := ⟨2, ![1024, 256]⟩
abbrev S2x512x256 : Shape := ⟨3, ![2, 512, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x8x64, .bf16⟩
  | .hbm, ⟨3, _⟩ => ⟨S2x512x8x64, .bf16⟩
  | .hbm, ⟨4, _⟩ => ⟨S4096x768, .bf16⟩
  | .hbm, ⟨5, _⟩ => ⟨S2x512x768, .f32⟩
  | .local _ .vmem, ⟨0, _⟩ => ⟨S2x512x768, .bf16⟩
  | .local _ .vmem, ⟨1, _⟩ => ⟨S768x4096, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S4096x768, .bf16⟩
  | .local _ .vmem, ⟨5, _⟩ => ⟨S2x512x768, .f32⟩
  | .local _ .vmem, ⟨6, _⟩ => ⟨S3x1024x256, .bf16⟩
  | .local _ .vmem, ⟨7, _⟩ => ⟨S3x512x256, .bf16⟩
  | .local _ .vmem, ⟨8, _⟩ => ⟨S3x256x256, .bf16⟩
  | .local _ .vmem, ⟨9, _⟩ => ⟨S3x256x256, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_11 : BitVec 32 := 1#32
  let v20 : BitVec 32 := Scalar.muli v12 c1_i32_11
  let v21 : BitVec 32 := Scalar.addi c0_i32 v20
  v21.toNat
def k0_dev2 (d0 : Dev nD) : Nat :=
  let c0_i32_14 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_13 : BitVec 32 := 1#32
  let v22 : BitVec 32 := Scalar.muli v16 c1_i32_13
  let v23 : BitVec 32 := Scalar.addi c0_i32_14 v22
  v23.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_16 : BitVec 32 := 1#32
  let v24 : BitVec 32 := Scalar.muli v18 c1_i32_16
  let v25 : BitVec 32 := Scalar.addi c0_i32_17 v24
  v25.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v26 : BitVec 32 := Scalar.muli v2 c512_i32
  let v27 : Index := Scalar.indexCast v26
  ![0, v27.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_19 : BitVec 32 := 512#32
  let v30 : BitVec 32 := Scalar.muli v2 c512_i32_19
  let v31 : Index := Scalar.indexCast v30
  let c0_20 : Index := 0#32
  ![v31.toNat, 0]
def k0_off3 (d0 : Dev nD) : Fin 3 → Nat :=
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v73 : BitVec 32 := Scalar.subi c1_i32_40 v7
  let v74 : Index := Scalar.indexCast v73
  let c0_41 : Index := 0#32
  let c0_42 : Index := 0#32
  ![v74.toNat, 0, 0]
def k0_off4 (d0 : Dev nD) : Fin 4 → Nat :=
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v73 : BitVec 32 := Scalar.subi c1_i32_40 v7
  let v82 : Index := Scalar.indexCast v73
  let c0_45 : Index := 0#32
  let c0_46 : Index := 0#32
  let c0_47 : Index := 0#32
  ![v82.toNat, 0, 0, 0]
def k0_off5 (d0 : Dev nD) : Fin 3 → Nat :=
  let c0_85 : Index := 0#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v73 : BitVec 32 := Scalar.subi c1_i32_40 v7
  let c512_i32_84 : BitVec 32 := 512#32
  let v212 : BitVec 32 := Scalar.muli v73 c512_i32_84
  let v215 : Index := Scalar.indexCast v212
  let c0_86 : Index := 0#32
  ![0, v215.toNat, 0]
def k0_off6 (d0 : Dev nD) : Fin 3 → Nat :=
  let c1 : Index := 1#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v73 : BitVec 32 := Scalar.subi c1_i32_40 v7
  let c512_i32_84 : BitVec 32 := 512#32
  let v212 : BitVec 32 := Scalar.muli v73 c512_i32_84
  let v221 : Index := Scalar.indexCast v212
  let c0_87 : Index := 0#32
  ![1, v221.toNat, 0]
def k0_off7 (d0 : Dev nD) : Fin 3 → Nat :=
  let c2 : Index := 2#32
  let c1_i32_40 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v73 : BitVec 32 := Scalar.subi c1_i32_40 v7
  let c512_i32_84 : BitVec 32 := 512#32
  let v212 : BitVec 32 := Scalar.muli v73 c512_i32_84
  let v227 : Index := Scalar.indexCast v212
  let c0_88 : Index := 0#32
  ![2, v227.toNat, 0]
def k0_off8 (d0 : Dev nD) : Fin 3 → Nat :=
  let c0_i32_89 : BitVec 32 := 0#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v50 : BitVec 32 := Scalar.subi c1_i32_24 v7
  let c512_i32_25 : BitVec 32 := 512#32
  let v51 : BitVec 32 := Scalar.muli v50 c512_i32_25
  let c0_i32_97 : BitVec 32 := 0#32
  ![0, v51.toNat, 0]
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_93 : BitVec 32 := 1#32
  let v231 : BitVec 32 := Scalar.muli v12 c1_i32_93
  let v232 : BitVec 32 := Scalar.addi c0_i32_94 v231
  v232.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v241 : Index := Scalar.indexCast v7
  let c0_98 : Index := 0#32
  let c0_99 : Index := 0#32
  ![v241.toNat, 0, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v249 : Index := Scalar.indexCast v7
  let c0_102 : Index := 0#32
  let c0_103 : Index := 0#32
  let c0_104 : Index := 0#32
  ![v249.toNat, 0, 0, 0]
def k0_off11 (d0 : Dev nD) : Fin 3 → Nat :=
  let c0_142 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_141 : BitVec 32 := 512#32
  let v379 : BitVec 32 := Scalar.muli v7 c512_i32_141
  let v382 : Index := Scalar.indexCast v379
  let c0_143 : Index := 0#32
  ![0, v382.toNat, 0]
def k0_off12 (d0 : Dev nD) : Fin 3 → Nat :=
  let c1_144 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_141 : BitVec 32 := 512#32
  let v379 : BitVec 32 := Scalar.muli v7 c512_i32_141
  let v388 : Index := Scalar.indexCast v379
  let c0_145 : Index := 0#32
  ![1, v388.toNat, 0]
def k0_off13 (d0 : Dev nD) : Fin 3 → Nat :=
  let c2_146 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_141 : BitVec 32 := 512#32
  let v379 : BitVec 32 := Scalar.muli v7 c512_i32_141
  let v394 : Index := Scalar.indexCast v379
  let c0_147 : Index := 0#32
  ![2, v394.toNat, 0]
def k0_off14 (d0 : Dev nD) : Fin 3 → Nat :=
  let c1_i32_148 : BitVec 32 := 1#32
  let c1_i32_29 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let v58 : BitVec 32 := Scalar.subi c1_i32_29 v4
  let c512_i32_30 : BitVec 32 := 512#32
  let v59 : BitVec 32 := Scalar.muli v58 c512_i32_30
  let c0_i32_155 : BitVec 32 := 0#32
  ![1, v59.toNat, 0]
def k0_dev5 (d0 : Dev nD) : Nat :=
  let c0_i32_152 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_151 : BitVec 32 := 1#32
  let v398 : BitVec 32 := Scalar.muli v16 c1_i32_151
  let v399 : BitVec 32 := Scalar.addi c0_i32_152 v398
  v399.toNat
def k0_off15 (d0 : Dev nD) : Fin 3 → Nat :=
  let c2_i32_156 : BitVec 32 := 2#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v66 : BitVec 32 := Scalar.subi c1_i32_35 v8
  let c512_i32_36 : BitVec 32 := 512#32
  let v67 : BitVec 32 := Scalar.muli v66 c512_i32_36
  let c0_i32_163 : BitVec 32 := 0#32
  ![2, v67.toNat, 0]
def k0_dev6 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_159 : BitVec 32 := 1#32
  let v408 : BitVec 32 := Scalar.muli v18 c1_i32_159
  let v409 : BitVec 32 := Scalar.addi c0_i32_160 v408
  v409.toNat
def k0_off16 (d0 : Dev nD) : Fin 3 → Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_23 : BitVec 32 := 512#32
  let v49 : BitVec 32 := Scalar.muli v7 c512_i32_23
  let c1_i32_26 : BitVec 32 := 1#32
  let v54 : BitVec 32 := Scalar.subi c1_i32_26 v4
  let c256_i32_27 : BitVec 32 := 256#32
  let v55 : BitVec 32 := Scalar.muli v54 c256_i32_27
  let v56 : BitVec 32 := Scalar.addi v49 v55
  let c0_i32_196 : BitVec 32 := 0#32
  ![0, v56.toNat, 0]
def k0_dev7 (d0 : Dev nD) : Nat :=
  let c0_i32_193 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_192 : BitVec 32 := 1#32
  let v442 : BitVec 32 := Scalar.muli v16 c1_i32_192
  let v443 : BitVec 32 := Scalar.addi c0_i32_193 v442
  v443.toNat
def k0_off17 (d0 : Dev nD) : Fin 3 → Nat :=
  let c1_214 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let c512_i32_28 : BitVec 32 := 512#32
  let v57 : BitVec 32 := Scalar.muli v4 c512_i32_28
  let v466 : Index := Scalar.indexCast v57
  let c0_215 : Index := 0#32
  ![1, v466.toNat, 0]
def k0_off18 (d0 : Dev nD) : Fin 3 → Nat :=
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let c512_i32_28 : BitVec 32 := 512#32
  let v57 : BitVec 32 := Scalar.muli v4 c512_i32_28
  let c1_i32_32 : BitVec 32 := 1#32
  let c4_i32 : BitVec 32 := 4#32
  let v8 : BitVec 32 := Scalar.divsi v2 c4_i32
  let v62 : BitVec 32 := Scalar.subi c1_i32_32 v8
  let c256_i32_33 : BitVec 32 := 256#32
  let v63 : BitVec 32 := Scalar.muli v62 c256_i32_33
  let v64 : BitVec 32 := Scalar.addi v57 v63
  let c0_i32_228 : BitVec 32 := 0#32
  ![1, v64.toNat, 0]
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_224 : BitVec 32 := 1#32
  let v476 : BitVec 32 := Scalar.muli v18 c1_i32_224
  let v477 : BitVec 32 := Scalar.addi c0_i32_225 v476
  v477.toNat
def k0_off19 (d0 : Dev nD) : Fin 3 → Nat :=
  let c2_246 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let c512_i32_34 : BitVec 32 := 512#32
  let v65 : BitVec 32 := Scalar.muli v8 c512_i32_34
  let v500 : Index := Scalar.indexCast v65
  let c0_247 : Index := 0#32
  ![2, v500.toNat, 0]
def k0_off20 (d0 : Dev nD) : Fin 3 → Nat :=
  let c2_i32_253 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let c512_i32_34 : BitVec 32 := 512#32
  let v65 : BitVec 32 := Scalar.muli v8 c512_i32_34
  let c1_i32_38 : BitVec 32 := 1#32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let v70 : BitVec 32 := Scalar.subi c1_i32_38 v7
  let c256_i32_39 : BitVec 32 := 256#32
  let v71 : BitVec 32 := Scalar.muli v70 c256_i32_39
  let v72 : BitVec 32 := Scalar.addi v65 v71
  let c0_i32_260 : BitVec 32 := 0#32
  ![2, v72.toNat, 0]
def k0_dev9 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_256 : BitVec 32 := 1#32
  let v510 : BitVec 32 := Scalar.muli v12 c1_i32_256
  let v511 : BitVec 32 := Scalar.addi c0_i32_257 v510
  v511.toNat
def k0_off21 (d0 : Dev nD) : Fin 3 → Nat :=
  let c0_278 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_23 : BitVec 32 := 512#32
  let v49 : BitVec 32 := Scalar.muli v7 c512_i32_23
  let c256_i32 : BitVec 32 := 256#32
  let v52 : BitVec 32 := Scalar.muli v4 c256_i32
  let v53 : BitVec 32 := Scalar.addi v49 v52
  let v534 : Index := Scalar.indexCast v53
  let c0_279 : Index := 0#32
  ![0, v534.toNat, 0]
def k0_off22 (d0 : Dev nD) : Fin 3 → Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_23 : BitVec 32 := 512#32
  let v49 : BitVec 32 := Scalar.muli v7 c512_i32_23
  let c256_i32 : BitVec 32 := 256#32
  let v52 : BitVec 32 := Scalar.muli v4 c256_i32
  let v53 : BitVec 32 := Scalar.addi v49 v52
  let c0_i32_293 : BitVec 32 := 0#32
  ![0, v53.toNat, 0]
def k0_dev10 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_289 : BitVec 32 := 1#32
  let v544 : BitVec 32 := Scalar.muli v18 c1_i32_289
  let v545 : BitVec 32 := Scalar.addi c0_i32_290 v544
  v545.toNat
def k0_off23 (d0 : Dev nD) : Fin 3 → Nat :=
  let c1_311 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let c512_i32_28 : BitVec 32 := 512#32
  let v57 : BitVec 32 := Scalar.muli v4 c512_i32_28
  let c4_i32 : BitVec 32 := 4#32
  let v8 : BitVec 32 := Scalar.divsi v2 c4_i32
  let c256_i32_31 : BitVec 32 := 256#32
  let v60 : BitVec 32 := Scalar.muli v8 c256_i32_31
  let v61 : BitVec 32 := Scalar.addi v57 v60
  let v568 : Index := Scalar.indexCast v61
  let c0_312 : Index := 0#32
  ![1, v568.toNat, 0]
def k0_off24 (d0 : Dev nD) : Fin 3 → Nat :=
  let c1_i32_318 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let c512_i32_28 : BitVec 32 := 512#32
  let v57 : BitVec 32 := Scalar.muli v4 c512_i32_28
  let c4_i32 : BitVec 32 := 4#32
  let v8 : BitVec 32 := Scalar.divsi v2 c4_i32
  let c256_i32_31 : BitVec 32 := 256#32
  let v60 : BitVec 32 := Scalar.muli v8 c256_i32_31
  let v61 : BitVec 32 := Scalar.addi v57 v60
  let c0_i32_326 : BitVec 32 := 0#32
  ![1, v61.toNat, 0]
def k0_dev11 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_322 : BitVec 32 := 1#32
  let v578 : BitVec 32 := Scalar.muli v12 c1_i32_322
  let v579 : BitVec 32 := Scalar.addi c0_i32_323 v578
  v579.toNat
def k0_off25 (d0 : Dev nD) : Fin 3 → Nat :=
  let c2_344 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let c512_i32_34 : BitVec 32 := 512#32
  let v65 : BitVec 32 := Scalar.muli v8 c512_i32_34
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c256_i32_37 : BitVec 32 := 256#32
  let v68 : BitVec 32 := Scalar.muli v7 c256_i32_37
  let v69 : BitVec 32 := Scalar.addi v65 v68
  let v602 : Index := Scalar.indexCast v69
  let c0_345 : Index := 0#32
  ![2, v602.toNat, 0]
def k0_off26 (d0 : Dev nD) : Fin 3 → Nat :=
  let c2_i32_351 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let c512_i32_34 : BitVec 32 := 512#32
  let v65 : BitVec 32 := Scalar.muli v8 c512_i32_34
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c256_i32_37 : BitVec 32 := 256#32
  let v68 : BitVec 32 := Scalar.muli v7 c256_i32_37
  let v69 : BitVec 32 := Scalar.addi v65 v68
  let c0_i32_358 : BitVec 32 := 0#32
  ![2, v69.toNat, 0]
def k0_dev12 (d0 : Dev nD) : Nat :=
  let c0_i32_355 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_354 : BitVec 32 := 1#32
  let v612 : BitVec 32 := Scalar.muli v16 c1_i32_354
  let v613 : BitVec 32 := Scalar.addi c0_i32_355 v612
  v613.toNat
def k0_dev13 (d0 : Dev nD) : Nat :=
  let c0_i32_388 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_387 : BitVec 32 := 1#32
  let v646 : BitVec 32 := Scalar.muli v16 c1_i32_387
  let v647 : BitVec 32 := Scalar.addi c0_i32_388 v646
  v647.toNat
def k0_dev14 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_418 : BitVec 32 := 1#32
  let v680 : BitVec 32 := Scalar.muli v18 c1_i32_418
  let v681 : BitVec 32 := Scalar.addi c0_i32_419 v680
  v681.toNat
def k0_dev15 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_449 : BitVec 32 := 1#32
  let v714 : BitVec 32 := Scalar.muli v12 c1_i32_449
  let v715 : BitVec 32 := Scalar.addi c0_i32_450 v714
  v715.toNat
def k0_off27 (d0 : Dev nD) : Fin 3 → Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1 : BitVec 32 := 2#32
  let v5 : BitVec 32 := Scalar.remsi v2 c2_i32_1
  let c2_i32 : BitVec 32 := 2#32
  let v3 : BitVec 32 := Scalar.divsi v2 c2_i32
  let c2_i32_0 : BitVec 32 := 2#32
  let v4 : BitVec 32 := Scalar.remsi v3 c2_i32_0
  let v6 : BitVec 32 := Scalar.addi v5 v4
  let c2_i32_2 : BitVec 32 := 2#32
  let v7 : BitVec 32 := Scalar.remsi v6 c2_i32_2
  let c512_i32_23 : BitVec 32 := 512#32
  let v49 : BitVec 32 := Scalar.muli v7 c512_i32_23
  let c0_i32_473 : BitVec 32 := 0#32
  ![0, v49.toNat, 0]
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.addi v2 c1_i32_3
  let c2_i32_5 : BitVec 32 := 2#32
  let c2_i32_4 : BitVec 32 := 2#32
  let v10 : BitVec 32 := Scalar.remsi v2 c2_i32_4
  let v11 : BitVec 32 := Scalar.muli c2_i32_5 v10
  let v12 : BitVec 32 := Scalar.subi v9 v11
  let c1_i32_471 : BitVec 32 := 1#32
  let v738 : BitVec 32 := Scalar.muli v12 c1_i32_471
  let v739 : BitVec 32 := Scalar.addi c0_i32_472 v738
  v739.toNat
def k0_off28 (d0 : Dev nD) : Fin 3 → Nat :=
  let c1_i32_491 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c2_i32_0 : BitVec 32 := 2#32
  let v4 : BitVec 32 := Scalar.remsi v3 c2_i32_0
  let c512_i32_28 : BitVec 32 := 512#32
  let v57 : BitVec 32 := Scalar.muli v4 c512_i32_28
  let c0_i32_495 : BitVec 32 := 0#32
  ![1, v57.toNat, 0]
def k0_dev17 (d0 : Dev nD) : Nat :=
  let c0_i32_494 : BitVec 32 := 0#32
  let c4_i32_6 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let v13 : BitVec 32 := Scalar.muli c4_i32_6 v8
  let c3_i32 : BitVec 32 := 3#32
  let v14 : BitVec 32 := Scalar.addi v13 c3_i32
  let c4_i32_7 : BitVec 32 := 4#32
  let v15 : BitVec 32 := Scalar.remsi v2 c4_i32_7
  let v16 : BitVec 32 := Scalar.subi v14 v15
  let c1_i32_493 : BitVec 32 := 1#32
  let v762 : BitVec 32 := Scalar.muli v16 c1_i32_493
  let v763 : BitVec 32 := Scalar.addi c0_i32_494 v762
  v763.toNat
def k0_off29 (d0 : Dev nD) : Fin 3 → Nat :=
  let c2_i32_513 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v8 : BitVec 32 := Scalar.divsi v2 c4_i32
  let c512_i32_34 : BitVec 32 := 512#32
  let v65 : BitVec 32 := Scalar.muli v8 c512_i32_34
  let c0_i32_517 : BitVec 32 := 0#32
  ![2, v65.toNat, 0]
def k0_dev18 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.addi v2 c4_i32_8
  let c8_i32_9 : BitVec 32 := 8#32
  let v18 : BitVec 32 := Scalar.remsi v17 c8_i32_9
  let c1_i32_515 : BitVec 32 := 1#32
  let v786 : BitVec 32 := Scalar.muli v18 c1_i32_515
  let v787 : BitVec 32 := Scalar.addi c0_i32_516 v786
  v787.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x512x768, .f32⟩
  | .hbm, ⟨6, _⟩ => ⟨S768x4096, .f32⟩
  | .hbm, ⟨7, _⟩ => ⟨S2x512x64x64, .f32⟩
  | .hbm, ⟨8, _⟩ => ⟨S2x512x64x64, .f32⟩
  | .hbm, ⟨9, _⟩ => ⟨S4096x768, .f32⟩
  | .hbm, ⟨10, _⟩ => ⟨S2x512x4096, .f32⟩
  | .hbm, ⟨11, _⟩ => ⟨S2x512x64x64, .f32⟩
  | .hbm, ⟨12, _⟩ => ⟨S512, .i32⟩
  | .hbm, ⟨13, _⟩ => ⟨S512x1, .i32⟩
  | .hbm, ⟨14, _⟩ => ⟨S512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S1x512, .i32⟩
  | .hbm, ⟨25, _⟩ => ⟨S1x512, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x512, .i1⟩
  | .hbm, ⟨30, _⟩ => ⟨S512x512, .i1⟩
  | .hbm, ⟨31, _⟩ => ⟨S512x512, .i1⟩
  | .hbm, ⟨32, _⟩ => ⟨S512x512, .i1⟩
  | .hbm, ⟨33, _⟩ => ⟨S2x64x512x512, .f32⟩
  | .hbm, ⟨34, _⟩ => ⟨S_, .f32⟩
  | .hbm, ⟨35, _⟩ => ⟨S2x64x512x512, .f32⟩
  | .hbm, ⟨36, _⟩ => ⟨S2x64x512x512, .f32⟩
  | .hbm, ⟨37, _⟩ => ⟨S1x1x512x512, .i1⟩
  | .hbm, ⟨38, _⟩ => ⟨S_, .f32⟩
  | .hbm, ⟨39, _⟩ => ⟨S_, .f32⟩
  | .hbm, ⟨40, _⟩ => ⟨S2x64x512x512, .i1⟩
  | .hbm, ⟨41, _⟩ => ⟨S2x64x512x512, .f32⟩
  | .hbm, ⟨42, _⟩ => ⟨S2x64x512x512, .f32⟩
  | .hbm, ⟨43, _⟩ => ⟨S_, .f32⟩
  | .hbm, ⟨44, _⟩ => ⟨S2x64x512, .f32⟩
  | .hbm, ⟨45, _⟩ => ⟨S2x64x512x1, .f32⟩
  | .hbm, ⟨46, _⟩ => ⟨S2x64x512x512, .f32⟩
  | .hbm, ⟨47, _⟩ => ⟨S2x64x512x512, .f32⟩
  | .hbm, ⟨48, _⟩ => ⟨S2x64x512x512, .f32⟩
  | .hbm, ⟨49, _⟩ => ⟨S_, .i1⟩
  | .hbm, ⟨50, _⟩ => ⟨S512, .i1⟩
  | .hbm, ⟨51, _⟩ => ⟨S1x1x512x1, .i1⟩
  | .hbm, ⟨52, _⟩ => ⟨S_, .f32⟩
  | .hbm, ⟨53, _⟩ => ⟨S2x64x512, .f32⟩
  | .hbm, ⟨54, _⟩ => ⟨S2x64x512x1, .f32⟩
  | .hbm, ⟨55, _⟩ => ⟨S_, .f32⟩
  | .hbm, ⟨56, _⟩ => ⟨S_, .f32⟩
  | .hbm, ⟨57, _⟩ => ⟨S2x64x512x1, .i1⟩
  | .hbm, ⟨58, _⟩ => ⟨S2x64x512x1, .f32⟩
  | .hbm, ⟨59, _⟩ => ⟨S2x64x512x1, .f32⟩
  | .hbm, ⟨60, _⟩ => ⟨S2x64x512x512, .f32⟩
  | .hbm, ⟨61, _⟩ => ⟨S2x64x512x512, .f32⟩
  | .hbm, ⟨62, _⟩ => ⟨S1x1x512x1, .i1⟩
  | .hbm, ⟨63, _⟩ => ⟨S_, .f32⟩
  | .hbm, ⟨64, _⟩ => ⟨S_, .f32⟩
  | .hbm, ⟨65, _⟩ => ⟨S2x64x512x512, .i1⟩
  | .hbm, ⟨66, _⟩ => ⟨S2x64x512x512, .f32⟩
  | .hbm, ⟨67, _⟩ => ⟨S2x64x512x512, .f32⟩
  | .hbm, ⟨68, _⟩ => ⟨S2x64x64x512, .f32⟩
  | .hbm, ⟨69, _⟩ => ⟨S2x512x64x64, .f32⟩
  | .hbm, ⟨70, _⟩ => ⟨S2x512x4096, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Bridge.lean ====
module

public import proofs.«01_k».proof.Defs

@[expose] public section

noncomputable section

namespace Cert.Proof

open Idealize.ShloMosaic Idealize.SL.Sem

/-- At bits a named constant is the literal it was printed from. -/
@[reducible] def namedBits : Named Bits where
  named _ _ φ b := FloatOps.ofBits φ b

theorem sig_eq : Cert.Kernel.sig = Cert.KernelIdeal.sig := rfl

variable [hK : Cert.Kernel.Facts] [hI : Cert.KernelIdeal.Facts]

attribute [local instance] namedBits

/-! Each window of the body, at bits, is the same program in both texts. -/

theorem part1_eq : Cert.Kernel.k0_part1 (F := Bits) = Cert.KernelIdeal.k0_part1 (F := Bits) := rfl
theorem part2_eq : Cert.Kernel.k0_part2 (F := Bits) = Cert.KernelIdeal.k0_part2 (F := Bits) := rfl
theorem part3_eq : Cert.Kernel.k0_part3 (F := Bits) = Cert.KernelIdeal.k0_part3 (F := Bits) := rfl
theorem part4_eq : Cert.Kernel.k0_part4 (F := Bits) = Cert.KernelIdeal.k0_part4 (F := Bits) := rfl
theorem part5_eq : Cert.Kernel.k0_part5 (F := Bits) = Cert.KernelIdeal.k0_part5 (F := Bits) := rfl
theorem part6_eq : Cert.Kernel.k0_part6 (F := Bits) = Cert.KernelIdeal.k0_part6 (F := Bits) := rfl
theorem part7_eq : Cert.Kernel.k0_part7 (F := Bits) = Cert.KernelIdeal.k0_part7 (F := Bits) := rfl
theorem part8_eq : Cert.Kernel.k0_part8 (F := Bits) = Cert.KernelIdeal.k0_part8 (F := Bits) := rfl
theorem part9_eq : Cert.Kernel.k0_part9 (F := Bits) = Cert.KernelIdeal.k0_part9 (F := Bits) := rfl
theorem part10_eq : Cert.Kernel.k0_part10 (F := Bits) = Cert.KernelIdeal.k0_part10 (F := Bits) := rfl
theorem part11_eq : Cert.Kernel.k0_part11 (F := Bits) = Cert.KernelIdeal.k0_part11 (F := Bits) := rfl
theorem part12_eq : Cert.Kernel.k0_part12 (F := Bits) = Cert.KernelIdeal.k0_part12 (F := Bits) := rfl
theorem part13_eq : Cert.Kernel.k0_part13 (F := Bits) = Cert.KernelIdeal.k0_part13 (F := Bits) := rfl
theorem part14_eq : Cert.Kernel.k0_part14 (F := Bits) = Cert.KernelIdeal.k0_part14 (F := Bits) := rfl
theorem part15_eq : Cert.Kernel.k0_part15 (F := Bits) = Cert.KernelIdeal.k0_part15 (F := Bits) := rfl
theorem part16_eq : Cert.Kernel.k0_part16 (F := Bits) = Cert.KernelIdeal.k0_part16 (F := Bits) := rfl
theorem part17_eq : Cert.Kernel.k0_part17 (F := Bits) = Cert.KernelIdeal.k0_part17 (F := Bits) := rfl
theorem part18_eq : Cert.Kernel.k0_part18 (F := Bits) = Cert.KernelIdeal.k0_part18 (F := Bits) := rfl
theorem part19_eq : Cert.Kernel.k0_part19 (F := Bits) = Cert.KernelIdeal.k0_part19 (F := Bits) := rfl
theorem part20_eq : Cert.Kernel.k0_part20 (F := Bits) = Cert.KernelIdeal.k0_part20 (F := Bits) := rfl
theorem part21_eq : Cert.Kernel.k0_part21 (F := Bits) = Cert.KernelIdeal.k0_part21 (F := Bits) := rfl
theorem part22_eq : Cert.Kernel.k0_part22 (F := Bits) = Cert.KernelIdeal.k0_part22 (F := Bits) := rfl
theorem part23_eq : Cert.Kernel.k0_part23 (F := Bits) = Cert.KernelIdeal.k0_part23 (F := Bits) := rfl
theorem part24_eq : Cert.Kernel.k0_part24 (F := Bits) = Cert.KernelIdeal.k0_part24 (F := Bits) := rfl
theorem part25_eq : Cert.Kernel.k0_part25 (F := Bits) = Cert.KernelIdeal.k0_part25 (F := Bits) := rfl

theorem body_eq : Cert.Kernel.cc0_body (F := Bits) = Cert.KernelIdeal.cc0_body (F := Bits) := rfl

theorem cfg_eq : Cert.Kernel.cfg0 = Cert.KernelIdeal.cfg0 := rfl

theorem defs₀_eq : Cert.Kernel.defs₀ (F := Bits) = Cert.KernelIdeal.defs₀ (F := Bits) := by
  refine congrArg (Defs.onTc (Λ := Cert.Kernel.Λ₀)) (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) defs₀_eq
theorem main_eq : Cert.Kernel.main (F := Bits) = Cert.KernelIdeal.main (F := Bits) := rfl

theorem quiescent_of [hRI : Cert.ReferenceIdeal.Facts] (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) : quiescent_Kernel := by
  intro m g _
  rw [defs_eq, main_eq]
  exact h m g

end Cert.Proof
-- ==== Proof.Topo.lean ====
/-
# The cube of eight devices, and where the blocks of the buffers lie

Device `r` sits at the corner of a cube with the three bits `bit r 0`, `bit r 1`, `bit r 2`; `peer a r` flips bit `a`
alone. Each of the three colours `g` walks the axes `ax g 0`, `ax g 1`, `ax g 2` in turn. `kp0`, `gv0` are the first row
of the half a device keeps and of the half it gives away in a colour's first step, `kp1`, `gv1` the same for the quarters
of the second step. The second half of the module reads the kernel's slices: which elements they cover and what a read or
a write through them does, for a buffer of three slots of 256 columns.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.CubeProof

open Cert.KernelIdeal Cert.KernelIdeal.Gen
open Idealize.ShloMosaic
open Idealize.ShloMosaic.TcCoe

/-! ## Devices -/

/-- The neighbour across axis `a` of the cube. -/
def peer (a : Fin 3) (c : Dev nD) : Dev nD :=
  match a with
  | 0 => ⟨(c.val + 1) - 2 * (c.val % 2), by have := c.isLt; have : nD = 8 := rfl; omega⟩
  | 1 => ⟨(4 * (c.val / 4) + 3) - c.val % 4, by have := c.isLt; have : nD = 8 := rfl; omega⟩
  | 2 => ⟨(c.val + 4) % 8, Nat.mod_lt _ (by decide)⟩

/-- The coordinate of a device along axis `a`. -/
def bit (a : Fin 3) (c : Dev nD) : ℕ :=
  match a with
  | 0 => (c.val % 2 + c.val / 2 % 2) % 2
  | 1 => c.val / 2 % 2
  | 2 => c.val / 4

theorem peer_peer : ∀ (a : Fin 3) (c : Dev nD), peer a (peer a c) = c := by decide
theorem peer_comm : ∀ (a b : Fin 3) (c : Dev nD), peer a (peer b c) = peer b (peer a c) := by decide
theorem bit_lt : ∀ (a : Fin 3) (c : Dev nD), bit a c < 2 := by decide
theorem bit_peer : ∀ (a : Fin 3) (c : Dev nD), bit a (peer a c) = 1 - bit a c := by decide
theorem bit_peer_ne : ∀ (a b : Fin 3) (c : Dev nD), a ≠ b → bit a (peer b c) = bit a c := by decide

/-- Crossing an axis, as a permutation of the devices. -/
def cross (a : Fin 3) : Dev nD ≃ Dev nD := ⟨peer a, peer a, peer_peer a, peer_peer a⟩

/-- The axis colour `g` crosses in its step `k`. -/
abbrev ax (g k : Fin 3) : Fin 3 := g + k

def kp0 (g : Fin 3) (c : Dev nD) : ℕ := 512 * bit (ax g 0) c
def gv0 (g : Fin 3) (c : Dev nD) : ℕ := 512 - 512 * bit (ax g 0) c
def kp1 (g : Fin 3) (c : Dev nD) : ℕ := 512 * bit (ax g 0) c + 256 * bit (ax g 1) c
def gv1 (g : Fin 3) (c : Dev nD) : ℕ := 512 * bit (ax g 0) c + 256 - 256 * bit (ax g 1) c

theorem gv0_peer : ∀ (g : Fin 3) (c : Dev nD), gv0 g (peer (ax g 0) c) = kp0 g c := by decide
theorem kp0_peer : ∀ (g : Fin 3) (c : Dev nD), kp0 g (peer (ax g 0) c) = gv0 g c := by decide
theorem gv1_peer : ∀ (g : Fin 3) (c : Dev nD), gv1 g (peer (ax g 1) c) = kp1 g c := by decide
theorem kp1_peer : ∀ (g : Fin 3) (c : Dev nD), kp1 g (peer (ax g 1) c) = gv1 g c := by decide
theorem kp1_peer2 : ∀ (g : Fin 3) (c : Dev nD), kp1 g (peer (ax g 2) c) = kp1 g c := by decide
theorem kp0_peer1 : ∀ (g : Fin 3) (c : Dev nD), kp0 g (peer (ax g 1) c) = kp0 g c := by decide

/-! ## Blocks of rows of a slot -/

/-- Three slots of `R` rows of 256. -/
abbrev B3 (R : ℕ) : Shape := ⟨3, ![3, R, 256]⟩
abbrev B1 (n : ℕ) : Shape := ⟨3, ![1, n, 256]⟩
abbrev B2 (n : ℕ) : Shape := ⟨2, ![n, 256]⟩

/-- Rows `lo` to `lo + n` of slot `g`. -/
def rows (R : ℕ) (g lo n : ℕ) : Finset (B3 R).Idx :=
  Finset.univ.filter fun x => (x 0).val = g ∧ lo ≤ (x 1).val ∧ (x 1).val < lo + n

theorem mem_rows {R g lo n : ℕ} {x : (B3 R).Idx} : x ∈ rows R g lo n ↔ (x 0).val = g ∧ lo ≤ (x 1).val ∧ (x 1).val < lo + n := by
  simp only [rows, Finset.mem_filter, Finset.mem_univ, true_and]

theorem unit_set {R n : ℕ} {g lo : ℕ} {off : Fin 3 → ℕ} (hoff : off = ![g, lo, 0])
    (inb : ∀ a, off a + (B1 n).size a ≤ (B3 R).size a) : (Rect.unit (s := B3 R) off (B1 n).size inb).set = rows R g lo n := by
  subst hoff
  ext x
  rw [Rect.mem_set_unit, mem_rows, Fin.forall_fin_succ, Fin.forall_fin_succ, Fin.forall_fin_succ]
  have h2 : (x 2).val < 256 := (x 2).isLt
  simp only [Matrix.cons_val, Fin.forall_fin_zero, and_true, Fin.succ_zero_eq_one, Fin.succ_one_eq_two]
  have e2 : (Fin.succ (1 : Fin 2) : Fin 3) = 2 := rfl
  simp only [e2] at *
  constructor
  · rintro ⟨h0, h1, -⟩
    exact ⟨by have := h0.1; have := h0.2; simp at *; omega, h1⟩
  · rintro ⟨h0, h1⟩
    exact ⟨⟨h0.ge, by simp; omega⟩, h1, ⟨Nat.zero_le _, by simpa using h2⟩⟩

/-- Where the element `j` of a block with the slot axis kept lies. -/
theorem unit_emb {R n : ℕ} {g lo : ℕ} {off : Fin 3 → ℕ} (hoff : off = ![g, lo, 0])
    (inb : ∀ a, off a + (B1 n).size a ≤ (B3 R).size a) (j : (B1 n).Idx) :
    let x := (Rect.unit (s := B3 R) off (B1 n).size inb).emb j
    (x 0).val = g ∧ (x 1).val = lo + (j 1).val ∧ x 2 = j 2 := by
  subst hoff
  have h0 : (j 0).val = 0 := by have : (j 0).val < 1 := (j 0).isLt; omega
  refine ⟨?_, ?_, Fin.ext ?_⟩
  · show g + 1 * (j 0).val = g; omega
  · show lo + 1 * (j 1).val = _; omega
  · show 0 + 1 * (j 2).val = _; omega

/-- Where the element `j` of a block without the slot axis lies. -/
theorem sq_emb {R n : ℕ} {g lo : ℕ} {off : Fin 3 → ℕ} (hoff : off = ![g, lo, 0])
    (inb : ∀ a, off a + (B1 n).size a ≤ (B3 R).size a) (h : (B2 n).numel = (B1 n).numel) (j : (B2 n).Idx) :
    let x := (Rect.unit (s := B3 R) off (B1 n).size inb).emb (Shape.reshapeEquiv h j)
    (x 0).val = g ∧ (x 1).val = lo + (j 0).val ∧ x 2 = j 1 := by
  have e : Shape.reshapeEquiv h j = ix3 (n0 := 1) (n1 := n) (n2 := 256) (⟨0, Nat.one_pos⟩ : Fin 1) (j 0) (j 1) :=
    Shape.reshapeEquiv_eq_of_rowMajor h (by
      rw [Shape.rowMajor_val_three, Shape.rowMajor_val_two]
      show ((0 * n + (j 0).val) * 256 + (j 1).val) = (j 0).val * 256 + (j 1).val
      simp only [Nat.zero_mul, Nat.zero_add])
  rw [e]
  exact unit_emb hoff inb _

/-- An index of a slotted buffer by its coordinates. -/
theorem idx_ext {R : ℕ} {x y : (B3 R).Idx} (h0 : (x 0).val = (y 0).val) (h1 : (x 1).val = (y 1).val) (h2 : x 2 = y 2) : x = y := by
  funext a
  match a with
  | ⟨0, _⟩ => exact Fin.ext h0
  | ⟨1, _⟩ => exact Fin.ext h1
  | ⟨2, _⟩ => exact h2

/-- Contents that depend on the row and the column alone, counted from row `o`. -/
def bufOf {E : Type} {R : ℕ} (o : ℕ) (A : ℕ → Fin 256 → E) : (B3 R).Idx → E := fun x => A (o + (x 1).val) (x 2)

variable {Val : EltTy → Type} {R n : ℕ} {κ : Kind} {sp : Space} {e : EltTy}

section Views
variable (M : Memref sig κ sp (B3 R) e) {g lo : ℕ} {off : Fin 3 → ℕ} (hoff : off = ![g, lo, 0])
  (inb : ∀ a, off a + (B1 n).size a ≤ (B3 R).size a) (hst : ∀ a, (Rect.unit (s := B3 R) off (B1 n).size inb).stride a = 1)
  (hsq : (B1 n).Squeezes (B2 n))

include hoff in
theorem slice_set : (M.access (Rect.unit (s := B3 R) off (B1 n).size inb)).set = (rows R g lo n).map M.view.emb := by
  rw [View.set_slice, unit_set hoff]

include hoff in
theorem squeeze_set : ((M.slice (Rect.unit (s := B3 R) off (B1 n).size inb) hst).squeeze (B2 n) hsq).view.set = (rows R g lo n).map M.view.emb :=
  (View.set_reshape _ _).trans (slice_set M hoff inb)

include hoff in
/-- A read through a block of known contents. -/
theorem squeeze_read (f : M.view.ty.Contents Val) {o : ℕ} {A : ℕ → Fin 256 → Val e} (hf : ∀ x ∈ rows R g lo n, M.view.read Val f x = bufOf o A x) (j : (B2 n).Idx) :
    ((M.slice (Rect.unit (s := B3 R) off (B1 n).size inb) hst).squeeze (B2 n) hsq).view.read Val f j = A (o + (lo + (j 0).val)) (j 1) := by
  obtain ⟨h0, h1, h2⟩ := sq_emb hoff inb hsq.numel_eq j
  have hj : (j 0).val < n := (j 0).isLt
  refine (hf ((Rect.unit (s := B3 R) off (B1 n).size inb).emb (Shape.reshapeEquiv hsq.numel_eq j)) (mem_rows.2 ⟨h0, by omega, by omega⟩)).trans ?_
  unfold bufOf; rw [h1, h2]

include hoff in
/-- A load of a block of known contents. -/
theorem load_read (f : M.view.ty.Contents Val) {o : ℕ} {A : ℕ → Fin 256 → Val e} (hf : ∀ x ∈ rows R g lo n, M.view.read Val f x = bufOf o A x) (j : (B1 n).Idx) :
    M.view.readAt Val (Rect.unit (s := B3 R) off (B1 n).size inb).toLoadRect f j = A (o + (lo + (j 1).val)) (j 2) := by
  obtain ⟨h0, h1, h2⟩ := unit_emb hoff inb j
  have hj : (j 1).val < n := (j 1).isLt
  refine (hf ((Rect.unit (s := B3 R) off (B1 n).size inb).emb j) (mem_rows.2 ⟨h0, by omega, by omega⟩)).trans ?_
  unfold bufOf; rw [h1, h2]

include hoff in
/-- What a block of the buffer holds once a block has been written to it whole. -/
theorem squeeze_write (f : M.view.ty.Contents Val) (w : (B2 n).Idx → Val e) {o : ℕ} {A : ℕ → Fin 256 → Val e}
    (hw : ∀ j, w j = A (o + (lo + (j 0).val)) (j 1)) : ∀ x ∈ rows R g lo n,
    M.view.read Val (((M.slice (Rect.unit (s := B3 R) off (B1 n).size inb) hst).squeeze (B2 n) hsq).view.write Val f w Finset.univ) x = bufOf o A x := by
  intro x hx
  obtain ⟨hx0, hx1, hx2⟩ := mem_rows.1 hx
  let j : (B2 n).Idx := ix2 (⟨(x 1).val - lo, by omega⟩ : Fin n) (x 2)
  obtain ⟨h0, h1, h2⟩ := sq_emb hoff inb hsq.numel_eq j
  have ex : x = (Rect.unit (s := B3 R) off (B1 n).size inb).emb (Shape.reshapeEquiv hsq.numel_eq j) :=
    idx_ext (hx0.trans h0.symm) (by rw [h1]; show _ = lo + ((x 1).val - lo); omega) (by rw [h2]; rfl)
  have key := congrFun (View.read_write_univ (Val := Val) (v := ((M.slice (Rect.unit (s := B3 R) off (B1 n).size inb) hst).squeeze (B2 n) hsq).view) f w) j
  rw [hw j] at key
  have hbuf : bufOf o A x = A (o + (lo + (j 0).val)) (j 1) := by
    unfold bufOf
    have : (j 0).val = (x 1).val - lo := rfl
    rw [this, show lo + ((x 1).val - lo) = (x 1).val by omega]; rfl
  rw [hbuf, ← key, ex]
  rfl

include hoff in
theorem store_write (f : M.view.ty.Contents Val) (w : (B1 n).Idx → Val e) {o : ℕ} {A : ℕ → Fin 256 → Val e}
    (hw : ∀ j, w j = A (o + (lo + (j 1).val)) (j 2)) : ∀ x ∈ rows R g lo n,
    M.view.read Val ((M.access (Rect.unit (s := B3 R) off (B1 n).size inb)).write Val f w Finset.univ) x = bufOf o A x := by
  intro x hx
  obtain ⟨hx0, hx1, hx2⟩ := mem_rows.1 hx
  let j : (B1 n).Idx := ix3 (⟨0, Nat.one_pos⟩ : Fin 1) (⟨(x 1).val - lo, by omega⟩ : Fin n) (x 2)
  obtain ⟨h0, h1, h2⟩ := unit_emb hoff inb j
  have ex : x = (Rect.unit (s := B3 R) off (B1 n).size inb).emb j :=
    idx_ext (hx0.trans h0.symm) (by rw [h1]; show _ = lo + ((x 1).val - lo); omega) (by rw [h2]; rfl)
  have key := congrFun (View.read_write_univ (Val := Val) (v := M.access (Rect.unit (s := B3 R) off (B1 n).size inb)) f w) j
  rw [hw j] at key
  have hbuf : bufOf o A x = A (o + (lo + (j 1).val)) (j 2) := by
    unfold bufOf
    have : (j 1).val = (x 1).val - lo := rfl
    rw [this, show lo + ((x 1).val - lo) = (x 1).val by omega]; rfl
  rw [hbuf, ← key, ex]
  rfl

end Views

end Cert.CubeProof
-- ==== Proof.Compute.lean ====
/-
# What the devices hold at each step

The attention of one batch on one device, as a function of what the device reads of its operands: `headCtx` is one head's
context, `blkOut` the eight heads side by side times the device's rows of the output weights. `A0` are the partial sums a
device starts the reduction with, `A1`, `A2`, `A3` what they become after each of the three exchanges along the axes of a
colour, `A4` and `fin` what a device holds after each of the two steps that hand the finished rows back.
-/
module

public import proofs.«01_k».proof.Proof.Topo

@[expose] public section

noncomputable section

namespace Cert.CubeProof

open Cert.KernelIdeal Cert.KernelIdeal.Gen
open Idealize.ShloMosaic
open Idealize.ShloMosaic.TcCoe

variable {F : FTy → Type} [FloatOps F] [Named F]

/-! ## One batch on one device -/

/-- One head: the columns of queries, keys and values at `off`, the masked scores' exponentials normalised after the
    product with the values. -/
def headCtx (off : Fin 2 → ℕ) (hs : S512x512.Slices off S512x64) (b : FVec F S512x512 .f32) (q k v : FVec F S512x512 .bf16) : FVec F S512x64 .bf16 :=
  let e : FVec F S512x512 .f32 := exp (addf (matmul dot_S512x64_S512x64_S512x512_1_1_0_0_n_n none (extractStridedSlice S512x64 off q hs)
    (extractStridedSlice S512x64 off k hs) (constant S512x512 .f32 0x00000000#32)) b)
  let s : FVec F S512 .f32 := multiReduction .add [1] S512 e 0x00000000#32 reduces_S512x512_S512 (.inl rfl) rfl
  let r : FVec F S512x1 .f32 := divf (broadcast S512x1 (Scalar.ofBits .f32 0x3F800000#32 : F .f32)) (shapeCast S512x1 s shapeCasts_S512_S512x1)
  truncf .bf16 (mulf (matmul dot_S512x512_S512x64_S512x64_1_0_0_1_n_n none (truncf .bf16 e bitsLt_bf16_f32) (extractStridedSlice S512x64 off v hs)
    (constant S512x64 .f32 0x00000000#32)) (broadcastTo S512x64 r broadcasts_S512x1_S512x64)) bitsLt_bf16_f32

/-- The eight heads side by side. -/
def ctxAll (b : FVec F S512x512 .f32) (q k v : FVec F S512x512 .bf16) : FVec F S512x512 .bf16 :=
  concatenate S512x512 1 [⟨S512x64, headCtx ![0, 0] slices_S512x512_o0_0_S512x64 b q k v⟩, ⟨S512x64, headCtx ![0, 64] slices_S512x512_o0_64_S512x64 b q k v⟩,
    ⟨S512x64, headCtx ![0, 128] slices_S512x512_o0_128_S512x64 b q k v⟩, ⟨S512x64, headCtx ![0, 192] slices_S512x512_o0_192_S512x64 b q k v⟩,
    ⟨S512x64, headCtx ![0, 256] slices_S512x512_o0_256_S512x64 b q k v⟩, ⟨S512x64, headCtx ![0, 320] slices_S512x512_o0_320_S512x64 b q k v⟩,
    ⟨S512x64, headCtx ![0, 384] slices_S512x512_o0_384_S512x64 b q k v⟩, ⟨S512x64, headCtx ![0, 448] slices_S512x512_o0_448_S512x64 b q k v⟩]
    concatenates_S512x64_S512x64_S512x64_S512x64_S512x64_S512x64_S512x64_S512x64_S512x512_d1

/-- A batch's rows of the device's partial product. -/
def blkOut (wq : Vec F S768x512 .bf16) (wo : Vec F S512x768 .bf16) (x : Vec F S1x512x768 .bf16) (k v : Vec F S1x512x8x64 .bf16) : FVec F S512x768 .f32 :=
  matmul dot_S512x512_S512x768_S512x768_1_0_0_1_n_n none (ctxAll k0_pay4 (k0_pay5 (k0_pay2 wq) x) (k0_pay6 k) (k0_pay7 v)) (k0_pay3 wo)
    (constant S512x768 .f32 0x00000000#32)

section Chains
variable (wq : Vec F S768x512 .bf16) (wo : Vec F S512x768 .bf16) (x : Vec F S1x512x768 .bf16) (k v : Vec F S1x512x8x64 .bf16)

/-- The first batch a device computes, in the order its values are made. -/
theorem chain_first : k0_pay20 (k0_pay3 wo) (k0_pay7 v) (k0_pay8 (k0_pay2 wq) k0_pay4 x k v)
    (k0_pay11 k0_pay4 (k0_pay7 v) (k0_pay9 (k0_pay2 wq) x) (k0_pay10 k))
    (k0_pay12 k0_pay4 (k0_pay5 (k0_pay2 wq) x) (k0_pay6 k) (k0_pay7 v))
    (k0_pay13 k0_pay4 (k0_pay5 (k0_pay2 wq) x) (k0_pay6 k) (k0_pay7 v))
    (k0_pay15 (k0_pay7 v) (k0_pay14 k0_pay4 (k0_pay5 (k0_pay2 wq) x) (k0_pay6 k)))
    (k0_pay16 k0_pay4 (k0_pay5 (k0_pay2 wq) x) (k0_pay6 k) (k0_pay7 v))
    (k0_pay17 k0_pay4 (k0_pay5 (k0_pay2 wq) x) (k0_pay6 k) (k0_pay7 v))
    (k0_pay18 k0_pay4 (k0_pay5 (k0_pay2 wq) x) (k0_pay6 k))
    (k0_pay19 k0_pay4 (k0_pay5 (k0_pay2 wq) x) (k0_pay6 k)) = blkOut wq wo x k v := rfl

/-- The second batch. -/
theorem chain_second : k0_pay41 (k0_pay3 wo) (k0_pay27 (k0_pay2 wq) k0_pay4 x k v)
    (k0_pay30 (k0_pay26 v) (k0_pay28 (k0_pay2 wq) k0_pay4 x k) (k0_pay29 (k0_pay2 wq) k0_pay4 x k))
    (k0_pay31 k0_pay4 (k0_pay24 (k0_pay2 wq) x) (k0_pay25 k) (k0_pay26 v))
    (k0_pay32 k0_pay4 (k0_pay24 (k0_pay2 wq) x) (k0_pay25 k) (k0_pay26 v))
    (k0_pay37 (k0_pay34 k0_pay4 (k0_pay24 (k0_pay2 wq) x) (k0_pay25 k)) (k0_pay35 (k0_pay26 v)) (k0_pay36 k0_pay4 (k0_pay24 (k0_pay2 wq) x) (k0_pay25 k))
      (constant S512x64 .f32 0x00000000#32))
    (k0_pay38 k0_pay4 (k0_pay24 (k0_pay2 wq) x) (k0_pay25 k) (k0_pay26 v))
    (k0_pay39 k0_pay4 (k0_pay24 (k0_pay2 wq) x) (k0_pay25 k) (k0_pay26 v))
    (k0_pay40 k0_pay4 (k0_pay24 (k0_pay2 wq) x) (k0_pay25 k) (k0_pay26 v)) = blkOut wq wo x k v := rfl

end Chains

/-! ## The operands -/

/-- What every device holds of the five operands. -/
structure Ins (F : FTy → Type) where
  X : Dev nD → Vec F S2x512x768 .bf16
  Wq : Dev nD → Vec F S768x4096 .bf16
  K : Dev nD → Vec F S2x512x8x64 .bf16
  V : Dev nD → Vec F S2x512x8x64 .bf16
  Wo : Dev nD → Vec F S4096x768 .bf16

variable (I : Ins F)

theorem col_lt (c : Dev nD) (j : Fin 512) : 512 * c.val + j.val < 4096 := by
  have := c.isLt; have : nD = 8 := rfl; have := j.isLt; omega

/-- A device's columns of the query weights. -/
def wqS (c : Dev nD) : Vec F S768x512 .bf16 := fun j => I.Wq c (ix2 (n0 := 768) (n1 := 4096) (j 0) ⟨512 * c.val + (j 1).val, col_lt c (j 1)⟩)
/-- A device's rows of the output weights. -/
def woS (c : Dev nD) : Vec F S512x768 .bf16 := fun j => I.Wo c (ix2 (n0 := 4096) (n1 := 768) ⟨512 * c.val + (j 0).val, col_lt c (j 0)⟩ (j 1))
/-- A batch of the activations, of the keys and of the values. -/
def xB (c : Dev nD) (b : ℕ) : Vec F S1x512x768 .bf16 := fun j => I.X c (ix3 (n0 := 2) (n1 := 512) (n2 := 768) ⟨b % 2, Nat.mod_lt _ (by decide)⟩ (j 1) (j 2))
def kB (c : Dev nD) (b : ℕ) : Vec F S1x512x8x64 .bf16 := fun j =>
  I.K c (ix4 (n0 := 2) (n1 := 512) (n2 := 8) (n3 := 64) ⟨b % 2, Nat.mod_lt _ (by decide)⟩ (j 1) (j 2) (j 3))
def vB (c : Dev nD) (b : ℕ) : Vec F S1x512x8x64 .bf16 := fun j =>
  I.V c (ix4 (n0 := 2) (n1 := 512) (n2 := 8) (n3 := 64) ⟨b % 2, Nat.mod_lt _ (by decide)⟩ (j 1) (j 2) (j 3))

/-- Batch `b` of a device's partial product. -/
def outB (c : Dev nD) (b : ℕ) : FVec F S512x768 .f32 := blkOut (wqS I c) (woS I c) (xB I c b) (kB I c b) (vB I c b)

/-! ## The accumulator through the reduction -/

theorem gcol_lt (g : Fin 3) (j : Fin 256) : 256 * g.val + j.val < 768 := by have := g.isLt; have := j.isLt; omega

/-- The two batches' rows, one after the other, of colour `g`'s 256 columns. -/
def A0 (c : Dev nD) (g : Fin 3) (r : ℕ) (j : Fin 256) : F .bf16 :=
  FloatOps.truncf .bf16 bitsLt_bf16_f32 (outB I c (r / 512) (ix2 (n0 := 512) (n1 := 768) ⟨r % 512, Nat.mod_lt _ (by decide)⟩ ⟨256 * g.val + j.val, gcol_lt g j⟩))
def A1 (c : Dev nD) (g : Fin 3) (r : ℕ) (j : Fin 256) : F .bf16 := FloatOps.addf (A0 I c g r j) (A0 I (peer (ax g 0) c) g r j)
def A2 (c : Dev nD) (g : Fin 3) (r : ℕ) (j : Fin 256) : F .bf16 := FloatOps.addf (A1 I c g r j) (A1 I (peer (ax g 1) c) g r j)
def A3 (c : Dev nD) (g : Fin 3) (r : ℕ) (j : Fin 256) : F .bf16 := FloatOps.addf (A2 I c g r j) (A2 I (peer (ax g 2) c) g r j)
/-- The kept half, once its other quarter has come back. -/
def A4 (c : Dev nD) (g : Fin 3) (r : ℕ) (j : Fin 256) : F .bf16 :=
  if kp1 g c ≤ r ∧ r < kp1 g c + 256 then A3 I c g r j else A3 I (peer (ax g 1) c) g r j
/-- The whole, once the other half has come back. -/
def fin (c : Dev nD) (g : Fin 3) (r : ℕ) (j : Fin 256) : F .bf16 :=
  if kp0 g c ≤ r ∧ r < kp0 g c + 512 then A4 I c g r j else A4 I (peer (ax g 0) c) g r j

/-- What a device leaves in its result. -/
def outC (c : Dev nD) : Vec F S2x512x768 .f32 := fun x =>
  FloatOps.extf .f32 bitsLt_bf16_f32 (fin I c ⟨(x 2).val / 256, by have : (x 2).val < 768 := (x 2).isLt; omega⟩ (512 * (x 0).val + (x 1).val)
    ⟨(x 2).val % 256, Nat.mod_lt _ (by decide)⟩)

/-! ## The stored values are these -/

theorem cast3_val {n : ℕ} (h : (B1 n).ShapeCasts (B2 n)) (f : (B1 n).Idx → F .bf16) (j : (B2 n).Idx) :
    shapeCast (B2 n) f h j = f (ix3 (n0 := 1) (n1 := n) (n2 := 256) (⟨0, Nat.one_pos⟩ : Fin 1) (j 0) (j 1)) := by
  have e : Shape.reshapeEquiv h j = ix3 (n0 := 1) (n1 := n) (n2 := 256) (⟨0, Nat.one_pos⟩ : Fin 1) (j 0) (j 1) :=
    Shape.reshapeEquiv_eq_of_rowMajor h (by
      rw [Shape.rowMajor_val_three, Shape.rowMajor_val_two]
      show ((0 * n + (j 0).val) * 256 + (j 1).val) = (j 0).val * 256 + (j 1).val
      simp only [Nat.zero_mul, Nat.zero_add])
  show f (Shape.reshapeEquiv h j) = _
  rw [e]

theorem cast2_val {n : ℕ} (h : (B2 n).ShapeCasts (B1 n)) (f : (B2 n).Idx → F .bf16) (j : (B1 n).Idx) :
    shapeCast (B1 n) f h j = f (ix2 (n0 := n) (n1 := 256) (j 1) (j 2)) := by
  have e : Shape.reshapeEquiv h j = ix2 (n0 := n) (n1 := 256) (j 1) (j 2) :=
    Shape.reshapeEquiv_eq_of_rowMajor h (by
      rw [Shape.rowMajor_val_three, Shape.rowMajor_val_two]
      have h0 : (j 0).val = 0 := by have : (j 0).val < 1 := (j 0).isLt; omega
      show (j 1).val * 256 + (j 2).val = (((j 0).val * n + (j 1).val) * 256 + (j 2).val)
      rw [h0]; simp only [Nat.zero_mul, Nat.zero_add])
  show f (Shape.reshapeEquiv h j) = _
  rw [e]

/-- A sum of two blocks read out of their slots and put back into one. -/
theorem addf_block {n : ℕ} (h : (B1 n).ShapeCasts (B2 n)) (h' : (B2 n).ShapeCasts (B1 n)) (f f' : (B1 n).Idx → F .bf16) (j : (B1 n).Idx) :
    shapeCast (B1 n) (addf (φ := .bf16) (shapeCast (B2 n) f h) (shapeCast (B2 n) f' h)) h' j = FloatOps.addf (f j) (f' j) := by
  have ej : ix3 (n0 := 1) (n1 := n) (n2 := 256) (⟨0, Nat.one_pos⟩ : Fin 1) (j 1) (j 2) = j := by
    have h0 : (j 0).val = 0 := by have : (j 0).val < 1 := (j 0).isLt; omega
    funext a
    match a with
    | ⟨0, _⟩ => exact Fin.ext h0.symm
    | ⟨1, _⟩ => rfl
    | ⟨2, _⟩ => rfl
  rw [cast2_val]
  show FloatOps.addf (shapeCast (B2 n) f h _) (shapeCast (B2 n) f' h _) = _
  rw [cast3_val, cast3_val]
  show FloatOps.addf (f (ix3 (n0 := 1) (n1 := n) (n2 := 256) (⟨0, Nat.one_pos⟩ : Fin 1) (j 1) (j 2))) (f' (ix3 (n0 := 1) (n1 := n) (n2 := 256) (⟨0, Nat.one_pos⟩ : Fin 1) (j 1) (j 2))) = _
  rw [ej]

/-- A colour's columns of a batch's rows, rounded and put into the slot, are the starting sums. -/
theorem slice_A0 (c : Dev nD) (g : Fin 3) {off : Fin 2 → ℕ} (hoff : off = ![0, 256 * g.val]) (hs : S512x768.Slices off S512x256) {b : ℕ} (j : (B1 512).Idx) :
    shapeCast (B1 512) (truncf .bf16 (extractStridedSlice S512x256 off (outB I c b) hs) bitsLt_bf16_f32) shapeCasts_S512x256_S1x512x256 j
      = A0 I c g (0 + (512 * b + (j 1).val)) (j 2) := by
  subst hoff
  have hj : (j 1).val < 512 := (j 1).isLt
  rw [cast2_val]
  unfold A0
  rw [show (0 + (512 * b + (j 1).val)) / 512 = b by omega]
  refine congrArg (FloatOps.truncf .bf16 bitsLt_bf16_f32) (congrArg (outB I c b) ?_)
  funext a
  match a with
  | ⟨0, _⟩ => exact Fin.ext (by show 0 + (j 1).val = (0 + (512 * b + (j 1).val)) % 512; omega)
  | ⟨1, _⟩ => rfl

/-- The last cast of a colour's rows, seen as two batches. -/
theorem out_val (w : Vec F S1x1024x256 .bf16) (j : S2x512x256.Idx) :
    shapeCast S2x512x256 (extf .f32 (shapeCast S1024x256 w shapeCasts_S1x1024x256_S1024x256) bitsLt_bf16_f32 : FVec F S1024x256 .f32) shapeCasts_S1024x256_S2x512x256 j
      = FloatOps.extf .f32 bitsLt_bf16_f32 (w (ix3 (n0 := 1) (n1 := 1024) (n2 := 256) (⟨0, Nat.one_pos⟩ : Fin 1)
          ⟨512 * (j 0).val + (j 1).val, by have : (j 0).val < 2 := (j 0).isLt; have : (j 1).val < 512 := (j 1).isLt; omega⟩ (j 2))) := by
  have e : Shape.reshapeEquiv shapeCasts_S1024x256_S2x512x256 j = ix2 (n0 := 1024) (n1 := 256)
      ⟨512 * (j 0).val + (j 1).val, by have : (j 0).val < 2 := (j 0).isLt; have : (j 1).val < 512 := (j 1).isLt; omega⟩ (j 2) :=
    Shape.reshapeEquiv_eq_of_rowMajor shapeCasts_S1024x256_S2x512x256 (by
      rw [Shape.rowMajor_val_three, Shape.rowMajor_val_two]
      show (512 * (j 0).val + (j 1).val) * 256 + (j 2).val = ((j 0).val * 512 + (j 1).val) * 256 + (j 2).val
      ring)
  show FloatOps.extf .f32 bitsLt_bf16_f32 (shapeCast (B2 1024) w shapeCasts_S1x1024x256_S1024x256 (Shape.reshapeEquiv shapeCasts_S1024x256_S2x512x256 j)) = _
  rw [e, cast3_val]
  rfl

end Cert.CubeProof
-- ==== Proof.Regions.lean ====
/-
# Blocks of rows as resources

`regA M c g lo n o A`: device `c` owns rows `lo` to `lo + n` of slot `g` of the buffer `M`, and row `r` there holds row
`o + r` of the table `A`. `regX` owns them at some contents. They split and join along the rows; a load through a block
reads the table, a store and a transfer replace it.
-/
module

public import proofs.«01_k».proof.Proof.Compute

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU := UR sig nD τ × URounds (GSem nD τ sig) (Fin 3)

local notation "𝕄" => MT nD τ sig Unit (Elt F) ℕ UU ℕ

abbrev 𝒱₀ : Variants := Variants.none

/-- A program on device `c` run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A memref of three slots of rows. -/
abbrev M3 (R : ℕ) := Memref sig .tc .vmem (B3 R) .bf16

section Regions
variable {R : ℕ} (M : M3 R) (c : Dev nD) (g lo n : ℕ)

def regA (o : ℕ) (A : ℕ → Fin 256 → F .bf16) : sProp 𝕄 :=
  iprop(∃ f : Buf (Elt F) (M.view.loc (c : Thread nD τ)), ⌜∀ x ∈ rows R g lo n, M.view.read (Elt F) f x = bufOf o A x⌝
    ∗ (M.view.loc (c : Thread nD τ) ↦[(rows R g lo n).map M.view.emb]{fullShare} f))

def regX : sProp 𝕄 :=
  iprop(∃ f : Buf (Elt F) (M.view.loc (c : Thread nD τ)), (M.view.loc (c : Thread nD τ) ↦[(rows R g lo n).map M.view.emb]{fullShare} f))

instance regA_storable (o : ℕ) (A : ℕ → Fin 256 → F .bf16) : BI.Storable (upEmb : UEmb _ 𝕄) (regA M c g lo n o A) := by unfold regA; infer_instance
instance regX_storable : BI.Storable (upEmb : UEmb _ 𝕄) (regX (F := F) M c g lo n) := by unfold regX; infer_instance

variable {M c g lo n}

theorem regA_X {o : ℕ} {A : ℕ → Fin 256 → F .bf16} : regA M c g lo n o A ⊢ regX M c g lo n := by
  unfold regA regX
  iintro ⟨%f, -, H⟩
  iexists f; iexact H

theorem regA_congr {o : ℕ} {A B : ℕ → Fin 256 → F .bf16} (h : ∀ r j, lo ≤ r → r < lo + n → A (o + r) j = B (o + r) j) :
    regA M c g lo n o A ⊢ regA M c g lo n o B := by
  unfold regA
  iintro ⟨%f, %hf, H⟩
  iexists f
  isplitr
  · ipureintro
    intro x hx
    obtain ⟨-, h1, h2⟩ := mem_rows.1 hx
    exact (hf x hx).trans (h _ _ h1 h2)
  iexact H

theorem rows_split (R g lo n n' : ℕ) : rows R g lo (n + n') = rows R g lo n ∪ rows R g (lo + n) n' := by
  ext x; simp only [Finset.mem_union, mem_rows]; omega
theorem rows_disj (R g lo n n' : ℕ) : Disjoint (rows R g lo n) (rows R g (lo + n) n') :=
  Finset.disjoint_left.2 fun x h h' => by rw [mem_rows] at h h'; omega

theorem map_disj {A B : Type} {s t : Finset A} (e : A ↪ B) (h : Disjoint s t) : Disjoint (s.map e) (t.map e) := (Finset.disjoint_map e).2 h

theorem regX_split {n' : ℕ} : (regX M c g lo (n + n') : sProp 𝕄) ⊢ iprop(regX M c g lo n ∗ regX M c g (lo + n) n') := by
  unfold regX
  iintro ⟨%f, H⟩
  rw [rows_split, Finset.map_union]
  ihave H := (pointsTo_union (map_disj _ (rows_disj R g lo n n'))).1 $$ H
  icases H with ⟨H1, H2⟩
  isplitl [H1]
  · iexists f; iexact H1
  iexists f; iexact H2

theorem regA_split {o : ℕ} {A : ℕ → Fin 256 → F .bf16} {n' : ℕ} : regA M c g lo (n + n') o A ⊢ iprop(regA M c g lo n o A ∗ regA M c g (lo + n) n' o A) := by
  unfold regA
  iintro ⟨%f, %hf, H⟩
  rw [rows_split] at hf
  rw [rows_split, Finset.map_union]
  ihave H := (pointsTo_union (map_disj _ (rows_disj R g lo n n'))).1 $$ H
  icases H with ⟨H1, H2⟩
  isplitl [H1]
  · iexists f
    isplitr
    · ipureintro; exact fun x hx => hf x (Finset.mem_union_left _ hx)
    iexact H1
  iexists f
  isplitr
  · ipureintro; exact fun x hx => hf x (Finset.mem_union_right _ hx)
  iexact H2

theorem regA_join {o : ℕ} {A : ℕ → Fin 256 → F .bf16} {n' : ℕ} : iprop(regA M c g lo n o A ∗ regA M c g (lo + n) n' o A) ⊢ regA M c g lo (n + n') o A := by
  unfold regA
  iintro ⟨⟨%f, %hf, H1⟩, ⟨%f', %hf', H2⟩⟩
  ihave H := (pointsTo_join (f := f) (g := f') (map_disj _ (rows_disj R g lo n n'))) $$ [H1 H2]
  · isplitl [H1]
    · iexact H1
    iexact H2
  rw [rows_split, Finset.map_union]
  iexists ((rows R g (lo + n) n').map M.view.emb).piecewise f' f
  isplitr
  · ipureintro
    intro x hx
    by_cases h : x ∈ rows R g (lo + n) n'
    · rw [← hf' x h, View.read_apply, View.read_apply, Finset.piecewise_eq_of_mem _ _ _ (Finset.mem_map_of_mem _ h)]
    · have h1 : x ∈ rows R g lo n := (Finset.mem_union.1 hx).resolve_right h
      rw [← hf x h1, View.read_apply, View.read_apply, Finset.piecewise_eq_of_notMem _ _ _ fun h2 => h ((Finset.mem_map' _).1 h2)]
  iexact H

theorem regX_join {n' : ℕ} : iprop(regX M c g lo n ∗ regX M c g (lo + n) n') ⊢ (regX M c g lo (n + n') : sProp 𝕄) := by
  unfold regX
  iintro ⟨⟨%f, H1⟩, ⟨%f', H2⟩⟩
  ihave H := (pointsTo_join (f := f) (g := f') (map_disj _ (rows_disj R g lo n n'))) $$ [H1 H2]
  · isplitl [H1]
    · iexact H1
    iexact H2
  rw [rows_split, Finset.map_union]
  iexists _
  iexact H

/-! ### Loads and stores -/

section Steps
variable {off : Fin 3 → ℕ} {α : Type} {Q : α → sProp (MT nD τ sig Unit (Elt F) ℕ UU ℕ)}

/-- A load of a block of rows of known contents. -/
theorem wp_load_reg {lo' n' : ℕ} (hoff : off = ![g, lo', 0]) (inb : ∀ a, off a + (B1 n').size a ≤ (B3 R).size a)
    (hl : lo ≤ lo' := by omega) (hn : lo' + n' ≤ lo + n := by omega)
    {hld : M.view.LoadsAt (Rect.unit (s := B3 R) off (B1 n').size inb).toLoadRect} {o : ℕ} {A : ℕ → Fin 256 → F .bf16}
    {k : ((B1 n').Idx → Elt F .bf16) → Prog (TpuEff nD τ sig (Elt F) Λ₀ .tc) α} :
    regA M c g lo n o A ⊢ iprop((regA M c g lo n o A -∗ WP c (k fun j => A (o + (lo' + (j 1).val)) (j 2)) Q)
      -∗ WP c (.op (.load M (Rect.unit (s := B3 R) off (B1 n').size inb).toLoadRect hld) k) Q) := by
  unfold regA
  iintro ⟨%f, %hf, H⟩ Hk
  have hsub : rows R g lo' n' ⊆ rows R g lo n := fun x hx => by rw [mem_rows] at hx ⊢; omega
  have hset : M.view.setOn (Rect.unit (s := B3 R) off (B1 n').size inb).toLoadRect.set ⊆ (rows R g lo n).map M.view.emb := by
    show Finset.map M.view.emb (Rect.unit (s := B3 R) off (B1 n').size inb).set ⊆ _
    rw [unit_set hoff]; exact Finset.map_subset_map.2 hsub
  iapply (wp_load 𝒱₀ (c : Thread nD τ) none Set.univ (m := M) hset) $$ H
  iintro H
  rw [show M.view.readAt (Elt F) (Rect.unit (s := B3 R) off (B1 n').size inb).toLoadRect f = fun j => A (o + (lo' + (j 1).val)) (j 2) from
    funext fun j => load_read M hoff inb f (fun x hx => hf x (hsub hx)) j]
  iapply Hk
  iexists f
  isplitr
  · ipureintro; exact hf
  iexact H

/-- A load whose value nobody uses. -/
theorem wp_load_any (hoff : off = ![g, lo, 0]) (inb : ∀ a, off a + (B1 n).size a ≤ (B3 R).size a)
    {hld : M.view.LoadsAt (Rect.unit (s := B3 R) off (B1 n).size inb).toLoadRect}
    {p : Prog (TpuEff nD τ sig (Elt F) Λ₀ .tc) α} :
    (regX M c g lo n : sProp 𝕄) ⊢ iprop((regX M c g lo n -∗ WP c p Q)
      -∗ WP c (.op (.load M (Rect.unit (s := B3 R) off (B1 n).size inb).toLoadRect hld) fun _ => p) Q) := by
  unfold regX
  iintro ⟨%f, H⟩ Hk
  have hset : M.view.setOn (Rect.unit (s := B3 R) off (B1 n).size inb).toLoadRect.set ⊆ (rows R g lo n).map M.view.emb := by
    show Finset.map M.view.emb (Rect.unit (s := B3 R) off (B1 n).size inb).set ⊆ _
    rw [unit_set hoff]
  iapply (wp_load 𝒱₀ (c : Thread nD τ) none Set.univ (m := M) hset) $$ H
  iintro H
  iapply Hk
  iexists f
  iexact H

/-- A store of a block. -/
theorem wp_store_reg (hoff : off = ![g, lo, 0]) (inb : ∀ a, off a + (B1 n).size a ≤ (B3 R).size a) {w : (B1 n).Idx → Elt F .bf16}
    {hx : (M.access (Rect.unit (s := B3 R) off (B1 n).size inb)).Stores Finset.univ} {hm}
    {o : ℕ} {A : ℕ → Fin 256 → F .bf16} (hw : ∀ j, w j = A (o + (lo + (j 1).val)) (j 2))
    {k : PUnit → Prog (TpuEff nD τ sig (Elt F) Λ₀ .tc) α} :
    (regX M c g lo n : sProp 𝕄) ⊢ iprop((regA M c g lo n o A -∗ WP c (k ⟨⟩) Q)
      -∗ WP c (.op (.store M (Rect.unit (s := B3 R) off (B1 n).size inb) w Finset.univ hx hm) k) Q) := by
  unfold regX regA
  iintro ⟨%f, H⟩ Hk
  have hset : (M.access (Rect.unit (s := B3 R) off (B1 n).size inb)).setOn Finset.univ ⊆ (rows R g lo n).map M.view.emb := by
    show (M.access (Rect.unit (s := B3 R) off (B1 n).size inb)).set ⊆ _
    rw [slice_set M hoff inb]
  iapply (wp_store 𝒱₀ (c : Thread nD τ) none Set.univ (m := M) (r := Rect.unit (s := B3 R) off (B1 n).size inb) (Mk := Finset.univ) hset) $$ H
  iintro H
  iapply Hk
  iexists _
  isplitr
  · ipureintro; exact store_write M hoff inb f w hw
  iexact H

end Steps
end Regions

end Cert.CubeProof
-- ==== Proof.Sched.lean ====
/-
# Who signals whom, and what a signal hands over

Every device has a barrier cell, and for every colour `g` and step `s` a send cell and a receive cell. Each is signalled
in one round. The barrier cell of a device gets one unit from each of its three neighbours; the unit of the neighbour
across axis `a` hands over the neighbour's landing slots for the transfers that cross `a`. A transfer's arrival hands the
receiver the landed block, in the first two steps together with the rows it came from (they are written back into later);
in the other steps the sender gets its rows back when the transfer has left.
-/
module

public import proofs.«01_k».proof.Proof.Regions

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (I : Ins F)

/-! ## Buffers and cells -/

abbrev aM : M3 1024 := Memref.whole cc0_scratch0
abbrev r1M : M3 512 := Memref.whole cc0_scratch1
abbrev r2M : M3 256 := Memref.whole cc0_scratch2
abbrev r3M : M3 256 := Memref.whole cc0_scratch3

abbrev barS : Sem sig := (SemArray.scalar (sig.barrier 0 rfl) : Sems sig S_).sem
abbrev sendQ (g : Fin 3) (s : Fin 6) : DmaSem sig := ⟨6 + (6 * g.val + s.val), by have := g.isLt; have := s.isLt; show _ < 42; omega⟩
abbrev recvQ (g : Fin 3) (s : Fin 6) : DmaSem sig := ⟨24 + (6 * g.val + s.val), by have := g.isLt; have := s.isLt; show _ < 42; omega⟩

abbrev barCell (c : Dev nD) : GSem nD τ sig := ((c : Thread nD τ), .reg barS)
abbrev sendCell (c : Dev nD) (g : Fin 3) (s : Fin 6) : GSem nD τ sig := ((c : Thread nD τ), .dma (sendQ g s))
abbrev recvCell (c : Dev nD) (g : Fin 3) (s : Fin 6) : GSem nD τ sig := ((c : Thread nD τ), .dma (recvQ g s))

/-- The axis the transfer of step `s` crosses. -/
def tax (g : Fin 3) (s : Fin 6) : Fin 3 := ax g (match s with | 0 => 0 | 1 => 1 | 2 => 2 | 3 => 0 | 4 => 1 | 5 => 0)

/-- The credit of a block of 512 rows and of one of 256, whichever buffer they lie in. -/
abbrev NB : ℕ := (cc0_scratch1 : Ref sig .tc).dmaCredit S512x256 .bf16
abbrev NS : ℕ := (cc0_scratch2 : Ref sig .tc).dmaCredit S256x256 .bf16

theorem NB_acc : (cc0_scratch0 : Ref sig .tc).dmaCredit S512x256 .bf16 = NB := rfl
theorem NS_acc : (cc0_scratch0 : Ref sig .tc).dmaCredit S256x256 .bf16 = NS := rfl
theorem NS_r3 : (cc0_scratch3 : Ref sig .tc).dmaCredit S256x256 .bf16 = NS := rfl
theorem NB_pos : 0 < NB := sig.dmaCredit_pos _ _ _ _ _ (by decide)
theorem NS_pos : 0 < NS := sig.dmaCredit_pos _ _ _ _ _ (by decide)

/-- The credit of the transfer of step `s`. -/
def Nn (s : ℕ) : ℕ := if s = 0 ∨ s = 5 then NB else NS
theorem Nn_pos (s : ℕ) : 0 < Nn s := by unfold Nn; split <;> [exact NB_pos; exact NS_pos]

/-! ## What is handed over -/

/-- The landing slots of the neighbour across axis `a`, for the transfers of `c` that cross it. -/
def barPay (c : Dev nD) (a : Fin 3) : sProp 𝕄 :=
  iprop(regX r1M (peer a c) a.val 0 512 ∗ regX r2M (peer a c) (a + 2).val 0 256 ∗ regX r3M (peer a c) (a + 1).val 0 256)

def recvPay (c : Dev nD) (g : Fin 3) (s : ℕ) : sProp 𝕄 := match s with
  | 0 => iprop(regA r1M c g.val 0 512 (kp0 g c) (A0 I (peer (ax g 0) c) g) ∗ regX aM (peer (ax g 0) c) g.val (kp0 g c) 512)
  | 1 => iprop(regA r2M c g.val 0 256 (kp1 g c) (A1 I (peer (ax g 1) c) g) ∗ regX aM (peer (ax g 1) c) g.val (kp1 g c) 256)
  | 2 => regA r3M c g.val 0 256 (kp1 g c) (A2 I (peer (ax g 2) c) g)
  | 4 => regA aM c g.val (gv1 g c) 256 0 (A3 I (peer (ax g 1) c) g)
  | 5 => regA aM c g.val (gv0 g c) 512 0 (A4 I (peer (ax g 0) c) g)
  | _ => iprop(emp)

def sendPay (c : Dev nD) (g : Fin 3) (s : ℕ) : sProp 𝕄 := match s with
  | 2 => regA aM c g.val (kp1 g c) 256 0 (A2 I c g)
  | 4 => regA aM c g.val (kp1 g c) 256 0 (A3 I c g)
  | 5 => regA aM c g.val (kp0 g c) 512 0 (A4 I c g)
  | _ => iprop(emp)

instance barPay_storable (c : Dev nD) (a : Fin 3) : BI.Storable (upEmb : UEmb _ 𝕄) (barPay (F := F) c a) := by unfold barPay; infer_instance
instance recvPay_storable (c : Dev nD) (g : Fin 3) (s : ℕ) : BI.Storable (upEmb : UEmb _ 𝕄) (recvPay I c g s) := by
  unfold recvPay; split <;> infer_instance
instance sendPay_storable (c : Dev nD) (g : Fin 3) (s : ℕ) : BI.Storable (upEmb : UEmb _ 𝕄) (sendPay I c g s) := by
  unfold sendPay; split <;> infer_instance

/-! ## The schedule -/

/-- The colour of the transfer numbered `n`. -/
def colour (n : ℕ) : Fin 3 := ⟨n / 6 % 3, Nat.mod_lt _ (by decide)⟩

def dutiesAt (sm : SemLoc sig) : Finset (Fin 3) := match sm with
  | .reg s => if s = barS then Finset.univ else ∅
  | .dma q => if 6 ≤ q.val ∧ q.val % 6 ≠ 3 then {0} else ∅
def amountAt (sm : SemLoc sig) : ℕ := match sm with
  | .reg _ => 1
  | .dma q => Nn (q.val % 6)
def payloadAt (c : Dev nD) (sm : SemLoc sig) (d : Fin 3) : sProp 𝕄 := match sm with
  | .reg _ => barPay c d
  | .dma q => if 24 ≤ q.val then recvPay I c (colour (q.val - 24)) (q.val % 6) else sendPay I c (colour (q.val - 6)) (q.val % 6)

def cubeRd : Rounds.Schedule (GSem nD τ sig) (Fin 3) 𝕄 where
  duties g r := if r = 0 ∧ g.1.2 = .tc then dutiesAt g.2 else ∅
  unitless _ := False
  amount g _ _ := amountAt g.2
  payload g _ d := payloadAt I g.1.1 g.2 d
  amount_pos g _ _ _ := by
    unfold amountAt; split
    · exact Nat.one_pos
    · exact Nn_pos _

instance cubeRd_payload_storable (g : GSem nD τ sig) (r : ℕ) (d : Fin 3) : BI.Storable (upEmb : UEmb _ 𝕄) ((cubeRd I).payload g r d) := by
  show BI.Storable upEmb (payloadAt I g.1.1 g.2 d)
  unfold payloadAt
  (repeat' split) <;> infer_instance

section Sched
variable (c : Dev nD) (g : Fin 3) (s : Fin 6)

theorem duties_zero (sm : SemLoc sig) : (cubeRd I).duties ((c : Thread nD τ), sm) 0 = dutiesAt sm := by
  show (if (0 : ℕ) = 0 ∧ (c : Thread nD τ).2 = .tc then dutiesAt sm else ∅) = _
  exact if_pos ⟨rfl, rfl⟩

theorem duties_bar : (cubeRd I).duties (barCell c) 0 = Finset.univ := by
  rw [duties_zero]; show (if barS = barS then Finset.univ else ∅) = _; exact if_pos rfl
theorem duties_send (hs : s ≠ 3) : (cubeRd I).duties (sendCell c g s) 0 = {0} := by
  rw [duties_zero]; show (if 6 ≤ 6 + (6 * g.val + s.val) ∧ (6 + (6 * g.val + s.val)) % 6 ≠ 3 then {0} else ∅) = _; refine if_pos ⟨Nat.le_add_right _ _, ?_⟩
  have : s.val ≠ 3 := fun h => hs (Fin.ext h)
  have := s.isLt
  show (6 + (6 * g.val + s.val)) % 6 ≠ 3
  omega
theorem duties_recv (hs : s ≠ 3) : (cubeRd I).duties (recvCell c g s) 0 = {0} := by
  have : s.val ≠ 3 := fun h => hs (Fin.ext h)
  have := s.isLt
  rw [duties_zero]; refine if_pos ⟨?_, ?_⟩
  · show 6 ≤ 24 + _; omega
  · show (24 + (6 * g.val + s.val)) % 6 ≠ 3
    omega
theorem duties_send3 : (cubeRd I).duties (sendCell c g 3) 0 = ∅ := by
  rw [duties_zero]; refine if_neg fun h => h.2 ?_
  show (6 + (6 * g.val + 3)) % 6 = 3
  omega
theorem duties_recv3 : (cubeRd I).duties (recvCell c g 3) 0 = ∅ := by
  rw [duties_zero]; refine if_neg fun h => h.2 ?_
  show (24 + (6 * g.val + 3)) % 6 = 3
  omega
theorem duties_later (g : GSem nD τ sig) : ∀ r, 1 ≤ r → (cubeRd I).duties g r = ∅ := fun r hr => if_neg fun h => by omega
theorem duties_none {g : GSem nD τ sig} (h : (cubeRd I).duties g 0 = ∅) : ∀ r, 0 ≤ r → (cubeRd I).duties g r = ∅ := fun r _ => by
  rcases Nat.eq_zero_or_pos r with rfl | hr
  · exact h
  · exact duties_later I g r hr

theorem amount_bar (d : Fin 3) : (cubeRd I).amount (barCell c) 0 d = 1 := rfl
theorem amount_send (d : Fin 3) : (cubeRd I).amount (sendCell c g s) 0 d = Nn s.val := by
  show Nn ((6 + (6 * g.val + s.val)) % 6) = _
  have := s.isLt
  rw [show (6 + (6 * g.val + s.val)) % 6 = s.val by omega]
theorem amount_recv (d : Fin 3) : (cubeRd I).amount (recvCell c g s) 0 d = Nn s.val := by
  show Nn ((24 + (6 * g.val + s.val)) % 6) = _
  have := s.isLt
  rw [show (24 + (6 * g.val + s.val)) % 6 = s.val by omega]

theorem expect_bar : (cubeRd I).expect (barCell c) 0 = 3 := by
  unfold Schedule.expect Schedule.amountOf
  rw [duties_bar, Finset.sum_congr rfl fun d _ => amount_bar I c d, Finset.sum_const, Finset.card_univ, Fintype.card_fin, smul_eq_mul]
theorem expect_send (hs : s ≠ 3) : (cubeRd I).expect (sendCell c g s) 0 = Nn s.val := by
  unfold Schedule.expect Schedule.amountOf; rw [duties_send I c g s hs, Finset.sum_singleton, amount_send]
theorem expect_recv (hs : s ≠ 3) : (cubeRd I).expect (recvCell c g s) 0 = Nn s.val := by
  unfold Schedule.expect Schedule.amountOf; rw [duties_recv I c g s hs, Finset.sum_singleton, amount_recv]

theorem payload_bar (d : Fin 3) : (cubeRd I).payload (barCell c) 0 d = barPay c d := rfl
theorem payload_send (d : Fin 3) : (cubeRd I).payload (sendCell c g s) 0 d = sendPay I c g s.val := by
  have := s.isLt; have := g.isLt
  show (if 24 ≤ 6 + (6 * g.val + s.val) then recvPay I c _ _ else sendPay I c (colour (6 + (6 * g.val + s.val) - 6)) ((6 + (6 * g.val + s.val)) % 6)) = _
  rw [if_neg (by omega), show (6 + (6 * g.val + s.val)) % 6 = s.val by omega,
    show colour (6 + (6 * g.val + s.val) - 6) = g from Fin.ext (by show (6 + (6 * g.val + s.val) - 6) / 6 % 3 = g.val; omega)]
theorem payload_recv (d : Fin 3) : (cubeRd I).payload (recvCell c g s) 0 d = recvPay I c g s.val := by
  have := s.isLt; have := g.isLt
  show (if 24 ≤ 24 + (6 * g.val + s.val) then recvPay I c (colour (24 + (6 * g.val + s.val) - 24)) ((24 + (6 * g.val + s.val)) % 6) else _) = _
  rw [if_pos (by omega), show (24 + (6 * g.val + s.val)) % 6 = s.val by omega,
    show colour (24 + (6 * g.val + s.val) - 24) = g from Fin.ext (by show (24 + (6 * g.val + s.val) - 24) / 6 % 3 = g.val; omega)]

theorem rest_bar : bigSep ((cubeRd I).duties (barCell c) 0 \ ∅) (fun d => (cubeRd I).payload (barCell c) 0 d)
    = iprop(barPay c 0 ∗ barPay c 1 ∗ barPay c 2) := by
  rw [Finset.sdiff_empty, duties_bar, bigSep_univ_eq_bigSepL [0, 1, 2] (by decide) (by decide)]
  rfl
theorem rest_send (hs : s ≠ 3) : bigSep ((cubeRd I).duties (sendCell c g s) 0 \ ∅) (fun d => (cubeRd I).payload (sendCell c g s) 0 d) = sendPay I c g s.val := by
  rw [Finset.sdiff_empty, duties_send I c g s hs, bigSep_singleton, payload_send]
theorem rest_recv (hs : s ≠ 3) : bigSep ((cubeRd I).duties (recvCell c g s) 0 \ ∅) (fun d => (cubeRd I).payload (recvCell c g s) 0 d) = recvPay I c g s.val := by
  rw [Finset.sdiff_empty, duties_recv I c g s hs, bigSep_singleton, payload_recv]

end Sched

/-! ## What a device owes, and the levels -/

/-- The transfers in the order they start. -/
abbrev sends : List (Fin 3 × Fin 6) :=
  [(0, 0), (1, 0), (2, 0), (0, 1), (1, 1), (2, 1), (0, 2), (1, 2), (2, 2), (0, 4), (1, 4), (2, 4), (0, 5), (1, 5), (2, 5)]

/-- What a device owes with the transfers of `l` still to start: their receivers' credit. -/
def oweL (c : Dev nD) : List (Fin 3 × Fin 6) → CellTallies nD τ sig Unit
  | [] => 0
  | t :: l => oweL c l + tallyAt (recvCell (peer (tax t.1 t.2) c) t.1 t.2) () (Nn t.2.val)

/-- At launch it owes each neighbour's barrier cell a unit, too. -/
def O₂ (c : Dev nD) : CellTallies nD τ sig Unit := oweL c sends + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
def phase (s : ℕ) : ℕ := match s with | 0 => 2 | 1 => 3 | 2 => 4 | 4 => 5 | 5 => 6 | _ => 2
def lvAt (sm : SemLoc sig) : ℕ := match sm with
  | .reg _ => 1
  | .dma q => if 24 ≤ q.val then phase (q.val % 6) else 0
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

/-- What is owed on a cell comes from the last summand or from the others. -/
theorem add_tally_pos {O : CellTallies nD τ sig Unit} {g₀ g : GSem nD τ sig} {n : ℕ} {u : Unit} (h : 0 < (O + tallyAt g₀ () n) g u) :
    0 < O g u ∨ g = g₀ := by
  rw [Pi.add_apply, Finsupp.add_apply, tallyAt_apply] at h
  by_cases h' : g = g₀ ∧ u = ()
  · exact .inr h'.1
  · rw [if_neg h', Nat.add_zero] at h
    exact .inl h

theorem oweL_pos {c : Dev nD} {l : List (Fin 3 × Fin 6)} {g : GSem nD τ sig} {u : Unit} (h : 0 < oweL c l g u) :
    ∃ t ∈ l, g = recvCell (peer (tax t.1 t.2) c) t.1 t.2 := by
  induction l with
  | nil => exact absurd h (Nat.lt_irrefl 0)
  | cons t l ih =>
    rcases add_tally_pos h with h' | h'
    · obtain ⟨t', ht', e⟩ := ih h'
      exact ⟨t', List.mem_cons_of_mem _ ht', e⟩
    · exact ⟨t, List.mem_cons_self, h'⟩

theorem lv_recv (c : Dev nD) (g : Fin 3) (s : Fin 6) : lv (recvCell c g s) () = phase s.val := by
  have := s.isLt
  show (if 24 ≤ 24 + (6 * g.val + s.val) then phase ((24 + (6 * g.val + s.val)) % 6) else 0) = _
  rw [if_pos (by omega), show (24 + (6 * g.val + s.val)) % 6 = s.val by omega]
theorem lv_send (c : Dev nD) (g : Fin 3) (s : Fin 6) : lv (sendCell c g s) () = 0 := by
  have := s.isLt; have := g.isLt
  show (if 24 ≤ 6 + (6 * g.val + s.val) then phase _ else 0) = _
  rw [if_neg (by omega)]

/-- A wait on a cell below every receive cell still owed. -/
theorem mayWait_list (c : Dev nD) (sm : SemLoc sig) (l : List (Fin 3 × Fin 6)) (h : ∀ t ∈ l, lvAt sm < phase t.2.val) :
    (levAts L lv : sProp 𝕄) ⊢ MayWait (c : Thread nD τ) sm () (oweL c l) :=
  MayOwe.of_cut (L := L) (lev := lv) (lvAt sm) (fun p hp => by rw [Finset.mem_singleton.mp hp, L_tc]; exact Finset.mem_singleton_self _)
    (fun g u hg => by obtain ⟨t, -, rfl⟩ := oweL_pos hg; rw [L_tc]; exact Finset.mem_singleton_self _)
    (fun p hp => by rw [Finset.mem_singleton.mp hp]; exact le_refl _)
    (fun g u hg => by obtain ⟨t, ht, rfl⟩ := oweL_pos hg; rw [lv_recv]; exact h t ht)

theorem O₀_pos {c : Dev nD} {g : GSem nD τ sig} {u : Unit} (h : 0 < O₀ c g u) :
    (∃ t ∈ sends, g = recvCell (peer (tax t.1 t.2) c) t.1 t.2) ∨ ∃ a, g = barCell (peer a c) := by
  rcases add_tally_pos (O := O₁ c) h with h | h
  · rcases add_tally_pos (O := O₂ c) h with h | h
    · rcases add_tally_pos (O := oweL c sends) h with h | h
      · exact .inl (oweL_pos h)
      · exact .inr ⟨2, h⟩
    · exact .inr ⟨1, h⟩
  · exact .inr ⟨0, h⟩

theorem phase_pos : ∀ t ∈ sends, 0 < phase t.2.val := by decide

/-- The copies that stage the operands and the result wait below everything. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | ⟨a, rfl⟩ <;> exact Finset.mem_singleton_self _)
      (fun p hp => by
        rw [Finset.mem_singleton.mp hp]
        show (if 24 ≤ q.val then phase (q.val % 6) else 0) ≤ 0
        rw [if_neg (by omega)])
      (fun g u hg => by
        rcases O₀_pos hg with ⟨t, ht, rfl⟩ | ⟨a, rfl⟩
        · rw [lv_recv]; exact phase_pos t ht
        · exact Nat.one_pos)
  · rw [MayWait_zero]; iintro -; iempintro

end Cert.CubeProof
-- ==== Proof.Steps.lean ====
/-
# One step of the kernel at a time

A transfer started, a transfer waited for (on either side), and the meeting at the barrier: each with what it takes and
what it leaves.
-/
module

public import proofs.«01_k».proof.Proof.Sched

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The cells of a device: the barrier's, and of every transfer the send cell (`false`) and the receive cell (`true`). -/
abbrev CK := Option (Bool × Fin 3 × Fin 6)
def osem (k : Bool × Fin 3 × Fin 6) : SemLoc sig := match k with
  | (false, g, s) => .dma (sendQ g s)
  | (true, g, s) => .dma (recvQ g s)
def kcell (p : Dev nD × CK) : GSem nD τ sig := match p.2 with
  | none => barCell p.1
  | some k => ((p.1 : Thread nD τ), osem k)

variable (I : Ins F) (K : Dev nD × CK → ℕ)

/-- Every cell's invariant, and that its first round is reached. -/
def recs : sProp 𝕄 := bigSep Finset.univ fun p => iprop(cellInv ER (cubeRd I) (K p) (kcell p) ∗ reached ER (kcell p) 0)

instance recs_persistent : BI.Persistent (recs I K) := by unfold recs; infer_instance

theorem rec_at (p : Dev nD × CK) : recs I K ⊢ iprop(cellInv ER (cubeRd I) (K p) (kcell p) ∗ reached ER (kcell p) 0) := by
  unfold recs
  rw [BI.bigSep_erase (Finset.mem_univ p)]
  exact sep_elim_left

theorem rec_bar (c : Dev nD) : recs I K ⊢ iprop(cellInv ER (cubeRd I) (K (c, none)) (barCell c) ∗ reached ER (barCell c) 0) := rec_at I K (c, none)
theorem rec_send (c : Dev nD) (g : Fin 3) (s : Fin 6) :
    recs I K ⊢ iprop(cellInv ER (cubeRd I) (K (c, some (false, g, s))) (sendCell c g s) ∗ reached ER (sendCell c g s) 0) := rec_at I K (c, some (false, g, s))
theorem rec_recv (c : Dev nD) (g : Fin 3) (s : Fin 6) :
    recs I K ⊢ iprop(cellInv ER (cubeRd I) (K (c, some (true, g, s))) (recvCell c g s) ∗ reached ER (recvCell c g s) 0) := rec_at I K (c, some (true, g, s))

/-! ## What goes through the program -/

section
variable (c : Dev nD) (g : Fin 3) (s : Fin 6)

/-- What is owed with the first `k` transfers started. -/
def owesK (k : ℕ) : sProp 𝕄 := iprop(∃ W, owes (c : Thread nD τ) (oweL c (sends.drop k)) W)
/-- The right to start a transfer: to signal the own send cell and the neighbour's receive cell. -/
def tok : sProp 𝕄 := iprop(dutyTok ER (sendCell c g s) 0 0 ∗ dutyTok ER (recvCell (peer (tax g s) c) g s) 0 0)
def posS : sProp 𝕄 := atPos ER (sendCell c g s) 0 ∅ 0
def posR : sProp 𝕄 := iprop(atPos ER (recvCell c g s) 0 ∅ 0 ∗ cred (tallyAt (recvCell c g s) () (Nn s.val)))
/-- A transfer under way. -/
def fly : sProp 𝕄 := iprop(posS c g s ∗ cred (tallyAt (sendCell c g s) () (Nn s.val)))
def offS : sProp 𝕄 := semVal (sendCell c g s) 0
def offR : sProp 𝕄 := semVal (recvCell c g s) 0
end

section Steps
variable {I K} {c : Dev nD} {α : Type} {Q : α → sProp (MT nD τ sig Unit (Elt F) ℕ UU ℕ)}

section Send

/-- A transfer between any two blocks, its rows handed to the receiver. -/
theorem send_land' {s : Shape} (g : Fin 3) (st : Fin 6) (k : ℕ) (hk : sends.drop k = (g, st) :: sends.drop (k + 1)) (hs : st ≠ 3) {d : Dev nD} (hd : d = peer (tax g st) c)
    {sS sR : DmaSem sig} (hS : sS = sendQ g st) (hR : sR = recvQ g st)
    {src : Memref sig .tc .vmem s .bf16} {dst : Memref sig .tc .vmem s .bf16}
    {hsc : (dst : Memref sig (Dev.tc d : Thread nD τ).2.kind .vmem s .bf16).view.ref.isScScratch = false}
    {hsrc : src.view.WordExact} {hdst : dst.view.WordExact}
    {hsem : DmaTarget.Typed .vmem (.dma sR) (.remote (Dev.tc d : Thread nD τ) (dst : Memref sig (Dev.tc d : Thread nD τ).2.kind .vmem s .bf16) (.dma sS) hsc)}
    (hN : dst.view.dmaCredit = Nn st.val) (h1 : sendPay I c g st.val = iprop(emp))
    {fs : Buf (Elt F) (src.view.loc (c : Thread nD τ))} {fd : Buf (Elt F) (dst.view.loc (peer (tax g st) c : Thread nD τ))}
    (hpay : iprop((dst.view.loc (peer (tax g st) c : Thread nD τ) ↦[dst.view.set]{fullShare} dst.view.write (Elt F) fd (src.view.read (Elt F) fs) Finset.univ)
        ∗ (src.view.loc (c : Thread nD τ) ↦[src.view.set]{fullShare} fs)) ⊢ recvPay I (peer (tax g st) c) g st.val)
    {p : PUnit → Prog (TpuEff nD τ sig (Elt F) Λ₀ .tc) α} :
    iprop(recs I K ∗ (src.view.loc (c : Thread nD τ) ↦[src.view.set]{fullShare} fs) ∗ (dst.view.loc (peer (tax g st) c : Thread nD τ) ↦[dst.view.set]{fullShare} fd)
        ∗ owesK c k ∗ tok c g st ∗ posS c g st)
      ⊢ iprop((iprop(fly c g st ∗ owesK c (k + 1)) -∗ WP c (p ⟨⟩) Q)
        -∗ WP c (.op (.enqueueDma src (.remote (Dev.tc d : Thread nD τ) dst (.dma sS) hsc) (.dma sR) hsrc hdst hsem) p) Q) := by
  subst hd hS hR
  unfold owesK tok fly posS
  iintro ⟨#HR, Hs, Hd, ⟨%W, HO⟩, ⟨Ht1, Ht2⟩, HP⟩ Hk
  ihave HS := (rec_send I K c g st) $$ HR
  icases HS with ⟨#HS1, #HS2⟩
  ihave HV := (rec_recv I K (peer (tax g st) c) g st) $$ HR
  icases HV with ⟨#HV1, #HV2⟩
  iapply (Rounds.wp_send_landing_pointsTo 𝒱₀ ER (cubeRd I) (c : Thread nD τ) none (κ₁ := K (c, some (false, g, st))) (κ₂ := K (peer (tax g st) c, some (true, g, st)))
    (sS := .dma (sendQ g st)) (sem := .dma (recvQ g st)) (O₀ := oweL c (sends.drop k)) (r₁ := 0) (r₂ := 0) (d₁ := 0) (d₂ := 0) (fd := fd) (fs := fs) (q := fullShare)
    (by rw [duties_send I c g st hs]; exact Finset.mem_singleton_self _) (by rw [duties_recv I _ g st hs]; exact Finset.mem_singleton_self _)
    () () (Nn st.val) hN (amount_send I c g st 0) (amount_recv I _ g st 0) (oweL c (sends.drop (k + 1))) (by rw [hk]; rfl) (W := W)
    (by rw [payload_send, h1]) (by rw [payload_recv]; exact hpay)) $$ [Hs Hd HO Ht1 Ht2]
  · isplitr; · iexact HS1
    isplitr; · iexact HV1
    isplitl [Hs]; · iexact Hs
    isplitl [Hd]; · iexact Hd
    isplitl [HO]; · iexact HO
    isplitl [Ht1]; · iexact Ht1
    isplitr; · iexact HS2
    isplitl [Ht2]; · iexact Ht2
    iexact HV2
  iintro ⟨Hc, HO⟩
  iapply Hk
  isplitl [HP Hc]
  · isplitl [HP]; · iexact HP
    iexact Hc
  iexists W; iexact HO

/-- The same with the rows handed back to the sender. -/
theorem send_keep' {s : Shape} (g : Fin 3) (st : Fin 6) (k : ℕ) (hk : sends.drop k = (g, st) :: sends.drop (k + 1)) (hs : st ≠ 3) {d : Dev nD} (hd : d = peer (tax g st) c)
    {sS sR : DmaSem sig} (hS : sS = sendQ g st) (hR : sR = recvQ g st)
    {src : Memref sig .tc .vmem s .bf16} {dst : Memref sig .tc .vmem s .bf16}
    {hsc : (dst : Memref sig (Dev.tc d : Thread nD τ).2.kind .vmem s .bf16).view.ref.isScScratch = false}
    {hsrc : src.view.WordExact} {hdst : dst.view.WordExact}
    {hsem : DmaTarget.Typed .vmem (.dma sR) (.remote (Dev.tc d : Thread nD τ) (dst : Memref sig (Dev.tc d : Thread nD τ).2.kind .vmem s .bf16) (.dma sS) hsc)}
    (hN : dst.view.dmaCredit = Nn st.val)
    {fs : Buf (Elt F) (src.view.loc (c : Thread nD τ))} {fd : Buf (Elt F) (dst.view.loc (peer (tax g st) c : Thread nD τ))}
    (h1 : (src.view.loc (c : Thread nD τ) ↦[src.view.set]{fullShare} fs) ⊢ sendPay I c g st.val)
    (hpay : (dst.view.loc (peer (tax g st) c : Thread nD τ) ↦[dst.view.set]{fullShare} dst.view.write (Elt F) fd (src.view.read (Elt F) fs) Finset.univ)
        ⊢ recvPay I (peer (tax g st) c) g st.val)
    {p : PUnit → Prog (TpuEff nD τ sig (Elt F) Λ₀ .tc) α} :
    iprop(recs I K ∗ (src.view.loc (c : Thread nD τ) ↦[src.view.set]{fullShare} fs) ∗ (dst.view.loc (peer (tax g st) c : Thread nD τ) ↦[dst.view.set]{fullShare} fd)
        ∗ owesK c k ∗ tok c g st ∗ posS c g st)
      ⊢ iprop((iprop(fly c g st ∗ owesK c (k + 1)) -∗ WP c (p ⟨⟩) Q)
        -∗ WP c (.op (.enqueueDma src (.remote (Dev.tc d : Thread nD τ) dst (.dma sS) hsc) (.dma sR) hsrc hdst hsem) p) Q) := by
  subst hd hS hR
  unfold owesK tok fly posS
  iintro ⟨#HR, Hs, Hd, ⟨%W, HO⟩, ⟨Ht1, Ht2⟩, HP⟩ Hk
  ihave HS := (rec_send I K c g st) $$ HR
  icases HS with ⟨#HS1, #HS2⟩
  ihave HV := (rec_recv I K (peer (tax g st) c) g st) $$ HR
  icases HV with ⟨#HV1, #HV2⟩
  iapply (Rounds.wp_send_pointsTo 𝒱₀ ER (cubeRd I) (c : Thread nD τ) none (κ₁ := K (c, some (false, g, st))) (κ₂ := K (peer (tax g st) c, some (true, g, st)))
    (sS := .dma (sendQ g st)) (sem := .dma (recvQ g st)) (O₀ := oweL c (sends.drop k)) (r₁ := 0) (r₂ := 0) (d₁ := 0) (d₂ := 0) (fd := fd) (fs := fs) (q := fullShare)
    (by rw [duties_send I c g st hs]; exact Finset.mem_singleton_self _) (by rw [duties_recv I _ g st hs]; exact Finset.mem_singleton_self _)
    () () (Nn st.val) hN (amount_send I c g st 0) (amount_recv I _ g st 0) (oweL c (sends.drop (k + 1))) (by rw [hk]; rfl) (W := W)
    (by rw [payload_send]; exact h1) (by rw [payload_recv]; exact hpay)) $$ [Hs Hd HO Ht1 Ht2]
  · isplitr; · iexact HS1
    isplitr; · iexact HV1
    isplitl [Hs]; · iexact Hs
    isplitl [Hd]; · iexact Hd
    isplitl [HO]; · iexact HO
    isplitl [Ht1]; · iexact Ht1
    isplitr; · iexact HS2
    isplitl [Ht2]; · iexact Ht2
    iexact HV2
  iintro ⟨Hc, HO⟩
  iapply Hk
  isplitl [HP Hc]
  · isplitl [HP]; · iexact HP
    iexact Hc
  iexists W; iexact HO

/-- A wait for a transfer to have left. -/
theorem wait_send {s s' : Shape} (g : Fin 3) (st : Fin 6) (k : ℕ) (hl : ∀ t ∈ sends.drop k, lvAt (.dma (sendQ g st)) < phase t.2.val) (hs : st ≠ 3)
    {q : DmaSem sig} (hq : q = sendQ g st) {src : Memref sig .tc .vmem s .bf16} {dst : Memref sig .tc .vmem s' .bf16} (hN : dst.view.dmaCredit = Nn st.val)
    {hsrc} {hdst} {p : PUnit → Prog (TpuEff nD τ sig (Elt F) Λ₀ .tc) α} :
    iprop(recs I K ∗ levAts L lv ∗ fly c g st ∗ owesK c k)
      ⊢ iprop((iprop(sendPay I c g st.val ∗ offS c g st ∗ owesK c k) -∗ WP c (p ⟨⟩) Q)
        -∗ WP c (.op (.waitDma2 q src dst hsrc hdst) p) Q) := by
  subst hq
  unfold owesK fly posS offS
  iintro ⟨#HR, #Hlev, ⟨HP, Hc⟩, ⟨%W, HO⟩⟩ Hk
  ihave HS := (rec_send I K c g st) $$ HR
  icases HS with ⟨#HS1, #HS2⟩
  iapply (Rounds.wp_wait_rest_token 𝒱₀ ER (cubeRd I) (c : Thread nD τ) none (κ := K (c, some (false, g, st)))
      (wpE_waitDma2_eq 𝒱₀ (c : Thread nD τ) none Set.univ) (Set.mem_univ _) () (O := oweL c (sends.drop k)) (W := W) (R := 0) (m := 0) (T := ∅)
      (by rw [Nat.zero_add, expect_send I c g st hs]; exact hN)) $$ [Hc HO HP]
  · isplitr; · iexact HS1
    isplitl [Hc]; · rw [show dst.view.dmaCredit = Nn st.val from hN]; iexact Hc
    isplitl [HO]; · iexact HO
    isplitr; · iapply (mayWait_list c _ _ hl); iexact Hlev
    iexact HP
  iintro ⟨HO, HP, -, Hpay⟩
  ihave Hp := (Entails.of_eq (rest_send I c g st hs)) $$ Hpay
  imod (Rounds.cell_close ER (cubeRd I) (Set.mem_univ (K (c, some (false, g, st)))) (fun h => h) (R := 0 + 1) (duties_later I _)) $$ [HP] with Hz
  · isplitr; · iexact HS1
    iexact HP
  iapply Hk
  isplitl [Hp]; · iexact Hp
  isplitl [Hz]; · iexact Hz
  iexists _; iexact HO

/-- A wait for a transfer to have arrived. -/
theorem wait_recv {s s' : Shape} (g : Fin 3) (st : Fin 6) (k : ℕ) (hl : ∀ t ∈ sends.drop k, lvAt (.dma (recvQ g st)) < phase t.2.val) (hs : st ≠ 3)
    {q : DmaSem sig} (hq : q = recvQ g st) {src : Memref sig .tc .vmem s .bf16} {dst : Memref sig .tc .vmem s' .bf16} (hN : dst.view.dmaCredit = Nn st.val)
    {hsrc} {hdst} {p : PUnit → Prog (TpuEff nD τ sig (Elt F) Λ₀ .tc) α} :
    iprop(recs I K ∗ levAts L lv ∗ posR c g st ∗ owesK c k)
      ⊢ iprop((iprop(recvPay I c g st.val ∗ offR c g st ∗ owesK c k) -∗ WP c (p ⟨⟩) Q)
        -∗ WP c (.op (.waitDma2 q src dst hsrc hdst) p) Q) := by
  subst hq
  unfold owesK posR offR
  iintro ⟨#HR, #Hlev, ⟨HP, Hc⟩, ⟨%W, HO⟩⟩ Hk
  ihave HS := (rec_recv I K c g st) $$ HR
  icases HS with ⟨#HS1, #HS2⟩
  iapply (Rounds.wp_wait_rest_token 𝒱₀ ER (cubeRd I) (c : Thread nD τ) none (κ := K (c, some (true, g, st)))
      (wpE_waitDma2_eq 𝒱₀ (c : Thread nD τ) none Set.univ) (Set.mem_univ _) () (O := oweL c (sends.drop k)) (W := W) (R := 0) (m := 0) (T := ∅)
      (by rw [Nat.zero_add, expect_recv I c g st hs]; exact hN)) $$ [Hc HO HP]
  · isplitr; · iexact HS1
    isplitl [Hc]; · rw [show dst.view.dmaCredit = Nn st.val from hN]; iexact Hc
    isplitl [HO]; · iexact HO
    isplitr; · iapply (mayWait_list c _ _ hl); iexact Hlev
    iexact HP
  iintro ⟨HO, HP, -, Hpay⟩
  ihave Hp := (Entails.of_eq (rest_recv I c g st hs)) $$ Hpay
  imod (Rounds.cell_close ER (cubeRd I) (Set.mem_univ (K (c, some (true, g, st)))) (fun h => h) (R := 0 + 1) (duties_later I _)) $$ [HP] with Hz
  · isplitr; · iexact HS1
    iexact HP
  iapply Hk
  isplitl [Hp]; · iexact Hp
  isplitl [Hz]; · iexact Hz
  iexists _; iexact HO

/-! ### Blocks of rows -/

section Blocks
variable {R R' n lo lo' : ℕ} {M : M3 R} {M' : M3 R'} {off off' : Fin 3 → ℕ}

/-- The block of `n` rows at `off`, as a transfer names it. -/
abbrev blk (M : M3 R) (n : ℕ) (off : Fin 3 → ℕ) (inb : ∀ a, off a + (B1 n).size a ≤ (B3 R).size a)
    (hst : ∀ a, (Rect.unit (s := B3 R) off (B1 n).size inb).stride a = 1) (hsq : (B1 n).Squeezes (B2 n)) : Memref sig .tc .vmem (B2 n) .bf16 :=
  (M.slice (Rect.unit (s := B3 R) off (B1 n).size inb) hst).squeeze (B2 n) hsq

/-- A block as the rows of its buffer. -/
theorem blk_src (hoff : off = ![lo', lo, 0]) {inb hst hsq} {o : ℕ} {A : ℕ → Fin 256 → F .bf16} {fs : Buf (Elt F) (M.view.loc (c : Thread nD τ))}
    (hfs : ∀ x ∈ rows R lo' lo n, M.view.read (Elt F) fs x = bufOf o A x) :
    ((blk M n off inb hst hsq).view.loc (c : Thread nD τ) ↦[(blk M n off inb hst hsq).view.set]{fullShare} fs : sProp 𝕄) ⊢ regA M c lo' lo n o A := by
  rw [squeeze_set M hoff inb hst hsq]
  unfold regA
  iintro H
  iexists fs
  isplitr
  · ipureintro; exact hfs
  iexact H

/-- What a transfer wrote, as the rows of its buffer. -/
theorem blk_dst {g : ℕ} {c c' : Dev nD} (hoff : off = ![g, lo, 0]) (hoff' : off' = ![g, lo', 0]) {inb inb' hst hst' hsq hsq'} {o o' : ℕ} {A : ℕ → Fin 256 → F .bf16}
    {fs : Buf (Elt F) (M.view.loc (c : Thread nD τ))} {fd : Buf (Elt F) (M'.view.loc (c' : Thread nD τ))}
    (hfs : ∀ x ∈ rows R g lo n, M.view.read (Elt F) fs x = bufOf o A x) (hA : ∀ r, o + (lo + r) = o' + (lo' + r)) :
    ((blk M' n off' inb' hst' hsq').view.loc (c' : Thread nD τ) ↦[(blk M' n off' inb' hst' hsq').view.set]{fullShare}
      (blk M' n off' inb' hst' hsq').view.write (Elt F) fd ((blk M n off inb hst hsq).view.read (Elt F) fs) Finset.univ : sProp 𝕄) ⊢ regA M' c' g lo' n o' A := by
  rw [squeeze_set M' hoff' inb' hst' hsq']
  unfold regA
  iintro H
  iexists _
  isplitr
  · ipureintro
    exact squeeze_write M' hoff' inb' hst' hsq' fd _ fun j => (squeeze_read M hoff inb hst hsq fs hfs j).trans (by rw [hA])
  iexact H

theorem send_land (g : Fin 3) (st : Fin 6) (k : ℕ) (hk : sends.drop k = (g, st) :: sends.drop (k + 1)) (hs : st ≠ 3) {d : Dev nD} (hd : d = peer (tax g st) c)
    {sS sR : DmaSem sig} (hS : sS = sendQ g st) (hR : sR = recvQ g st)
    (hoff : off = ![g.val, lo, 0]) (hoff' : off' = ![g.val, lo', 0]) {inb inb' hst hst' hsq hsq'}
    {hsc : (blk M' n off' inb' hst' hsq' : Memref sig (Dev.tc d : Thread nD τ).2.kind .vmem (B2 n) .bf16).view.ref.isScScratch = false}
    {hsrc : (blk M n off inb hst hsq).view.WordExact} {hdst : (blk M' n off' inb' hst' hsq').view.WordExact}
    {hsem : DmaTarget.Typed .vmem (.dma sR) (.remote (Dev.tc d : Thread nD τ) (blk M' n off' inb' hst' hsq' : Memref sig (Dev.tc d : Thread nD τ).2.kind .vmem (B2 n) .bf16) (.dma sS) hsc)}
    (hN : (blk M' n off' inb' hst' hsq').view.dmaCredit = Nn st.val) (h1 : sendPay I c g st.val = iprop(emp))
    {o o' : ℕ} {A : ℕ → Fin 256 → F .bf16} (hA : ∀ r, o + (lo + r) = o' + (lo' + r))
    (hpay : iprop(regA M' (peer (tax g st) c) g.val lo' n o' A ∗ regX M c g.val lo n) ⊢ recvPay I (peer (tax g st) c) g st.val)
    {p : PUnit → Prog (TpuEff nD τ sig (Elt F) Λ₀ .tc) α} :
    iprop(recs I K ∗ regA M c g.val lo n o A ∗ regX M' (peer (tax g st) c) g.val lo' n ∗ owesK c k ∗ tok c g st ∗ posS c g st)
      ⊢ iprop((iprop(fly c g st ∗ owesK c (k + 1)) -∗ WP c (p ⟨⟩) Q)
        -∗ WP c (.op (.enqueueDma (blk M n off inb hst hsq)
            (.remote (Dev.tc d : Thread nD τ) (blk M' n off' inb' hst' hsq') (.dma sS) hsc) (.dma sR) hsrc hdst hsem) p) Q) := by
  have e1 := squeeze_set M hoff inb hst hsq
  have e2 := squeeze_set M' hoff' inb' hst' hsq'
  unfold regA regX
  iintro ⟨#HR, ⟨%fs, %hfs, Hs⟩, ⟨%fd, Hd⟩, HO, Ht, HP⟩ Hk
  iapply (send_land' (I := I) (K := K) g st k hk hs hd hS hR (src := blk M n off inb hst hsq) (dst := blk M' n off' inb' hst' hsq') hN h1 (fs := fs) (fd := fd)
    (BIBase.Entails.trans (BIClass.sep_mono (blk_dst hoff hoff' hfs hA) ((blk_src hoff hfs).trans regA_X)) hpay)) $$ [Hs Hd HO Ht HP]
  · isplitr; · iexact HR
    isplitl [Hs]; · rw [e1]; iexact Hs
    isplitl [Hd]; · rw [e2]; iexact Hd
    isplitl [HO]; · iexact HO
    isplitl [Ht]; · iexact Ht
    iexact HP
  iexact Hk

theorem send_keep (g : Fin 3) (st : Fin 6) (k : ℕ) (hk : sends.drop k = (g, st) :: sends.drop (k + 1)) (hs : st ≠ 3) {d : Dev nD} (hd : d = peer (tax g st) c)
    {sS sR : DmaSem sig} (hS : sS = sendQ g st) (hR : sR = recvQ g st)
    (hoff : off = ![g.val, lo, 0]) (hoff' : off' = ![g.val, lo', 0]) {inb inb' hst hst' hsq hsq'}
    {hsc : (blk M' n off' inb' hst' hsq' : Memref sig (Dev.tc d : Thread nD τ).2.kind .vmem (B2 n) .bf16).view.ref.isScScratch = false}
    {hsrc : (blk M n off inb hst hsq).view.WordExact} {hdst : (blk M' n off' inb' hst' hsq').view.WordExact}
    {hsem : DmaTarget.Typed .vmem (.dma sR) (.remote (Dev.tc d : Thread nD τ) (blk M' n off' inb' hst' hsq' : Memref sig (Dev.tc d : Thread nD τ).2.kind .vmem (B2 n) .bf16) (.dma sS) hsc)}
    (hN : (blk M' n off' inb' hst' hsq').view.dmaCredit = Nn st.val)
    {o o' : ℕ} {A : ℕ → Fin 256 → F .bf16} (hA : ∀ r, o + (lo + r) = o' + (lo' + r))
    (h1 : regA M c g.val lo n o A ⊢ sendPay I c g st.val)
    (hpay : regA M' (peer (tax g st) c) g.val lo' n o' A ⊢ recvPay I (peer (tax g st) c) g st.val)
    {p : PUnit → Prog (TpuEff nD τ sig (Elt F) Λ₀ .tc) α} :
    iprop(recs I K ∗ regA M c g.val lo n o A ∗ regX M' (peer (tax g st) c) g.val lo' n ∗ owesK c k ∗ tok c g st ∗ posS c g st)
      ⊢ iprop((iprop(fly c g st ∗ owesK c (k + 1)) -∗ WP c (p ⟨⟩) Q)
        -∗ WP c (.op (.enqueueDma (blk M n off inb hst hsq)
            (.remote (Dev.tc d : Thread nD τ) (blk M' n off' inb' hst' hsq') (.dma sS) hsc) (.dma sR) hsrc hdst hsem) p) Q) := by
  have e1 := squeeze_set M hoff inb hst hsq
  have e2 := squeeze_set M' hoff' inb' hst' hsq'
  unfold regA regX
  iintro ⟨#HR, ⟨%fs, %hfs, Hs⟩, ⟨%fd, Hd⟩, HO, Ht, HP⟩ Hk
  iapply (send_keep' (I := I) (K := K) g st k hk hs hd hS hR (src := blk M n off inb hst hsq) (dst := blk M' n off' inb' hst' hsq') hN (fs := fs) (fd := fd)
    ((blk_src hoff hfs).trans h1) ((blk_dst hoff hoff' hfs hA).trans hpay)) $$ [Hs Hd HO Ht HP]
  · isplitr; · iexact HR
    isplitl [Hs]; · rw [e1]; iexact Hs
    isplitl [Hd]; · rw [e2]; iexact Hd
    isplitl [HO]; · iexact HO
    isplitl [Ht]; · iexact Ht
    iexact HP
  iexact Hk

end Blocks
end Send

/-! ### The five kinds of transfer -/

section Kinds
variable {off off' : Fin 3 → ℕ} (g : Fin 3) (k : ℕ) {d : Dev nD} {sS sR : DmaSem sig} {p : PUnit → Prog (TpuEff nD τ sig (Elt F) Λ₀ .tc) α}

theorem send0 (hk : sends.drop k = (g, 0) :: sends.drop (k + 1)) (hd : d = peer (tax g 0) c) (hS : sS = sendQ g 0) (hR : sR = recvQ g 0)
    (hoff : off = ![g.val, gv0 g c, 0]) (hoff' : off' = ![g.val, 0, 0]) {inb inb' hst hst' hsq hsq'}
    {hsc : (blk r1M 512 off' inb' hst' hsq' : Memref sig (Dev.tc d : Thread nD τ).2.kind .vmem (B2 512) .bf16).view.ref.isScScratch = false}
    {hsrc : (blk aM 512 off inb hst hsq).view.WordExact} {hdst : (blk r1M 512 off' inb' hst' hsq').view.WordExact}
    {hsem : DmaTarget.Typed .vmem (.dma sR) (.remote (Dev.tc d : Thread nD τ) (blk r1M 512 off' inb' hst' hsq' : Memref sig (Dev.tc d : Thread nD τ).2.kind .vmem (B2 512) .bf16) (.dma sS) hsc)} :
    iprop(recs I K ∗ regA aM c g.val (gv0 g c) 512 0 (A0 I c g) ∗ regX r1M (peer (ax g 0) c) g.val 0 512 ∗ owesK c k ∗ tok c g 0 ∗ posS c g 0)
      ⊢ iprop((iprop(fly c g 0 ∗ owesK c (k + 1)) -∗ WP c (p ⟨⟩) Q)
        -∗ WP c (.op (.enqueueDma (blk aM 512 off inb hst hsq)
            (.remote (Dev.tc d : Thread nD τ) (blk r1M 512 off' inb' hst' hsq') (.dma sS) hsc) (.dma sR) hsrc hdst hsem) p) Q) :=
  send_land (M := aM) (M' := r1M) g 0 k hk (by decide) hd hS hR hoff hoff' rfl rfl (o' := gv0 g c) (fun r => by omega)
    (by
      show _ ⊢ iprop(regA r1M (peer (ax g 0) c) g.val 0 512 (kp0 g (peer (ax g 0) c)) (A0 I (peer (ax g 0) (peer (ax g 0) c)) g)
        ∗ regX aM (peer (ax g 0) (peer (ax g 0) c)) g.val (kp0 g (peer (ax g 0) c)) 512)
      rw [kp0_peer, peer_peer]
      exact BI.Entails.refl _)

theorem send1 (hk : sends.drop k = (g, 1) :: sends.drop (k + 1)) (hd : d = peer (tax g 1) c) (hS : sS = sendQ g 1) (hR : sR = recvQ g 1)
    (hoff : off = ![g.val, gv1 g c, 0]) (hoff' : off' = ![g.val, 0, 0]) {inb inb' hst hst' hsq hsq'}
    {hsc : (blk r2M 256 off' inb' hst' hsq' : Memref sig (Dev.tc d : Thread nD τ).2.kind .vmem (B2 256) .bf16).view.ref.isScScratch = false}
    {hsrc : (blk aM 256 off inb hst hsq).view.WordExact} {hdst : (blk r2M 256 off' inb' hst' hsq').view.WordExact}
    {hsem : DmaTarget.Typed .vmem (.dma sR) (.remote (Dev.tc d : Thread nD τ) (blk r2M 256 off' inb' hst' hsq' : Memref sig (Dev.tc d : Thread nD τ).2.kind .vmem (B2 256) .bf16) (.dma sS) hsc)} :
    iprop(recs I K ∗ regA aM c g.val (gv1 g c) 256 0 (A1 I c g) ∗ regX r2M (peer (ax g 1) c) g.val 0 256 ∗ owesK c k ∗ tok c g 1 ∗ posS c g 1)
      ⊢ iprop((iprop(fly c g 1 ∗ owesK c (k + 1)) -∗ WP c (p ⟨⟩) Q)
        -∗ WP c (.op (.enqueueDma (blk aM 256 off inb hst hsq)
            (.remote (Dev.tc d : Thread nD τ) (blk r2M 256 off' inb' hst' hsq') (.dma sS) hsc) (.dma sR) hsrc hdst hsem) p) Q) :=
  send_land (M := aM) (M' := r2M) g 1 k hk (by decide) hd hS hR hoff hoff' rfl rfl (o' := gv1 g c) (fun r => by omega)
    (by
      show _ ⊢ iprop(regA r2M (peer (ax g 1) c) g.val 0 256 (kp1 g (peer (ax g 1) c)) (A1 I (peer (ax g 1) (peer (ax g 1) c)) g)
        ∗ regX aM (peer (ax g 1) (peer (ax g 1) c)) g.val (kp1 g (peer (ax g 1) c)) 256)
      rw [kp1_peer, peer_peer]
      exact BI.Entails.refl _)

theorem send2 (hk : sends.drop k = (g, 2) :: sends.drop (k + 1)) (hd : d = peer (tax g 2) c) (hS : sS = sendQ g 2) (hR : sR = recvQ g 2)
    (hoff : off = ![g.val, kp1 g c, 0]) (hoff' : off' = ![g.val, 0, 0]) {inb inb' hst hst' hsq hsq'}
    {hsc : (blk r3M 256 off' inb' hst' hsq' : Memref sig (Dev.tc d : Thread nD τ).2.kind .vmem (B2 256) .bf16).view.ref.isScScratch = false}
    {hsrc : (blk aM 256 off inb hst hsq).view.WordExact} {hdst : (blk r3M 256 off' inb' hst' hsq').view.WordExact}
    {hsem : DmaTarget.Typed .vmem (.dma sR) (.remote (Dev.tc d : Thread nD τ) (blk r3M 256 off' inb' hst' hsq' : Memref sig (Dev.tc d : Thread nD τ).2.kind .vmem (B2 256) .bf16) (.dma sS) hsc)} :
    iprop(recs I K ∗ regA aM c g.val (kp1 g c) 256 0 (A2 I c g) ∗ regX r3M (peer (ax g 2) c) g.val 0 256 ∗ owesK c k ∗ tok c g 2 ∗ posS c g 2)
      ⊢ iprop((iprop(fly c g 2 ∗ owesK c (k + 1)) -∗ WP c (p ⟨⟩) Q)
        -∗ WP c (.op (.enqueueDma (blk aM 256 off inb hst hsq)
            (.remote (Dev.tc d : Thread nD τ) (blk r3M 256 off' inb' hst' hsq') (.dma sS) hsc) (.dma sR) hsrc hdst hsem) p) Q) :=
  send_keep (M := aM) (M' := r3M) g 2 k hk (by decide) hd hS hR hoff hoff' rfl (o' := kp1 g c) (fun r => by omega)
    (BI.Entails.refl _) (by
      show _ ⊢ regA r3M (peer (ax g 2) c) g.val 0 256 (kp1 g (peer (ax g 2) c)) (A2 I (peer (ax g 2) (peer (ax g 2) c)) g)
      rw [kp1_peer2, peer_peer]
      exact BI.Entails.refl _)

theorem send4 (hk : sends.drop k = (g, 4) :: sends.drop (k + 1)) (hd : d = peer (tax g 4) c) (hS : sS = sendQ g 4) (hR : sR = recvQ g 4)
    (hoff : off = ![g.val, kp1 g c, 0]) (hoff' : off' = ![g.val, (kp1 g c), 0]) {inb inb' hst hst' hsq hsq'}
    {hsc : (blk aM 256 off' inb' hst' hsq' : Memref sig (Dev.tc d : Thread nD τ).2.kind .vmem (B2 256) .bf16).view.ref.isScScratch = false}
    {hsrc : (blk aM 256 off inb hst hsq).view.WordExact} {hdst : (blk aM 256 off' inb' hst' hsq').view.WordExact}
    {hsem : DmaTarget.Typed .vmem (.dma sR) (.remote (Dev.tc d : Thread nD τ) (blk aM 256 off' inb' hst' hsq' : Memref sig (Dev.tc d : Thread nD τ).2.kind .vmem (B2 256) .bf16) (.dma sS) hsc)} :
    iprop(recs I K ∗ regA aM c g.val (kp1 g c) 256 0 (A3 I c g) ∗ regX aM (peer (ax g 1) c) g.val (kp1 g c) 256 ∗ owesK c k ∗ tok c g 4 ∗ posS c g 4)
      ⊢ iprop((iprop(fly c g 4 ∗ owesK c (k + 1)) -∗ WP c (p ⟨⟩) Q)
        -∗ WP c (.op (.enqueueDma (blk aM 256 off inb hst hsq)
            (.remote (Dev.tc d : Thread nD τ) (blk aM 256 off' inb' hst' hsq') (.dma sS) hsc) (.dma sR) hsrc hdst hsem) p) Q) :=
  send_keep (M := aM) (M' := aM) g 4 k hk (by decide) hd hS hR hoff hoff' rfl (o' := 0) (fun r => by omega)
    (BI.Entails.refl _) (by
      show _ ⊢ regA aM (peer (ax g 1) c) g.val (gv1 g (peer (ax g 1) c)) 256 0 (A3 I (peer (ax g 1) (peer (ax g 1) c)) g)
      rw [gv1_peer, peer_peer]
      exact BI.Entails.refl _)

theorem send5 (hk : sends.drop k = (g, 5) :: sends.drop (k + 1)) (hd : d = peer (tax g 5) c) (hS : sS = sendQ g 5) (hR : sR = recvQ g 5)
    (hoff : off = ![g.val, kp0 g c, 0]) (hoff' : off' = ![g.val, (kp0 g c), 0]) {inb inb' hst hst' hsq hsq'}
    {hsc : (blk aM 512 off' inb' hst' hsq' : Memref sig (Dev.tc d : Thread nD τ).2.kind .vmem (B2 512) .bf16).view.ref.isScScratch = false}
    {hsrc : (blk aM 512 off inb hst hsq).view.WordExact} {hdst : (blk aM 512 off' inb' hst' hsq').view.WordExact}
    {hsem : DmaTarget.Typed .vmem (.dma sR) (.remote (Dev.tc d : Thread nD τ) (blk aM 512 off' inb' hst' hsq' : Memref sig (Dev.tc d : Thread nD τ).2.kind .vmem (B2 512) .bf16) (.dma sS) hsc)} :
    iprop(recs I K ∗ regA aM c g.val (kp0 g c) 512 0 (A4 I c g) ∗ regX aM (peer (ax g 0) c) g.val (kp0 g c) 512 ∗ owesK c k ∗ tok c g 5 ∗ posS c g 5)
      ⊢ iprop((iprop(fly c g 5 ∗ owesK c (k + 1)) -∗ WP c (p ⟨⟩) Q)
        -∗ WP c (.op (.enqueueDma (blk aM 512 off inb hst hsq)
            (.remote (Dev.tc d : Thread nD τ) (blk aM 512 off' inb' hst' hsq') (.dma sS) hsc) (.dma sR) hsrc hdst hsem) p) Q) :=
  send_keep (M := aM) (M' := aM) g 5 k hk (by decide) hd hS hR hoff hoff' rfl (o' := 0) (fun r => by omega)
    (BI.Entails.refl _) (by
      show _ ⊢ regA aM (peer (ax g 0) c) g.val (gv0 g (peer (ax g 0) c)) 512 0 (A4 I (peer (ax g 0) (peer (ax g 0) c)) g)
      rw [gv0_peer, peer_peer]
      exact BI.Entails.refl _)

end Kinds

/-! ### The barrier -/

/-- A unit to the barrier cell of the neighbour across axis `a`, with the landing slots for what crosses it. -/
theorem step_signal (a : Fin 3) {d : Dev nD} (hd : d = peer a c) {w : ℤ} (hw : w = ((1 : ℕ) : ℤ)) {O : CellTallies nD τ sig Unit} {O' : CellTallies nD τ sig Unit}
    (hO : O' = O + tallyAt (barCell (peer a c)) () 1)
    {p : PUnit → Prog (TpuEff nD τ sig (Elt F) Λ₀ .tc) α} {W : Waits sig Unit} :
    iprop(recs I K ∗ owes (c : Thread nD τ) O' W ∗ dutyTok ER (barCell (peer a c)) 0 a ∗ barPay (peer a c) a)
      ⊢ iprop((owes (c : Thread nD τ) O W -∗ WP c (p ⟨⟩) Q)
        -∗ WP c (.op (.semSignal (d : Thread nD τ) barS w) p) Q) := by
  subst hd hw
  iintro ⟨#HR, HO, Ht, Hp⟩ Hk
  ihave HB := (rec_bar I K (peer a c)) $$ HR
  icases HB with ⟨#HB1, #HB2⟩
  iapply (Rounds.wp_signal 𝒱₀ ER (cubeRd I) (c : Thread nD τ) none (dst := (peer a c : Thread nD τ)) (κ := K (peer a c, none)) (d := a)
      (by rw [duties_bar]; exact Finset.mem_univ _) (amount_bar I (peer a c) a) () O hO)
    $$ [HO Ht Hp]
  · isplitr; · iexact HB1
    isplitl [HO]; · iexact HO
    isplitl [Ht]; · iexact Ht
    isplitl [Hp]; · rw [payload_bar]; iexact Hp
    iexact HB2
  iexact Hk

/-- The wait for the three neighbours: their landing slots come with it. -/
theorem step_meet (k : ℕ) (hk : k = 0) {w : ℤ} (hw : w = ((3 : ℕ) : ℤ)) {p : PUnit → Prog (TpuEff nD τ sig (Elt F) Λ₀ .tc) α} {W : Waits sig Unit} :
    iprop(recs I K ∗ levAts L lv ∗ owes (c : Thread nD τ) (oweL c sends) W ∗ atPos ER (barCell c) 0 ∅ 0 ∗ cred (tallyAt (barCell c) () 3))
      ⊢ iprop((iprop(barPay c 0 ∗ barPay c 1 ∗ barPay c 2 ∗ semVal (barCell c) 0 ∗ owesK c k) -∗ WP c (p ⟨⟩) Q)
        -∗ WP c (.op (.semWait barS w) p) Q) := by
  subst hk hw
  unfold owesK
  iintro ⟨#HR, #Hlev, HO, HP, Hc⟩ Hk
  ihave HB := (rec_bar I K c) $$ HR
  icases HB with ⟨#HB1, #HB2⟩
  iapply (Rounds.wp_wait_rest_token 𝒱₀ ER (cubeRd I) (c : Thread nD τ) none (κ := K (c, none))
      (wpE_semWait_eq 𝒱₀ (c : Thread nD τ) none Set.univ) (Set.mem_univ _) () (O := oweL c sends) (W := W) (R := 0) (m := 0) (T := ∅)
      (by rw [Nat.zero_add, expect_bar])) $$ [Hc HO HP]
  · isplitr; · iexact HB1
    isplitl [Hc]; · iexact Hc
    isplitl [HO]; · iexact HO
    isplitr; · iapply (mayWait_list c _ sends (by decide)); iexact Hlev
    iexact HP
  iintro ⟨HO, HP, -, Hpay⟩
  ihave Hp := (Entails.of_eq (rest_bar I c)) $$ Hpay
  icases Hp with ⟨H0, H1, H2⟩
  imod (Rounds.cell_close ER (cubeRd I) (Set.mem_univ (K (c, none))) (fun h => h) (R := 0 + 1) (duties_later I _)) $$ [HP] with Hz
  · isplitr; · iexact HB1
    iexact HP
  iapply Hk
  isplitl [H0]; · iexact H0
  isplitl [H1]; · iexact H1
  isplitl [H2]; · iexact H2
  isplitl [Hz]; · iexact Hz
  iexists _; iexact HO

end Steps
end Cert.CubeProof
-- ==== Proof.Blocks.lean ====
/-
# What a part of the kernel is proved with

The kernel's buffers fixed (`at0`), whole operands loaded, the result's columns stored, and how a slot's rows are cut and
put together between the exchanges.
-/
module

public import proofs.«01_k».proof.Proof.Steps

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The kernel's buffers -/

/-- What takes the kernel's buffers and semaphores. -/
abbrev OfBufs (β : Type 1) : Type 1 :=
  (a0 : Memref sig .tc .vmem S2x512x768 .bf16) → a0.IsWhole → (a1 : Memref sig .tc .vmem S768x4096 .bf16) → a1.IsWhole →
  (a2 : Memref sig .tc .vmem S2x512x8x64 .bf16) → a2.IsWhole → (a3 : Memref sig .tc .vmem S2x512x8x64 .bf16) → a3.IsWhole →
  (a4 : Memref sig .tc .vmem S4096x768 .bf16) → a4.IsWhole → (a5 : Memref sig .tc .vmem S2x512x768 .f32) → a5.IsWhole →
  (a6 : Memref sig .tc .vmem S3x1024x256 .bf16) → a6.IsWhole → (a7 : Memref sig .tc .vmem S3x512x256 .bf16) → a7.IsWhole →
  (a8 : Memref sig .tc .vmem S3x256x256 .bf16) → a8.IsWhole → (a9 : Memref sig .tc .vmem S3x256x256 .bf16) → a9.IsWhole →
  DmaSems sig S18 → DmaSems sig S18 → β

/-- It at the call's own. -/
abbrev at0 {β : Type 1} (p : OfBufs β) : β :=
  p (.whole cc0_stg0_0) (Memref.isWhole_whole _) (.whole cc0_stg1_0) (Memref.isWhole_whole _) (.whole cc0_stg2_0) (Memref.isWhole_whole _) (.whole cc0_stg3_0) (Memref.isWhole_whole _)
    (.whole cc0_stg4_0) (Memref.isWhole_whole _) (.whole cc0_stg5_0) (Memref.isWhole_whole _) (.whole cc0_scratch0) (Memref.isWhole_whole _) (.whole cc0_scratch1) (Memref.isWhole_whole _)
    (.whole cc0_scratch2) (Memref.isWhole_whole _) (.whole cc0_scratch3) (Memref.isWhole_whole _) cc0_scratch4 cc0_scratch5

/-! ## Operands -/

/-- A staging buffer whole, at given contents. -/
abbrev stgP (c : Dev nD) (b : Ref sig .tc) (X : Buf (Elt F) ((c : Thread nD τ).loc b)) : sProp 𝕄 := ((c : Thread nD τ).loc b) ↦{fullShare} X

variable (I : Ins F) (c : Dev nD)

def opsP : sProp 𝕄 :=
  iprop(stgP c cc0_stg0_0 (I.X c) ∗ stgP c cc0_stg1_0 (I.Wq c) ∗ stgP c cc0_stg2_0 (I.K c) ∗ stgP c cc0_stg3_0 (I.V c) ∗ stgP c cc0_stg4_0 (I.Wo c))

section Loads
variable {α : Type} {Q : α → sProp (MT nD τ sig Unit (Elt F) ℕ UU ℕ)} {I c}

/-- A load from a whole buffer, of a known value. -/
theorem wp_load_stg {s : Shape} {e : EltTy} {m : Memref sig .tc .vmem s e} {r : LoadRect s} {hl : m.view.LoadsAt r}
    {k : (r.shape.Idx → Elt F e) → Prog (TpuEff nD τ sig (Elt F) Λ₀ .tc) α} {X : Buf (Elt F) (m.view.loc (c : Thread nD τ))}
    {w : r.shape.Idx → Elt F e} (hw : m.view.readAt (Elt F) r X = w) :
    ((m.view.loc (c : Thread nD τ) ↦{fullShare} X) : sProp 𝕄)
      ⊢ iprop(((m.view.loc (c : Thread nD τ) ↦{fullShare} X) -∗ WP c (k w) Q) -∗ WP c (.op (.load m r hl) k) Q) := by
  subst hw
  exact wp_load 𝒱₀ (c : Thread nD τ) none Set.univ (m := m) (Finset.subset_univ _)

theorem read_wq {off : Fin 2 → ℕ} (hoff : off = ![0, 512 * c.val]) (inb : ∀ a, off a + S768x512.size a ≤ S768x4096.size a) :
    (Memref.whole cc0_stg1_0).view.readAt (Elt F) (Rect.unit (s := S768x4096) off S768x512.size inb).toLoadRect (I.Wq c) = wqS I c := by
  subst hoff
  funext j
  show I.Wq c _ = I.Wq c _
  refine congrArg (I.Wq c) ?_
  funext a
  match a with
  | ⟨0, _⟩ => exact Fin.ext (by show 0 + 1 * (j 0).val = (j 0).val; omega)
  | ⟨1, _⟩ => exact Fin.ext (by show 512 * c.val + 1 * (j 1).val = 512 * c.val + (j 1).val; omega)

theorem read_wo {off : Fin 2 → ℕ} (hoff : off = ![512 * c.val, 0]) (inb : ∀ a, off a + S512x768.size a ≤ S4096x768.size a) :
    (Memref.whole cc0_stg4_0).view.readAt (Elt F) (Rect.unit (s := S4096x768) off S512x768.size inb).toLoadRect (I.Wo c) = woS I c := by
  subst hoff
  funext j
  show I.Wo c _ = I.Wo c _
  refine congrArg (I.Wo c) ?_
  funext a
  match a with
  | ⟨0, _⟩ => exact Fin.ext (by show 512 * c.val + 1 * (j 0).val = 512 * c.val + (j 0).val; omega)
  | ⟨1, _⟩ => exact Fin.ext (by show 0 + 1 * (j 1).val = (j 1).val; omega)

theorem read_x {b : ℕ} {off : Fin 3 → ℕ} (hoff : off = ![b, 0, 0]) (inb : ∀ a, off a + S1x512x768.size a ≤ S2x512x768.size a) :
    (Memref.whole cc0_stg0_0).view.readAt (Elt F) (Rect.unit (s := S2x512x768) off S1x512x768.size inb).toLoadRect (I.X c) = xB I c b := by
  subst hoff
  have hb : b + 1 ≤ 2 := inb 0
  funext j
  show I.X c _ = I.X c _
  refine congrArg (I.X c) ?_
  have h0 : (j 0).val = 0 := by have : (j 0).val < 1 := (j 0).isLt; omega
  funext a
  match a with
  | ⟨0, _⟩ => exact Fin.ext (by show b + 1 * (j 0).val = b % 2; omega)
  | ⟨1, _⟩ => exact Fin.ext (by show 0 + 1 * (j 1).val = (j 1).val; omega)
  | ⟨2, _⟩ => exact Fin.ext (by show 0 + 1 * (j 2).val = (j 2).val; omega)

theorem read_k {b : ℕ} {off : Fin 4 → ℕ} (hoff : off = ![b, 0, 0, 0]) (inb : ∀ a, off a + S1x512x8x64.size a ≤ S2x512x8x64.size a) :
    (Memref.whole cc0_stg2_0).view.readAt (Elt F) (Rect.unit (s := S2x512x8x64) off S1x512x8x64.size inb).toLoadRect (I.K c) = kB I c b := by
  subst hoff
  have hb : b + 1 ≤ 2 := inb 0
  funext j
  show I.K c _ = I.K c _
  refine congrArg (I.K c) ?_
  have h0 : (j 0).val = 0 := by have : (j 0).val < 1 := (j 0).isLt; omega
  funext a
  match a with
  | ⟨0, _⟩ => exact Fin.ext (by show b + 1 * (j 0).val = b % 2; omega)
  | ⟨1, _⟩ => exact Fin.ext (by show 0 + 1 * (j 1).val = (j 1).val; omega)
  | ⟨2, _⟩ => exact Fin.ext (by show 0 + 1 * (j 2).val = (j 2).val; omega)
  | ⟨3, _⟩ => exact Fin.ext (by show 0 + 1 * (j 3).val = (j 3).val; omega)

theorem read_v {b : ℕ} {off : Fin 4 → ℕ} (hoff : off = ![b, 0, 0, 0]) (inb : ∀ a, off a + S1x512x8x64.size a ≤ S2x512x8x64.size a) :
    (Memref.whole cc0_stg3_0).view.readAt (Elt F) (Rect.unit (s := S2x512x8x64) off S1x512x8x64.size inb).toLoadRect (I.V c) = vB I c b := by
  subst hoff
  have hb : b + 1 ≤ 2 := inb 0
  funext j
  show I.V c _ = I.V c _
  refine congrArg (I.V c) ?_
  have h0 : (j 0).val = 0 := by have : (j 0).val < 1 := (j 0).isLt; omega
  funext a
  match a with
  | ⟨0, _⟩ => exact Fin.ext (by show b + 1 * (j 0).val = b % 2; omega)
  | ⟨1, _⟩ => exact Fin.ext (by show 0 + 1 * (j 1).val = (j 1).val; omega)
  | ⟨2, _⟩ => exact Fin.ext (by show 0 + 1 * (j 2).val = (j 2).val; omega)
  | ⟨3, _⟩ => exact Fin.ext (by show 0 + 1 * (j 3).val = (j 3).val; omega)

end Loads

/-! ## The result -/

/-- The first `m` colours' columns of the result are stored. -/
def outP (m : ℕ) : sProp 𝕄 :=
  iprop(∃ f : Buf (Elt F) ((c : Thread nD τ).loc cc0_stg5_0), ⌜∀ x : S2x512x768.Idx, (x 2).val < 256 * m → f x = outC I c x⌝
    ∗ (((c : Thread nD τ).loc cc0_stg5_0) ↦{fullShare} f))

section Out
variable {α : Type} {Q : α → sProp (MT nD τ sig Unit (Elt F) ℕ UU ℕ)} {I c}

theorem wp_load_out {m : ℕ} {r : LoadRect S2x512x768} {hl : (Memref.whole cc0_stg5_0).view.LoadsAt r} {p : Prog (TpuEff nD τ sig (Elt F) Λ₀ .tc) α} :
    outP I c m ⊢ iprop((outP I c m -∗ WP c p Q) -∗ WP c (.op (.load (Memref.whole cc0_stg5_0) r hl) fun _ => p) Q) := by
  unfold outP
  iintro ⟨%f, %hf, H⟩ Hk
  iapply (wp_load 𝒱₀ (c : Thread nD τ) none Set.univ (m := Memref.whole cc0_stg5_0) (Finset.subset_univ _)) $$ H
  iintro H
  iapply Hk
  iexists f
  isplitr
  · ipureintro; exact hf
  iexact H

/-- A colour's columns of the result. -/
abbrev colR (g : Fin 3) (inb : ∀ a, ![0, 0, 256 * g.val] a + S2x512x256.size a ≤ S2x512x768.size a) : Rect S2x512x768 :=
  Rect.unit (s := S2x512x768) ![0, 0, 256 * g.val] S2x512x256.size inb

theorem out_write (g : Fin 3) (inb : ∀ a, ![0, 0, 256 * g.val] a + S2x512x256.size a ≤ S2x512x768.size a) (f : (cc0_stg5_0 : Ref sig .tc).ty.Contents (Elt F))
    {w : S2x512x256.Idx → Elt F .f32}
    (hw : ∀ j : S2x512x256.Idx, w j = FloatOps.extf .f32 bitsLt_bf16_f32 (fin I c g (512 * (j 0).val + (j 1).val) (j 2)))
    (hf : ∀ x : S2x512x768.Idx, (x 2).val < 256 * g.val → f x = outC I c x) (x : S2x512x768.Idx) (hx2 : (x 2).val < 256 * (g.val + 1)) :
    ((Memref.whole cc0_stg5_0).access (colR g inb)).write (Elt F) f w Finset.univ x = outC I c x := by
  by_cases h : (x 2).val < 256 * g.val
  · refine Eq.trans (View.write_of_not_mem (v := (Memref.whole cc0_stg5_0).access (colR g inb)) f w Finset.univ ?_) (hf x h)
    intro hmem
    obtain ⟨j, -, e⟩ := Finset.mem_map.1 hmem
    have e2 : 256 * g.val + 1 * (j 2).val = (x 2).val := congrArg (fun y : S2x512x768.Idx => (y 2).val) e
    omega
  · have hj2 : (x 2).val - 256 * g.val < 256 := by have := g.isLt; omega
    let j : S2x512x256.Idx := ix3 (n0 := 2) (n1 := 512) (n2 := 256) (x 0) (x 1) ⟨(x 2).val - 256 * g.val, hj2⟩
    have hxj : ((Memref.whole cc0_stg5_0).access (colR g inb)).emb j = x := by
      funext a
      match a with
      | ⟨0, _⟩ => exact Fin.ext (by show 0 + 1 * (x 0).val = (x 0).val; omega)
      | ⟨1, _⟩ => exact Fin.ext (by show 0 + 1 * (x 1).val = (x 1).val; omega)
      | ⟨2, _⟩ => exact Fin.ext (by show 256 * g.val + 1 * ((x 2).val - 256 * g.val) = (x 2).val; omega)
    have hwr := View.write_emb_of_mem (v := (Memref.whole cc0_stg5_0).access (colR g inb)) f w (Finset.mem_univ j)
    rw [hxj] at hwr
    refine hwr.trans ((hw j).trans ?_)
    unfold outC
    have e1 : (⟨(x 2).val / 256, by have : (x 2).val < 768 := (x 2).isLt; omega⟩ : Fin 3) = g := Fin.ext (by show (x 2).val / 256 = g.val; omega)
    have e2 : (⟨(x 2).val % 256, Nat.mod_lt _ (by decide)⟩ : Fin 256) = ⟨(x 2).val - 256 * g.val, hj2⟩ :=
      Fin.ext (by show (x 2).val % 256 = (x 2).val - 256 * g.val; omega)
    rw [e1, e2]
    rfl

/-- The store of a colour's columns. -/
theorem wp_store_out (g : Fin 3) (m m' : ℕ) (hm1 : m = g.val) (hm2 : m' = g.val + 1) {off : Fin 3 → ℕ} (hoff : off = ![0, 0, 256 * g.val]) (inb : ∀ a, off a + S2x512x256.size a ≤ S2x512x768.size a)
    {w : S2x512x256.Idx → Elt F .f32}
    (hw : ∀ j : S2x512x256.Idx, w j = FloatOps.extf .f32 bitsLt_bf16_f32 (fin I c g (512 * (j 0).val + (j 1).val) (j 2)))
    {hx : ((Memref.whole cc0_stg5_0).access (Rect.unit (s := S2x512x768) off S2x512x256.size inb)).Stores Finset.univ} {hm}
    {k : PUnit → Prog (TpuEff nD τ sig (Elt F) Λ₀ .tc) α} :
    outP I c m ⊢ iprop((outP I c m' -∗ WP c (k ⟨⟩) Q)
      -∗ WP c (.op (.store (Memref.whole cc0_stg5_0) (Rect.unit (s := S2x512x768) off S2x512x256.size inb) w Finset.univ hx hm) k) Q) := by
  subst hoff hm1 hm2
  unfold outP
  iintro ⟨%f, %hf, H⟩ Hk
  iapply (wp_store 𝒱₀ (c : Thread nD τ) none Set.univ (m := Memref.whole cc0_stg5_0) (r := colR g inb) (Mk := Finset.univ) (Finset.subset_univ _)) $$ H
  iintro H
  iapply Hk
  iexists _
  isplitr
  · ipureintro
    exact out_write g inb f hw hf
  iexact H

theorem out_col (g : Fin 3) (A : ℕ → Fin 256 → F .bf16) (j : S2x512x256.Idx) :
    shapeCast S2x512x256 (extf .f32 (shapeCast S1024x256 ((fun j => A (0 + (0 + (j 1).val)) (j 2)) : Vec F S1x1024x256 .bf16) shapeCasts_S1x1024x256_S1024x256) bitsLt_bf16_f32 : FVec F S1024x256 .f32)
        shapeCasts_S1024x256_S2x512x256 j
      = FloatOps.extf .f32 bitsLt_bf16_f32 (A (512 * (j 0).val + (j 1).val) (j 2)) := by
  rw [out_val]
  show FloatOps.extf .f32 bitsLt_bf16_f32 (A (0 + (0 + (512 * (j 0).val + (j 1).val))) (j 2)) = _
  rw [Nat.zero_add, Nat.zero_add]

end Out

/-! ## Rows cut and put together -/

/-- Two blocks added, one of the accumulator and one that has landed. -/
theorem add_val {n lo : ℕ} {B C D : ℕ → Fin 256 → F .bf16} (hD : ∀ r j, D r j = FloatOps.addf (B r j) (C r j))
    (h : (B1 n).ShapeCasts (B2 n)) (h' : (B2 n).ShapeCasts (B1 n)) (j : (B1 n).Idx) :
    shapeCast (B1 n) (addf (φ := .bf16) (shapeCast (B2 n) ((fun j => B (0 + (lo + (j 1).val)) (j 2)) : (B1 n).Idx → F .bf16) h)
      (shapeCast (B2 n) ((fun j => C (lo + (0 + (j 1).val)) (j 2)) : (B1 n).Idx → F .bf16) h)) h' j = D (0 + (lo + (j 1).val)) (j 2) := by
  refine (addf_block h h' _ _ j).trans ?_
  exact (congrArg (fun r => FloatOps.addf (B (0 + (lo + (j 1).val)) (j 2)) (C r (j 2))) (show lo + (0 + (j 1).val) = 0 + (lo + (j 1).val) by omega)).trans
    (hD _ _).symm

theorem bit01 : ∀ (a : Fin 3) (c : Dev nD), bit a c = 0 ∨ bit a c = 1 := by decide

section Rows
variable {M : M3 1024} {c : Dev nD} {g : ℕ} {A : ℕ → Fin 256 → F .bf16}

theorem halves (h : Fin 3) : (regX M c g 0 1024 : sProp 𝕄) ⊢ iprop(regX M c g (gv0 h c) 512 ∗ regX M c g (kp0 h c) 512) := by
  have e : (regX M c g 0 1024 : sProp 𝕄) ⊢ iprop(regX M c g 0 512 ∗ regX M c g (0 + 512) 512) := regX_split (n := 512) (n' := 512)
  unfold gv0 kp0
  rcases bit01 (ax h 0) c with hb | hb <;> rw [hb]
  · exact e.trans sep_comm.1
  · exact e

theorem whole_of_halves (h : Fin 3) : iprop(regA M c g (gv0 h c) 512 0 A ∗ regA M c g (kp0 h c) 512 0 A) ⊢ regA M c g 0 1024 0 A := by
  have e : iprop(regA M c g 0 512 0 A ∗ regA M c g (0 + 512) 512 0 A) ⊢ regA M c g 0 1024 0 A := regA_join (n := 512) (n' := 512)
  unfold gv0 kp0
  rcases bit01 (ax h 0) c with hb | hb <;> rw [hb]
  · exact sep_comm.1.trans e
  · exact e

theorem halves_of_whole (h : Fin 3) : regA M c g 0 1024 0 A ⊢ iprop(regA M c g (gv0 h c) 512 0 A ∗ regA M c g (kp0 h c) 512 0 A) := by
  have e : regA M c g 0 1024 0 A ⊢ iprop(regA M c g 0 512 0 A ∗ regA M c g (0 + 512) 512 0 A) := regA_split (n := 512) (n' := 512)
  unfold gv0 kp0
  rcases bit01 (ax h 0) c with hb | hb <;> rw [hb]
  · exact e.trans sep_comm.1
  · exact e

/-- The halves named by one colour's bit, renamed by another's. -/
theorem reorder (h h' : Fin 3) : iprop(regA M c g (gv0 h c) 512 0 A ∗ regA M c g (kp0 h c) 512 0 A)
    ⊢ iprop(regA M c g (gv0 h' c) 512 0 A ∗ regA M c g (kp0 h' c) 512 0 A) := (whole_of_halves h).trans (halves_of_whole h')

/-- The kept half cut into its quarters. -/
theorem quarters (h : Fin 3) : regA M c g (kp0 h c) 512 0 A ⊢ iprop(regA M c g (gv1 h c) 256 0 A ∗ regA M c g (kp1 h c) 256 0 A) := by
  have e : regA M c g (kp0 h c) 512 0 A ⊢ iprop(regA M c g (kp0 h c) 256 0 A ∗ regA M c g (kp0 h c + 256) 256 0 A) := regA_split (n := 256) (n' := 256)
  unfold gv1 kp1
  unfold kp0 at e ⊢
  rcases bit01 (ax h 1) c with hb | hb <;> rw [hb]
  · exact e.trans sep_comm.1
  · exact e

end Rows

/-- The two quarters finished. -/
theorem join4 (M : M3 1024) (g : Fin 3) : iprop(regA M c g.val (gv1 g c) 256 0 (A3 I (peer (ax g 1) c) g) ∗ regA M c g.val (kp1 g c) 256 0 (A3 I c g))
    ⊢ regA M c g.val (kp0 g c) 512 0 (A4 I c g) := by
  have h1 : regA M c g.val (gv1 g c) 256 0 (A3 I (peer (ax g 1) c) g) ⊢ regA M c g.val (gv1 g c) 256 0 (A4 I c g) := regA_congr fun r j hl hh => by
    unfold A4
    rw [if_neg]
    unfold gv1 at hl hh
    unfold kp1
    rcases bit01 (ax g 1) c with hb | hb <;> rw [hb] at hl hh ⊢ <;> omega
  have h2 : regA M c g.val (kp1 g c) 256 0 (A3 I c g) ⊢ regA M c g.val (kp1 g c) 256 0 (A4 I c g) := regA_congr fun r j hl hh => by
    unfold A4
    rw [if_pos (by omega)]
  have e : iprop(regA M c g.val (kp0 g c) 256 0 (A4 I c g) ∗ regA M c g.val (kp0 g c + 256) 256 0 (A4 I c g)) ⊢ regA M c g.val (kp0 g c) 512 0 (A4 I c g) :=
    regA_join (n := 256) (n' := 256)
  refine (BIClass.sep_mono h1 h2).trans ?_
  generalize A4 I c g = A at e ⊢
  unfold gv1 kp1
  unfold kp0 at e ⊢
  rcases bit01 (ax g 1) c with hb | hb <;> rw [hb]
  · exact sep_comm.1.trans e
  · exact e

/-- The two halves finished. -/
theorem join5 (M : M3 1024) (g : Fin 3) : iprop(regA M c g.val (gv0 g c) 512 0 (A4 I (peer (ax g 0) c) g) ∗ regA M c g.val (kp0 g c) 512 0 (A4 I c g))
    ⊢ regA M c g.val 0 1024 0 (fin I c g) := by
  have h1 : regA M c g.val (gv0 g c) 512 0 (A4 I (peer (ax g 0) c) g) ⊢ regA M c g.val (gv0 g c) 512 0 (fin I c g) := regA_congr fun r j hl hh => by
    unfold fin
    rw [if_neg]
    unfold gv0 at hl hh
    unfold kp0
    rcases bit01 (ax g 0) c with hb | hb <;> rw [hb] at hl hh ⊢ <;> omega
  have h2 : regA M c g.val (kp0 g c) 512 0 (A4 I c g) ⊢ regA M c g.val (kp0 g c) 512 0 (fin I c g) := regA_congr fun r j hl hh => by
    unfold fin
    rw [if_pos (by omega)]
  exact (BIClass.sep_mono h1 h2).trans (whole_of_halves g)

end Cert.CubeProof
-- ==== Proof.Facts.lean ====
/-
# The offsets, the neighbours and the semaphores of the kernel's transfers
-/
module

public import proofs.«01_k».proof.Proof.Blocks

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Where the blocks lie -/

theorem off1_at (c : Dev nD) : k0_off1 c = ![0, 512 * c.val] := k0_off1_eq c
theorem off2_at (c : Dev nD) : k0_off2 c = ![512 * c.val, 0] := k0_off2_eq c
theorem off3_at (c : Dev nD) : k0_off3 c = ![1 - bit 0 c, 0, 0] := k0_off3_eq c
theorem off4_at (c : Dev nD) : k0_off4 c = ![1 - bit 0 c, 0, 0, 0] := k0_off4_eq c
theorem off9_at (c : Dev nD) : k0_off9 c = ![bit 0 c, 0, 0] := k0_off9_eq c
theorem off10_at (c : Dev nD) : k0_off10 c = ![bit 0 c, 0, 0, 0] := k0_off10_eq c
theorem off5_at (c : Dev nD) : k0_off5 c = ![(0 : Fin 3).val, gv0 0 c, 0] := k0_off5_eq c
theorem off6_at (c : Dev nD) : k0_off6 c = ![(1 : Fin 3).val, gv0 0 c, 0] := k0_off6_eq c
theorem off7_at (c : Dev nD) : k0_off7 c = ![(2 : Fin 3).val, gv0 0 c, 0] := k0_off7_eq c
theorem off8_at (c : Dev nD) : k0_off8 c = ![(0 : Fin 3).val, gv0 0 c, 0] := k0_off8_eq c
theorem off11_at (c : Dev nD) : k0_off11 c = ![(0 : Fin 3).val, kp0 0 c, 0] := k0_off11_eq c
theorem off12_at (c : Dev nD) : k0_off12 c = ![(1 : Fin 3).val, kp0 0 c, 0] := k0_off12_eq c
theorem off13_at (c : Dev nD) : k0_off13 c = ![(2 : Fin 3).val, kp0 0 c, 0] := k0_off13_eq c
theorem off14_at (c : Dev nD) : k0_off14 c = ![(1 : Fin 3).val, gv0 1 c, 0] := k0_off14_eq c
theorem off15_at (c : Dev nD) : k0_off15 c = ![(2 : Fin 3).val, gv0 2 c, 0] := k0_off15_eq c
theorem off16_at (c : Dev nD) : k0_off16 c = ![(0 : Fin 3).val, gv1 0 c, 0] := k0_off16_eq c
theorem off17_at (c : Dev nD) : k0_off17 c = ![(1 : Fin 3).val, kp0 1 c, 0] := k0_off17_eq c
theorem off18_at (c : Dev nD) : k0_off18 c = ![(1 : Fin 3).val, gv1 1 c, 0] := k0_off18_eq c
theorem off19_at (c : Dev nD) : k0_off19 c = ![(2 : Fin 3).val, kp0 2 c, 0] := k0_off19_eq c
theorem off20_at (c : Dev nD) : k0_off20 c = ![(2 : Fin 3).val, gv1 2 c, 0] := k0_off20_eq c
theorem off21_at (c : Dev nD) : k0_off21 c = ![(0 : Fin 3).val, kp1 0 c, 0] := k0_off21_eq c
theorem off22_at (c : Dev nD) : k0_off22 c = ![(0 : Fin 3).val, kp1 0 c, 0] := k0_off22_eq c
theorem off23_at (c : Dev nD) : k0_off23 c = ![(1 : Fin 3).val, kp1 1 c, 0] := k0_off23_eq c
theorem off24_at (c : Dev nD) : k0_off24 c = ![(1 : Fin 3).val, kp1 1 c, 0] := k0_off24_eq c
theorem off25_at (c : Dev nD) : k0_off25 c = ![(2 : Fin 3).val, kp1 2 c, 0] := k0_off25_eq c
theorem off26_at (c : Dev nD) : k0_off26 c = ![(2 : Fin 3).val, kp1 2 c, 0] := k0_off26_eq c
theorem off27_at (c : Dev nD) : k0_off27 c = ![(0 : Fin 3).val, kp0 0 c, 0] := k0_off27_eq c
theorem off28_at (c : Dev nD) : k0_off28 c = ![(1 : Fin 3).val, kp0 1 c, 0] := k0_off28_eq c
theorem off29_at (c : Dev nD) : k0_off29 c = ![(2 : Fin 3).val, kp0 2 c, 0] := k0_off29_eq c

/-! ## Whom the transfers go to -/

theorem dev1_at : ∀ c : Dev nD, (⟨k0_dev1 c, k0_dev1_lt c⟩ : Dev nD) = peer 0 c := by decide
theorem dev2_at : ∀ c : Dev nD, (⟨k0_dev2 c, k0_dev2_lt c⟩ : Dev nD) = peer 1 c := by decide
theorem dev3_at : ∀ c : Dev nD, (⟨k0_dev3 c, k0_dev3_lt c⟩ : Dev nD) = peer 2 c := by decide
theorem dev4_at : ∀ c : Dev nD, (⟨k0_dev4 c, k0_dev4_lt c⟩ : Dev nD) = peer (tax 0 0) c := by decide
theorem dev5_at : ∀ c : Dev nD, (⟨k0_dev5 c, k0_dev5_lt c⟩ : Dev nD) = peer (tax 1 0) c := by decide
theorem dev6_at : ∀ c : Dev nD, (⟨k0_dev6 c, k0_dev6_lt c⟩ : Dev nD) = peer (tax 2 0) c := by decide
theorem dev7_at : ∀ c : Dev nD, (⟨k0_dev7 c, k0_dev7_lt c⟩ : Dev nD) = peer (tax 0 1) c := by decide
theorem dev8_at : ∀ c : Dev nD, (⟨k0_dev8 c, k0_dev8_lt c⟩ : Dev nD) = peer (tax 1 1) c := by decide
theorem dev9_at : ∀ c : Dev nD, (⟨k0_dev9 c, k0_dev9_lt c⟩ : Dev nD) = peer (tax 2 1) c := by decide
theorem dev10_at : ∀ c : Dev nD, (⟨k0_dev10 c, k0_dev10_lt c⟩ : Dev nD) = peer (tax 0 2) c := by decide
theorem dev11_at : ∀ c : Dev nD, (⟨k0_dev11 c, k0_dev11_lt c⟩ : Dev nD) = peer (tax 1 2) c := by decide
theorem dev12_at : ∀ c : Dev nD, (⟨k0_dev12 c, k0_dev12_lt c⟩ : Dev nD) = peer (tax 2 2) c := by decide
theorem dev13_at : ∀ c : Dev nD, (⟨k0_dev13 c, k0_dev13_lt c⟩ : Dev nD) = peer (tax 0 4) c := by decide
theorem dev14_at : ∀ c : Dev nD, (⟨k0_dev14 c, k0_dev14_lt c⟩ : Dev nD) = peer (tax 1 4) c := by decide
theorem dev15_at : ∀ c : Dev nD, (⟨k0_dev15 c, k0_dev15_lt c⟩ : Dev nD) = peer (tax 2 4) c := by decide
theorem dev16_at : ∀ c : Dev nD, (⟨k0_dev16 c, k0_dev16_lt c⟩ : Dev nD) = peer (tax 0 5) c := by decide
theorem dev17_at : ∀ c : Dev nD, (⟨k0_dev17 c, k0_dev17_lt c⟩ : Dev nD) = peer (tax 1 5) c := by decide
theorem dev18_at : ∀ c : Dev nD, (⟨k0_dev18 c, k0_dev18_lt c⟩ : Dev nD) = peer (tax 2 5) c := by decide

/-! ## Their semaphores -/

theorem semS_0_0 : (((cc0_scratch4 : DmaSems sig S18).slice (Rect.unit (s := S18) ![0] S1.size inb_S18_S1_0)).squeeze S_ squeezes_S1_S_).sem = sendQ 0 0 := rfl
theorem semR_0_0 : (((cc0_scratch5 : DmaSems sig S18).slice (Rect.unit (s := S18) ![0] S1.size inb_S18_S1_0)).squeeze S_ squeezes_S1_S_).sem = recvQ 0 0 := rfl
theorem semS_0_1 : (((cc0_scratch4 : DmaSems sig S18).slice (Rect.unit (s := S18) ![1] S1.size inb_S18_S1_1)).squeeze S_ squeezes_S1_S_).sem = sendQ 0 1 := rfl
theorem semR_0_1 : (((cc0_scratch5 : DmaSems sig S18).slice (Rect.unit (s := S18) ![1] S1.size inb_S18_S1_1)).squeeze S_ squeezes_S1_S_).sem = recvQ 0 1 := rfl
theorem semS_0_2 : (((cc0_scratch4 : DmaSems sig S18).slice (Rect.unit (s := S18) ![2] S1.size inb_S18_S1_2)).squeeze S_ squeezes_S1_S_).sem = sendQ 0 2 := rfl
theorem semR_0_2 : (((cc0_scratch5 : DmaSems sig S18).slice (Rect.unit (s := S18) ![2] S1.size inb_S18_S1_2)).squeeze S_ squeezes_S1_S_).sem = recvQ 0 2 := rfl
theorem semS_0_4 : (((cc0_scratch4 : DmaSems sig S18).slice (Rect.unit (s := S18) ![4] S1.size inb_S18_S1_4)).squeeze S_ squeezes_S1_S_).sem = sendQ 0 4 := rfl
theorem semR_0_4 : (((cc0_scratch5 : DmaSems sig S18).slice (Rect.unit (s := S18) ![4] S1.size inb_S18_S1_4)).squeeze S_ squeezes_S1_S_).sem = recvQ 0 4 := rfl
theorem semS_0_5 : (((cc0_scratch4 : DmaSems sig S18).slice (Rect.unit (s := S18) ![5] S1.size inb_S18_S1_5)).squeeze S_ squeezes_S1_S_).sem = sendQ 0 5 := rfl
theorem semR_0_5 : (((cc0_scratch5 : DmaSems sig S18).slice (Rect.unit (s := S18) ![5] S1.size inb_S18_S1_5)).squeeze S_ squeezes_S1_S_).sem = recvQ 0 5 := rfl
theorem semS_1_0 : (((cc0_scratch4 : DmaSems sig S18).slice (Rect.unit (s := S18) ![6] S1.size inb_S18_S1_6)).squeeze S_ squeezes_S1_S_).sem = sendQ 1 0 := rfl
theorem semR_1_0 : (((cc0_scratch5 : DmaSems sig S18).slice (Rect.unit (s := S18) ![6] S1.size inb_S18_S1_6)).squeeze S_ squeezes_S1_S_).sem = recvQ 1 0 := rfl
theorem semS_1_1 : (((cc0_scratch4 : DmaSems sig S18).slice (Rect.unit (s := S18) ![7] S1.size inb_S18_S1_7)).squeeze S_ squeezes_S1_S_).sem = sendQ 1 1 := rfl
theorem semR_1_1 : (((cc0_scratch5 : DmaSems sig S18).slice (Rect.unit (s := S18) ![7] S1.size inb_S18_S1_7)).squeeze S_ squeezes_S1_S_).sem = recvQ 1 1 := rfl
theorem semS_1_2 : (((cc0_scratch4 : DmaSems sig S18).slice (Rect.unit (s := S18) ![8] S1.size inb_S18_S1_8)).squeeze S_ squeezes_S1_S_).sem = sendQ 1 2 := rfl
theorem semR_1_2 : (((cc0_scratch5 : DmaSems sig S18).slice (Rect.unit (s := S18) ![8] S1.size inb_S18_S1_8)).squeeze S_ squeezes_S1_S_).sem = recvQ 1 2 := rfl
theorem semS_1_4 : (((cc0_scratch4 : DmaSems sig S18).slice (Rect.unit (s := S18) ![10] S1.size inb_S18_S1_10)).squeeze S_ squeezes_S1_S_).sem = sendQ 1 4 := rfl
theorem semR_1_4 : (((cc0_scratch5 : DmaSems sig S18).slice (Rect.unit (s := S18) ![10] S1.size inb_S18_S1_10)).squeeze S_ squeezes_S1_S_).sem = recvQ 1 4 := rfl
theorem semS_1_5 : (((cc0_scratch4 : DmaSems sig S18).slice (Rect.unit (s := S18) ![11] S1.size inb_S18_S1_11)).squeeze S_ squeezes_S1_S_).sem = sendQ 1 5 := rfl
theorem semR_1_5 : (((cc0_scratch5 : DmaSems sig S18).slice (Rect.unit (s := S18) ![11] S1.size inb_S18_S1_11)).squeeze S_ squeezes_S1_S_).sem = recvQ 1 5 := rfl
theorem semS_2_0 : (((cc0_scratch4 : DmaSems sig S18).slice (Rect.unit (s := S18) ![12] S1.size inb_S18_S1_12)).squeeze S_ squeezes_S1_S_).sem = sendQ 2 0 := rfl
theorem semR_2_0 : (((cc0_scratch5 : DmaSems sig S18).slice (Rect.unit (s := S18) ![12] S1.size inb_S18_S1_12)).squeeze S_ squeezes_S1_S_).sem = recvQ 2 0 := rfl
theorem semS_2_1 : (((cc0_scratch4 : DmaSems sig S18).slice (Rect.unit (s := S18) ![13] S1.size inb_S18_S1_13)).squeeze S_ squeezes_S1_S_).sem = sendQ 2 1 := rfl
theorem semR_2_1 : (((cc0_scratch5 : DmaSems sig S18).slice (Rect.unit (s := S18) ![13] S1.size inb_S18_S1_13)).squeeze S_ squeezes_S1_S_).sem = recvQ 2 1 := rfl
theorem semS_2_2 : (((cc0_scratch4 : DmaSems sig S18).slice (Rect.unit (s := S18) ![14] S1.size inb_S18_S1_14)).squeeze S_ squeezes_S1_S_).sem = sendQ 2 2 := rfl
theorem semR_2_2 : (((cc0_scratch5 : DmaSems sig S18).slice (Rect.unit (s := S18) ![14] S1.size inb_S18_S1_14)).squeeze S_ squeezes_S1_S_).sem = recvQ 2 2 := rfl
theorem semS_2_4 : (((cc0_scratch4 : DmaSems sig S18).slice (Rect.unit (s := S18) ![16] S1.size inb_S18_S1_16)).squeeze S_ squeezes_S1_S_).sem = sendQ 2 4 := rfl
theorem semR_2_4 : (((cc0_scratch5 : DmaSems sig S18).slice (Rect.unit (s := S18) ![16] S1.size inb_S18_S1_16)).squeeze S_ squeezes_S1_S_).sem = recvQ 2 4 := rfl
theorem semS_2_5 : (((cc0_scratch4 : DmaSems sig S18).slice (Rect.unit (s := S18) ![17] S1.size inb_S18_S1_17)).squeeze S_ squeezes_S1_S_).sem = sendQ 2 5 := rfl
theorem semR_2_5 : (((cc0_scratch5 : DmaSems sig S18).slice (Rect.unit (s := S18) ![17] S1.size inb_S18_S1_17)).squeeze S_ squeezes_S1_S_).sem = recvQ 2 5 := rfl

/-! ## What a load of a block gives -/

/-- A block of the accumulator, and one that has landed. -/
abbrev rdA (n lo : ℕ) (A : ℕ → Fin 256 → F .bf16) : Vec F (B1 n) .bf16 := fun j => A (0 + (lo + (j 1).val)) (j 2)
abbrev rdL (n lo : ℕ) (A : ℕ → Fin 256 → F .bf16) : Vec F (B1 n) .bf16 := fun j => A (lo + (0 + (j 1).val)) (j 2)

/-! ## The landing slots -/

/-- The neighbours' slots a device is handed at the barrier, by colour. -/
theorem slots_of (c : Dev nD) : iprop(barPay c 0 ∗ barPay c 1 ∗ barPay c 2) ⊢ (iprop(
    (regX r1M (peer (ax 0 0) c) (0 : Fin 3).val 0 512 ∗ regX r1M (peer (ax 1 0) c) (1 : Fin 3).val 0 512 ∗ regX r1M (peer (ax 2 0) c) (2 : Fin 3).val 0 512)
    ∗ (regX r2M (peer (ax 0 1) c) (0 : Fin 3).val 0 256 ∗ regX r2M (peer (ax 1 1) c) (1 : Fin 3).val 0 256 ∗ regX r2M (peer (ax 2 1) c) (2 : Fin 3).val 0 256)
    ∗ (regX r3M (peer (ax 0 2) c) (0 : Fin 3).val 0 256 ∗ regX r3M (peer (ax 1 2) c) (1 : Fin 3).val 0 256 ∗ regX r3M (peer (ax 2 2) c) (2 : Fin 3).val 0 256)) : sProp 𝕄) := by
  unfold barPay
  iintro ⟨⟨A1, A2, A3⟩, ⟨B1, B2, B3⟩, ⟨C1, C2, C3⟩⟩
  isplitl [A1 B1 C1]
  · isplitl [A1]; · iexact A1
    isplitl [B1]; · iexact B1
    iexact C1
  isplitl [A2 B2 C2]
  · isplitl [B2]; · iexact B2
    isplitl [C2]; · iexact C2
    iexact A2
  isplitl [C3]; · iexact C3
  isplitl [A3]; · iexact A3
  iexact B3

/-- A device's own slots, as it hands them out. -/
theorem slots_to (c : Dev nD) : (iprop(
    (regX r1M c 0 0 512 ∗ regX r1M c 1 0 512 ∗ regX r1M c 2 0 512) ∗ (regX r2M c 0 0 256 ∗ regX r2M c 1 0 256 ∗ regX r2M c 2 0 256)
    ∗ (regX r3M c 0 0 256 ∗ regX r3M c 1 0 256 ∗ regX r3M c 2 0 256)) : sProp 𝕄)
    ⊢ iprop(barPay (peer 0 c) 0 ∗ barPay (peer 1 c) 1 ∗ barPay (peer 2 c) 2) := by
  unfold barPay
  rw [peer_peer, peer_peer, peer_peer]
  iintro ⟨⟨A1, B1, C1⟩, ⟨A2, B2, C2⟩, ⟨A3, B3, C3⟩⟩
  isplitl [A1 C2 B3]
  · isplitl [A1]; · iexact A1
    isplitl [C2]; · iexact C2
    iexact B3
  isplitl [B1 A2 C3]
  · isplitl [B1]; · iexact B1
    isplitl [A2]; · iexact A2
    iexact C3
  isplitl [C1]; · iexact C1
  isplitl [B2]; · iexact B2
  iexact A3

/-! ## What a wait hands over, and the end of a part -/

section
variable (I : Ins F) (c : Dev nD) (g : Fin 3)
theorem recv_0 : recvPay I c g (0 : Fin 6).val ⊢ iprop(regA r1M c g.val 0 512 (kp0 g c) (A0 I (peer (ax g 0) c) g) ∗ regX aM (peer (ax g 0) c) g.val (kp0 g c) 512) := BI.Entails.refl _
theorem recv_1 : recvPay I c g (1 : Fin 6).val ⊢ iprop(regA r2M c g.val 0 256 (kp1 g c) (A1 I (peer (ax g 1) c) g) ∗ regX aM (peer (ax g 1) c) g.val (kp1 g c) 256) := BI.Entails.refl _
theorem recv_2 : recvPay I c g (2 : Fin 6).val ⊢ regA r3M c g.val 0 256 (kp1 g c) (A2 I (peer (ax g 2) c) g) := BI.Entails.refl _
theorem recv_4 : recvPay I c g (4 : Fin 6).val ⊢ regA aM c g.val (gv1 g c) 256 0 (A3 I (peer (ax g 1) c) g) := BI.Entails.refl _
theorem recv_5 : recvPay I c g (5 : Fin 6).val ⊢ regA aM c g.val (gv0 g c) 512 0 (A4 I (peer (ax g 0) c) g) := BI.Entails.refl _
theorem sent_2 : sendPay I c g (2 : Fin 6).val ⊢ regA aM c g.val (kp1 g c) 256 0 (A2 I c g) := BI.Entails.refl _
theorem sent_4 : sendPay I c g (4 : Fin 6).val ⊢ regA aM c g.val (kp1 g c) 256 0 (A3 I c g) := BI.Entails.refl _
theorem sent_5 : sendPay I c g (5 : Fin 6).val ⊢ regA aM c g.val (kp0 g c) 512 0 (A4 I c g) := BI.Entails.refl _
end

theorem wp_done {α : Type} {c : Dev nD} {a : α} {Q : α → sProp (MT nD τ sig Unit (Elt F) ℕ UU ℕ)} : Q a ⊢ WP c (Prog.ret a) Q := by
  show Q a ⊢ wp frame (wpE (defs₀ (F := F)) 𝒱₀ (c : Thread nD τ) none) Set.univ (Prog.ret a) Q
  rw [wp_ret]
  iintro H
  imodintro
  iexact H

end Cert.CubeProof
-- ==== Proof.Parts1.lean ====
/-
# The parts that compute
-/
module

public import proofs.«01_k».proof.Proof.Facts

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem gv0_blk : ∀ c : Dev nD, 512 * (1 - bit 0 c) = gv0 0 c := by decide

theorem st6_0 (I : Ins F) (c : Dev nD) {v33 : FVec F S512x768 .bf16} {v89 : FVec F S512x512 .bf16} {v104 : FVec F S512x64 .bf16} {v119 : FVec F S512x64 .bf16} {v134 : FVec F S512x64 .bf16} {v149 : FVec F S512x64 .bf16} {v164 : FVec F S512x64 .bf16} {v179 : FVec F S512x64 .bf16} {v194 : FVec F S512x64 .bf16} {v199 : FVec F S512x512 .f32} {v200 : FVec F S512 .f32}
    (hv : k0_pay20 v33 v89 v104 v119 v134 v149 v164 v179 v194 v199 v200 = outB I c (1 - bit 0 c)) (j : (B1 512).Idx) :
    k0_pay21 v33 v89 v104 v119 v134 v149 v164 v179 v194 v199 v200 j = A0 I c 0 (0 + (gv0 0 c + (j 1).val)) (j 2) := by
  have h := slice_A0 I c 0 (off := ![0, 0]) rfl slices_S512x768_o0_0_S512x256 (b := (1 - bit 0 c)) j
  rw [← hv, show 512 * (1 - bit 0 c) = gv0 0 c from gv0_blk c] at h
  exact h

theorem st6_1 (I : Ins F) (c : Dev nD) {v33 : FVec F S512x768 .bf16} {v89 : FVec F S512x512 .bf16} {v104 : FVec F S512x64 .bf16} {v119 : FVec F S512x64 .bf16} {v134 : FVec F S512x64 .bf16} {v149 : FVec F S512x64 .bf16} {v164 : FVec F S512x64 .bf16} {v179 : FVec F S512x64 .bf16} {v194 : FVec F S512x64 .bf16} {v199 : FVec F S512x512 .f32} {v200 : FVec F S512 .f32}
    (hv : k0_pay20 v33 v89 v104 v119 v134 v149 v164 v179 v194 v199 v200 = outB I c (1 - bit 0 c)) (j : (B1 512).Idx) :
    k0_pay22 v33 v89 v104 v119 v134 v149 v164 v179 v194 v199 v200 j = A0 I c 1 (0 + (gv0 0 c + (j 1).val)) (j 2) := by
  have h := slice_A0 I c 1 (off := ![0, 256]) rfl slices_S512x768_o0_256_S512x256 (b := (1 - bit 0 c)) j
  rw [← hv, show 512 * (1 - bit 0 c) = gv0 0 c from gv0_blk c] at h
  exact h

theorem st6_2 (I : Ins F) (c : Dev nD) {v33 : FVec F S512x768 .bf16} {v89 : FVec F S512x512 .bf16} {v104 : FVec F S512x64 .bf16} {v119 : FVec F S512x64 .bf16} {v134 : FVec F S512x64 .bf16} {v149 : FVec F S512x64 .bf16} {v164 : FVec F S512x64 .bf16} {v179 : FVec F S512x64 .bf16} {v194 : FVec F S512x64 .bf16} {v199 : FVec F S512x512 .f32} {v200 : FVec F S512 .f32}
    (hv : k0_pay20 v33 v89 v104 v119 v134 v149 v164 v179 v194 v199 v200 = outB I c (1 - bit 0 c)) (j : (B1 512).Idx) :
    k0_pay23 v33 v89 v104 v119 v134 v149 v164 v179 v194 v199 v200 j = A0 I c 2 (0 + (gv0 0 c + (j 1).val)) (j 2) := by
  have h := slice_A0 I c 2 (off := ![0, 512]) rfl slices_S512x768_o0_512_S512x256 (b := (1 - bit 0 c)) j
  rw [← hv, show 512 * (1 - bit 0 c) = gv0 0 c from gv0_blk c] at h
  exact h

theorem st10_0 (I : Ins F) (c : Dev nD) {v33 : FVec F S512x768 .bf16} {v271 : FVec F S512x64 .bf16} {v286 : FVec F S512x64 .bf16} {v301 : FVec F S512x64 .bf16} {v316 : FVec F S512x64 .bf16} {v331 : FVec F S512x64 .bf16} {v346 : FVec F S512x64 .bf16} {v361 : FVec F S512x64 .bf16} {v375 : FVec F S512x64 .f32}
    (hv : k0_pay41 v33 v271 v286 v301 v316 v331 v346 v361 v375 = outB I c (bit 0 c)) (j : (B1 512).Idx) :
    k0_pay42 v33 v271 v286 v301 v316 v331 v346 v361 v375 j = A0 I c 0 (0 + (kp0 0 c + (j 1).val)) (j 2) := by
  have h := slice_A0 I c 0 (off := ![0, 0]) rfl slices_S512x768_o0_0_S512x256 (b := (bit 0 c)) j
  rw [← hv, show 512 * (bit 0 c) = kp0 0 c from rfl] at h
  exact h

theorem st10_1 (I : Ins F) (c : Dev nD) {v33 : FVec F S512x768 .bf16} {v271 : FVec F S512x64 .bf16} {v286 : FVec F S512x64 .bf16} {v301 : FVec F S512x64 .bf16} {v316 : FVec F S512x64 .bf16} {v331 : FVec F S512x64 .bf16} {v346 : FVec F S512x64 .bf16} {v361 : FVec F S512x64 .bf16} {v375 : FVec F S512x64 .f32}
    (hv : k0_pay41 v33 v271 v286 v301 v316 v331 v346 v361 v375 = outB I c (bit 0 c)) (j : (B1 512).Idx) :
    k0_pay43 v33 v271 v286 v301 v316 v331 v346 v361 v375 j = A0 I c 1 (0 + (kp0 0 c + (j 1).val)) (j 2) := by
  have h := slice_A0 I c 1 (off := ![0, 256]) rfl slices_S512x768_o0_256_S512x256 (b := (bit 0 c)) j
  rw [← hv, show 512 * (bit 0 c) = kp0 0 c from rfl] at h
  exact h

theorem st10_2 (I : Ins F) (c : Dev nD) {v33 : FVec F S512x768 .bf16} {v271 : FVec F S512x64 .bf16} {v286 : FVec F S512x64 .bf16} {v301 : FVec F S512x64 .bf16} {v316 : FVec F S512x64 .bf16} {v331 : FVec F S512x64 .bf16} {v346 : FVec F S512x64 .bf16} {v361 : FVec F S512x64 .bf16} {v375 : FVec F S512x64 .f32}
    (hv : k0_pay41 v33 v271 v286 v301 v316 v331 v346 v361 v375 = outB I c (bit 0 c)) (j : (B1 512).Idx) :
    k0_pay44 v33 v271 v286 v301 v316 v331 v346 v361 v375 j = A0 I c 2 (0 + (kp0 0 c + (j 1).val)) (j 2) := by
  have h := slice_A0 I c 2 (off := ![0, 512]) rfl slices_S512x768_o0_512_S512x256 (b := (bit 0 c)) j
  rw [← hv, show 512 * (bit 0 c) = kp0 0 c from rfl] at h
  exact h

section
variable (I : Ins F) (K : Dev nD × CK → ℕ) (c : Dev nD) {Q : (Σ' (v29 : FVec F S768x512 .bf16) (v33 : FVec F S512x768 .bf16) (v48 : FVec F S512x512 .f32) (v49 : BitVec 32) (v53 : BitVec 32) (v57 : BitVec 32) (v61 : BitVec 32) (v65 : BitVec 32), BitVec 32) → sProp (MT nD τ sig Unit (Elt F) ℕ UU ℕ)}

theorem part2 (v2 : BitVec 32) (v4 : BitVec 32) (v7 : BitVec 32) (v8 : BitVec 32) (v26 : BitVec 32)  :
    iprop(stgP c cc0_stg1_0 (I.Wq c) ∗ stgP c cc0_stg4_0 (I.Wo c))
      ⊢ iprop((iprop(∀ w1 : BitVec 32, ∀ w2 : BitVec 32, ∀ w3 : BitVec 32, ∀ w4 : BitVec 32, ∀ w5 : BitVec 32, iprop(stgP c cc0_stg1_0 (I.Wq c) ∗ stgP c cc0_stg4_0 (I.Wo c)) -∗ Q ⟨k0_pay2 (wqS I c), k0_pay3 (woS I c), k0_pay4, w1, w2, w3, w4, w5, 1#32⟩)) -∗ WP c (at0 (k0_part2 (F := F)) c v2 v4 v7 v8 v26) Q) := by
  unfold at0
  simp only [k0_part2_eq_skeleton]
  unfold k0_part2_skel
  simp only [Prog.lift, Prog.bind_op, Prog.bind_ret, Prog.pure_eq_ret]
  iintro ⟨Oq, Oo⟩ Hk
  iapply (wp_load_stg (c := c) (m := Memref.whole cc0_stg1_0) (read_wq (I := I) (c := c) (off1_at c) (k0_off1_inb c))) $$ Oq
  iintro Oq
  iapply (wp_load_stg (c := c) (m := Memref.whole cc0_stg4_0) (read_wo (I := I) (c := c) (off2_at c) (k0_off2_inb c))) $$ Oo
  iintro Oo
  iapply wp_done
  iapply Hk $$ %_ %_ %_ %_ %_
  isplitl [Oq]; · iexact Oq
  iexact Oo

end

section
variable (I : Ins F) (K : Dev nD × CK → ℕ) (c : Dev nD) {Q : (Σ' (v69 : BitVec 32) (v73 : BitVec 32) (v81 : FVec F S512x512 .bf16) (v85 : FVec F S512x512 .bf16) (v89 : FVec F S512x512 .bf16) (v104 : FVec F S512x64 .bf16) (v105 : FVec F S512x64 .bf16), FVec F S512x64 .bf16) → sProp (MT nD τ sig Unit (Elt F) ℕ UU ℕ)}

theorem part3 (v7 : BitVec 32) (v8 : BitVec 32) (v29 : FVec F S768x512 .bf16) (v48 : FVec F S512x512 .f32) (v65 : BitVec 32) (c1_i32_35 : BitVec 32)  :
    iprop(stgP c cc0_stg0_0 (I.X c) ∗ stgP c cc0_stg2_0 (I.K c) ∗ stgP c cc0_stg3_0 (I.V c))
      ⊢ iprop((iprop(∀ w1 : BitVec 32, ∀ w2 : BitVec 32, iprop(stgP c cc0_stg0_0 (I.X c) ∗ stgP c cc0_stg2_0 (I.K c) ∗ stgP c cc0_stg3_0 (I.V c)) -∗ Q ⟨w1, w2, k0_pay5 v29 (xB I c (1 - bit 0 c)), k0_pay6 (kB I c (1 - bit 0 c)), k0_pay7 (vB I c (1 - bit 0 c)), k0_pay8 v29 v48 (xB I c (1 - bit 0 c)) (kB I c (1 - bit 0 c)) (vB I c (1 - bit 0 c)), k0_pay9 v29 (xB I c (1 - bit 0 c)), k0_pay10 (kB I c (1 - bit 0 c))⟩)) -∗ WP c (at0 (k0_part3 (F := F)) c v7 v8 v29 v48 v65 c1_i32_35) Q) := by
  unfold at0
  simp only [k0_part3_eq_skeleton]
  unfold k0_part3_skel
  simp only [Prog.lift, Prog.bind_op, Prog.bind_ret, Prog.pure_eq_ret]
  iintro ⟨Ox, Ok, Ov⟩ Hk
  iapply (wp_load_stg (c := c) (m := Memref.whole cc0_stg0_0) (read_x (I := I) (c := c) (off3_at c) (k0_off3_inb c))) $$ Ox
  iintro Ox
  iapply (wp_load_stg (c := c) (m := Memref.whole cc0_stg2_0) (read_k (I := I) (c := c) (off4_at c) (k0_off4_inb c))) $$ Ok
  iintro Ok
  iapply (wp_load_stg (c := c) (m := Memref.whole cc0_stg3_0) (read_v (I := I) (c := c) (off4_at c) (k0_off4_inb c))) $$ Ov
  iintro Ov
  iapply wp_done
  iapply Hk $$ %_ %_
  isplitl [Ox]; · iexact Ox
  isplitl [Ok]; · iexact Ok
  iexact Ov

end

section
variable (I : Ins F) (K : Dev nD × CK → ℕ) (c : Dev nD) {Q : (Σ' (v119 : FVec F S512x64 .bf16) (v134 : FVec F S512x64 .bf16) (v149 : FVec F S512x64 .bf16), FVec F S512x512 .f32) → sProp (MT nD τ sig Unit (Elt F) ℕ UU ℕ)}

theorem part4 (v48 : FVec F S512x512 .f32) (v81 : FVec F S512x512 .bf16) (v85 : FVec F S512x512 .bf16) (v89 : FVec F S512x512 .bf16) (v105 : FVec F S512x64 .bf16) (v106 : FVec F S512x64 .bf16)  :
    Q ⟨k0_pay11 v48 v89 v105 v106, k0_pay12 v48 v81 v85 v89, k0_pay13 v48 v81 v85 v89, k0_pay14 v48 v81 v85⟩ ⊢ WP c (at0 (k0_part4 (F := F)) v48 v81 v85 v89 v105 v106) Q := by
  unfold at0
  simp only [k0_part4_eq_skeleton]
  unfold k0_part4_skel
  simp only [Prog.lift, Prog.bind_op, Prog.bind_ret, Prog.pure_eq_ret]
  exact wp_done

end

section
variable (I : Ins F) (K : Dev nD × CK → ℕ) (c : Dev nD) {Q : (Σ' (v164 : FVec F S512x64 .bf16) (v179 : FVec F S512x64 .bf16) (v194 : FVec F S512x64 .bf16) (v199 : FVec F S512x512 .f32), FVec F S512 .f32) → sProp (MT nD τ sig Unit (Elt F) ℕ UU ℕ)}

theorem part5 (v48 : FVec F S512x512 .f32) (v81 : FVec F S512x512 .bf16) (v85 : FVec F S512x512 .bf16) (v89 : FVec F S512x512 .bf16) (v153 : FVec F S512x512 .f32)  :
    Q ⟨k0_pay15 v89 v153, k0_pay16 v48 v81 v85 v89, k0_pay17 v48 v81 v85 v89, k0_pay18 v48 v81 v85, k0_pay19 v48 v81 v85⟩ ⊢ WP c (at0 (k0_part5 (F := F)) v48 v81 v85 v89 v153) Q := by
  unfold at0
  simp only [k0_part5_eq_skeleton]
  unfold k0_part5_skel
  simp only [Prog.lift, Prog.bind_op, Prog.bind_ret, Prog.pure_eq_ret]
  exact wp_done

end

section
variable (I : Ins F) (K : Dev nD × CK → ℕ) (c : Dev nD) {Q : (PUnit) → sProp (MT nD τ sig Unit (Elt F) ℕ UU ℕ)}

theorem part6 (v12 : BitVec 32) (v33 : FVec F S512x768 .bf16) (v73 : BitVec 32) (v89 : FVec F S512x512 .bf16) (v104 : FVec F S512x64 .bf16) (v119 : FVec F S512x64 .bf16) (v134 : FVec F S512x64 .bf16) (v149 : FVec F S512x64 .bf16) (v164 : FVec F S512x64 .bf16) (v179 : FVec F S512x64 .bf16) (v194 : FVec F S512x64 .bf16) (v199 : FVec F S512x512 .f32) (v200 : FVec F S512 .f32) (hv : k0_pay20 v33 v89 v104 v119 v134 v149 v164 v179 v194 v199 v200 = outB I c (1 - bit 0 c)) :
    iprop(regX aM c (0 : Fin 3).val 0 1024 ∗ regX aM c (1 : Fin 3).val 0 1024 ∗ regX aM c (2 : Fin 3).val 0 1024)
      ⊢ iprop((iprop(iprop(regX aM c (0 : Fin 3).val (kp0 0 c) 512 ∗ regX aM c (1 : Fin 3).val (kp0 0 c) 512 ∗ regX aM c (2 : Fin 3).val (kp0 0 c) 512 ∗ regA aM c (0 : Fin 3).val (gv0 0 c) 512 0 (A0 I c 0) ∗ regA aM c (1 : Fin 3).val (gv0 0 c) 512 0 (A0 I c 1) ∗ regA aM c (2 : Fin 3).val (gv0 0 c) 512 0 (A0 I c 2)) -∗ Q ⟨⟩)) -∗ WP c (at0 (k0_part6 (F := F)) c v12 v33 v73 v89 v104 v119 v134 v149 v164 v179 v194 v199 v200) Q) := by
  unfold at0
  simp only [k0_part6_eq_skeleton]
  unfold k0_part6_skel
  simp only [Prog.lift, Prog.bind_op, Prog.bind_ret, Prog.pure_eq_ret]
  iintro ⟨HA0, HA1, HA2⟩ Hk
  ihave HA0 := (halves (M := aM) (c := c) (g := (0 : Fin 3).val) 0) $$ HA0
  icases HA0 with ⟨HG0, HK0⟩
  ihave HA1 := (halves (M := aM) (c := c) (g := (1 : Fin 3).val) 0) $$ HA1
  icases HA1 with ⟨HG1, HK1⟩
  ihave HA2 := (halves (M := aM) (c := c) (g := (2 : Fin 3).val) 0) $$ HA2
  icases HA2 with ⟨HG2, HK2⟩
  iapply (wp_load_any (M := aM) (c := c) (g := (0 : Fin 3).val) (lo := gv0 0 c) (n := 512) (off5_at c) (k0_off5_inb c)) $$ HG0
  iintro HG0
  iapply (wp_store_reg (M := aM) (c := c) (g := (0 : Fin 3).val) (lo := gv0 0 c) (n := 512) (o := 0) (A := A0 I c 0) (off5_at c) (k0_off5_inb c)
    (w := k0_pay21 v33 v89 v104 v119 v134 v149 v164 v179 v194 v199 v200) (st6_0 I c hv)) $$ [HG0]
  · iexact HG0
  iintro HG0
  iapply (wp_load_any (M := aM) (c := c) (g := (1 : Fin 3).val) (lo := gv0 0 c) (n := 512) (off6_at c) (k0_off6_inb c)) $$ HG1
  iintro HG1
  iapply (wp_store_reg (M := aM) (c := c) (g := (1 : Fin 3).val) (lo := gv0 0 c) (n := 512) (o := 0) (A := A0 I c 1) (off6_at c) (k0_off6_inb c)
    (w := k0_pay22 v33 v89 v104 v119 v134 v149 v164 v179 v194 v199 v200) (st6_1 I c hv)) $$ [HG1]
  · iexact HG1
  iintro HG1
  iapply (wp_load_any (M := aM) (c := c) (g := (2 : Fin 3).val) (lo := gv0 0 c) (n := 512) (off7_at c) (k0_off7_inb c)) $$ HG2
  iintro HG2
  iapply (wp_store_reg (M := aM) (c := c) (g := (2 : Fin 3).val) (lo := gv0 0 c) (n := 512) (o := 0) (A := A0 I c 2) (off7_at c) (k0_off7_inb c)
    (w := k0_pay23 v33 v89 v104 v119 v134 v149 v164 v179 v194 v199 v200) (st6_2 I c hv)) $$ [HG2]
  · iexact HG2
  iintro HG2
  iapply wp_done
  iapply Hk
  isplitl [HK0]; · iexact HK0
  isplitl [HK1]; · iexact HK1
  isplitl [HK2]; · iexact HK2
  isplitl [HG0]; · iexact HG0
  isplitl [HG1]; · iexact HG1
  iexact HG2

end

section
variable (I : Ins F) (K : Dev nD × CK → ℕ) (c : Dev nD) {Q : (Σ' (v248 : FVec F S512x512 .bf16) (v252 : FVec F S512x512 .bf16) (v256 : FVec F S512x512 .bf16) (v271 : FVec F S512x64 .bf16) (v276 : FVec F S512x512 .f32), FVec F S512x1 .f32) → sProp (MT nD τ sig Unit (Elt F) ℕ UU ℕ)}

theorem part7 (v7 : BitVec 32) (v29 : FVec F S768x512 .bf16) (v48 : FVec F S512x512 .f32)  :
    iprop(recs I K ∗ levAts L lv ∗ regA aM c (0 : Fin 3).val (gv0 0 c) 512 0 (A0 I c 0) ∗ regX r1M (peer (ax 0 0) c) (0 : Fin 3).val 0 512 ∗ owesK c 0 ∗ tok c 0 0 ∗ posS c 0 0 ∗ stgP c cc0_stg0_0 (I.X c) ∗ stgP c cc0_stg2_0 (I.K c) ∗ stgP c cc0_stg3_0 (I.V c))
      ⊢ iprop((iprop(iprop(fly c 0 0 ∗ owesK c 1 ∗ stgP c cc0_stg0_0 (I.X c) ∗ stgP c cc0_stg2_0 (I.K c) ∗ stgP c cc0_stg3_0 (I.V c)) -∗ Q ⟨k0_pay24 v29 (xB I c (bit 0 c)), k0_pay25 (kB I c (bit 0 c)), k0_pay26 (vB I c (bit 0 c)), k0_pay27 v29 v48 (xB I c (bit 0 c)) (kB I c (bit 0 c)) (vB I c (bit 0 c)), k0_pay28 v29 v48 (xB I c (bit 0 c)) (kB I c (bit 0 c)), k0_pay29 v29 v48 (xB I c (bit 0 c)) (kB I c (bit 0 c))⟩)) -∗ WP c (at0 (k0_part7 (F := F)) c v7 v29 v48) Q) := by
  unfold at0
  simp only [k0_part7_eq_skeleton]
  unfold k0_part7_skel
  simp only [Prog.lift, Prog.bind_op, Prog.bind_ret, Prog.pure_eq_ret]
  iintro ⟨#HR, #HL, HG0, U0, HO, T00, P00, Ox, Ok, Ov⟩ Hk
  iapply (send0 (I := I) (K := K) (c := c) 0 0 rfl (dev4_at c) semS_0_0 semR_0_0 (off8_at c) (show ![0, 0, 0] = ![(0 : Fin 3).val, 0, 0] from rfl)) $$ [HG0 U0 HO T00 P00]
  · isplitr; · iexact HR
    isplitl [HG0]; · iexact HG0
    isplitl [U0]; · iexact U0
    isplitl [HO]; · iexact HO
    isplitl [T00]; · iexact T00
    iexact P00
  iintro ⟨P00, HO⟩
  iapply (wp_load_stg (c := c) (m := Memref.whole cc0_stg0_0) (read_x (I := I) (c := c) (off9_at c) (k0_off9_inb c))) $$ Ox
  iintro Ox
  iapply (wp_load_stg (c := c) (m := Memref.whole cc0_stg2_0) (read_k (I := I) (c := c) (off10_at c) (k0_off10_inb c))) $$ Ok
  iintro Ok
  iapply (wp_load_stg (c := c) (m := Memref.whole cc0_stg3_0) (read_v (I := I) (c := c) (off10_at c) (k0_off10_inb c))) $$ Ov
  iintro Ov
  iapply wp_done
  iapply Hk
  isplitl [P00]; · iexact P00
  isplitl [HO]; · iexact HO
  isplitl [Ox]; · iexact Ox
  isplitl [Ok]; · iexact Ok
  iexact Ov

end

section
variable (I : Ins F) (K : Dev nD × CK → ℕ) (c : Dev nD) {Q : (Σ' (v286 : FVec F S512x64 .bf16) (v301 : FVec F S512x64 .bf16) (v316 : FVec F S512x64 .bf16) (v325 : FVec F S512x1 .f32) (v326 : FVec F S512x64 .bf16) (v327 : FVec F S512x512 .bf16), FVec F S512x64 .f32) → sProp (MT nD τ sig Unit (Elt F) ℕ UU ℕ)}

theorem part8 (v48 : FVec F S512x512 .f32) (v248 : FVec F S512x512 .bf16) (v252 : FVec F S512x512 .bf16) (v256 : FVec F S512x512 .bf16) (v276 : FVec F S512x512 .f32) (v280 : FVec F S512x1 .f32)  :
    Q ⟨k0_pay30 v256 v276 v280, k0_pay31 v48 v248 v252 v256, k0_pay32 v48 v248 v252 v256, k0_pay34 v48 v248 v252, k0_pay35 v256, k0_pay36 v48 v248 v252, constant S512x64 .f32 0x00000000#32⟩ ⊢ WP c (at0 (k0_part8 (F := F)) v48 v248 v252 v256 v276 v280) Q := by
  unfold at0
  simp only [k0_part8_eq_skeleton]
  unfold k0_part8_skel
  simp only [Prog.lift, Prog.bind_op, Prog.bind_ret, Prog.pure_eq_ret]
  exact wp_done

end

section
variable (I : Ins F) (K : Dev nD × CK → ℕ) (c : Dev nD) {Q : (Σ' (v331 : FVec F S512x64 .bf16) (v346 : FVec F S512x64 .bf16) (v361 : FVec F S512x64 .bf16), FVec F S512x64 .f32) → sProp (MT nD τ sig Unit (Elt F) ℕ UU ℕ)}

theorem part9 (v48 : FVec F S512x512 .f32) (v248 : FVec F S512x512 .bf16) (v252 : FVec F S512x512 .bf16) (v256 : FVec F S512x512 .bf16) (v325 : FVec F S512x1 .f32) (v326 : FVec F S512x64 .bf16) (v327 : FVec F S512x512 .bf16) (cst_127 : FVec F S512x64 .f32)  :
    Q ⟨k0_pay37 v325 v326 v327 cst_127, k0_pay38 v48 v248 v252 v256, k0_pay39 v48 v248 v252 v256, k0_pay40 v48 v248 v252 v256⟩ ⊢ WP c (at0 (k0_part9 (F := F)) v48 v248 v252 v256 v325 v326 v327 cst_127) Q := by
  unfold at0
  simp only [k0_part9_eq_skeleton]
  unfold k0_part9_skel
  simp only [Prog.lift, Prog.bind_op, Prog.bind_ret, Prog.pure_eq_ret]
  exact wp_done

end

section
variable (I : Ins F) (K : Dev nD × CK → ℕ) (c : Dev nD) {Q : (Σ' (v408 : BitVec 32), BitVec 32) → sProp (MT nD τ sig Unit (Elt F) ℕ UU ℕ)}

theorem part10 (v7 : BitVec 32) (v16 : BitVec 32) (v18 : BitVec 32) (v33 : FVec F S512x768 .bf16) (v271 : FVec F S512x64 .bf16) (v286 : FVec F S512x64 .bf16) (v301 : FVec F S512x64 .bf16) (v316 : FVec F S512x64 .bf16) (v331 : FVec F S512x64 .bf16) (v346 : FVec F S512x64 .bf16) (v361 : FVec F S512x64 .bf16) (v375 : FVec F S512x64 .f32) (hv : k0_pay41 v33 v271 v286 v301 v316 v331 v346 v361 v375 = outB I c (bit 0 c)) :
    iprop(recs I K ∗ levAts L lv ∗ regX aM c (0 : Fin 3).val (kp0 0 c) 512 ∗ regX aM c (1 : Fin 3).val (kp0 0 c) 512 ∗ regX aM c (2 : Fin 3).val (kp0 0 c) 512 ∗ regA aM c (1 : Fin 3).val (gv0 0 c) 512 0 (A0 I c 1) ∗ regX r1M (peer (ax 1 0) c) (1 : Fin 3).val 0 512 ∗ owesK c 1 ∗ tok c 1 0 ∗ posS c 1 0)
      ⊢ iprop((iprop(∀ w1 : BitVec 32, iprop(regA aM c (0 : Fin 3).val (kp0 0 c) 512 0 (A0 I c 0) ∗ regA aM c (2 : Fin 3).val (kp0 0 c) 512 0 (A0 I c 2) ∗ regA aM c (1 : Fin 3).val (kp0 1 c) 512 0 (A0 I c 1) ∗ fly c 1 0 ∗ owesK c 2) -∗ Q ⟨w1, 0#32⟩)) -∗ WP c (at0 (k0_part10 (F := F)) c v7 v16 v18 v33 v271 v286 v301 v316 v331 v346 v361 v375) Q) := by
  unfold at0
  simp only [k0_part10_eq_skeleton]
  unfold k0_part10_skel
  simp only [Prog.lift, Prog.bind_op, Prog.bind_ret, Prog.pure_eq_ret]
  iintro ⟨#HR, #HL, HK0, HK1, HK2, HG1, U1, HO, T10, P10⟩ Hk
  iapply (wp_load_any (M := aM) (c := c) (g := (0 : Fin 3).val) (lo := kp0 0 c) (n := 512) (off11_at c) (k0_off11_inb c)) $$ HK0
  iintro HK0
  iapply (wp_store_reg (M := aM) (c := c) (g := (0 : Fin 3).val) (lo := kp0 0 c) (n := 512) (o := 0) (A := A0 I c 0) (off11_at c) (k0_off11_inb c)
    (w := k0_pay42 v33 v271 v286 v301 v316 v331 v346 v361 v375) (st10_0 I c hv)) $$ [HK0]
  · iexact HK0
  iintro HK0
  iapply (wp_load_any (M := aM) (c := c) (g := (1 : Fin 3).val) (lo := kp0 0 c) (n := 512) (off12_at c) (k0_off12_inb c)) $$ HK1
  iintro HK1
  iapply (wp_store_reg (M := aM) (c := c) (g := (1 : Fin 3).val) (lo := kp0 0 c) (n := 512) (o := 0) (A := A0 I c 1) (off12_at c) (k0_off12_inb c)
    (w := k0_pay43 v33 v271 v286 v301 v316 v331 v346 v361 v375) (st10_1 I c hv)) $$ [HK1]
  · iexact HK1
  iintro HK1
  iapply (wp_load_any (M := aM) (c := c) (g := (2 : Fin 3).val) (lo := kp0 0 c) (n := 512) (off13_at c) (k0_off13_inb c)) $$ HK2
  iintro HK2
  iapply (wp_store_reg (M := aM) (c := c) (g := (2 : Fin 3).val) (lo := kp0 0 c) (n := 512) (o := 0) (A := A0 I c 2) (off13_at c) (k0_off13_inb c)
    (w := k0_pay44 v33 v271 v286 v301 v316 v331 v346 v361 v375) (st10_2 I c hv)) $$ [HK2]
  · iexact HK2
  iintro HK2
  ihave HK1 := (reorder (M := aM) (c := c) (g := (1 : Fin 3).val) (A := A0 I c 1) 0 1) $$ [HG1 HK1]
  · isplitl [HG1]; · iexact HG1
    iexact HK1
  icases HK1 with ⟨HG1, HK1⟩
  iapply (send0 (I := I) (K := K) (c := c) 1 1 rfl (dev5_at c) semS_1_0 semR_1_0 (off14_at c) (show ![1, 0, 0] = ![(1 : Fin 3).val, 0, 0] from rfl)) $$ [HG1 U1 HO T10 P10]
  · isplitr; · iexact HR
    isplitl [HG1]; · iexact HG1
    isplitl [U1]; · iexact U1
    isplitl [HO]; · iexact HO
    isplitl [T10]; · iexact T10
    iexact P10
  iintro ⟨P10, HO⟩
  iapply wp_done
  iapply Hk $$ %_
  isplitl [HK0]; · iexact HK0
  isplitl [HK2]; · iexact HK2
  isplitl [HK1]; · iexact HK1
  isplitl [P10]; · iexact P10
  iexact HO

end

end Cert.CubeProof
-- ==== Proof.Parts2.lean ====
/-
# The exchanges that reduce
-/
module

public import proofs.«01_k».proof.Proof.Facts

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable (I : Ins F) (K : Dev nD × CK → ℕ) (c : Dev nD) {Q : (FVec F S512x256 .bf16) → sProp (MT nD τ sig Unit (Elt F) ℕ UU ℕ)}

theorem part11 (v12 : BitVec 32) (v49 : BitVec 32) (v408 : BitVec 32) (c0_i32_160 : BitVec 32)  :
    iprop(recs I K ∗ levAts L lv ∗ regA aM c (2 : Fin 3).val (gv0 0 c) 512 0 (A0 I c 2) ∗ regA aM c (2 : Fin 3).val (kp0 0 c) 512 0 (A0 I c 2) ∗ regX r1M (peer (ax 2 0) c) (2 : Fin 3).val 0 512 ∗ owesK c 2 ∗ tok c 2 0 ∗ posS c 2 0 ∗ fly c 0 0 ∗ posR c 0 0 ∗ regA aM c (0 : Fin 3).val (kp0 0 c) 512 0 (A0 I c 0))
      ⊢ iprop((iprop(iprop(regA aM c (2 : Fin 3).val (kp0 2 c) 512 0 (A0 I c 2) ∗ fly c 2 0 ∗ offS c 0 0 ∗ regX aM (peer (ax 0 0) c) (0 : Fin 3).val (kp0 0 c) 512 ∗ offR c 0 0 ∗ owesK c 3 ∗ regA aM c (0 : Fin 3).val (kp0 0 c) 512 0 (A0 I c 0) ∗ regA r1M c (0 : Fin 3).val (0) 512 (kp0 0 c) (A0 I (peer (ax 0 0) c) 0)) -∗ Q (k0_pay45 (rdA 512 (kp0 0 c) (A0 I c 0)) (rdL 512 (kp0 0 c) (A0 I (peer (ax 0 0) c) 0))))) -∗ WP c (at0 (k0_part11 (F := F)) c v12 v49 v408 c0_i32_160) Q) := by
  unfold at0
  simp only [k0_part11_eq_skeleton]
  unfold k0_part11_skel
  simp only [Prog.lift, Prog.bind_op, Prog.bind_ret, Prog.pure_eq_ret]
  iintro ⟨#HR, #HL, HG2, HK2, U2, HO, T20, P20, P00, R00, HK0⟩ Hk
  ihave HK2 := (reorder (M := aM) (c := c) (g := (2 : Fin 3).val) (A := A0 I c 2) 0 2) $$ [HG2 HK2]
  · isplitl [HG2]; · iexact HG2
    iexact HK2
  icases HK2 with ⟨HG2, HK2⟩
  iapply (send0 (I := I) (K := K) (c := c) 2 2 rfl (dev6_at c) semS_2_0 semR_2_0 (off15_at c) (show ![2, 0, 0] = ![(2 : Fin 3).val, 0, 0] from rfl)) $$ [HG2 U2 HO T20 P20]
  · isplitr; · iexact HR
    isplitl [HG2]; · iexact HG2
    isplitl [U2]; · iexact U2
    isplitl [HO]; · iexact HO
    isplitl [T20]; · iexact T20
    iexact P20
  iintro ⟨P20, HO⟩
  iapply (wait_send (I := I) (K := K) (c := c) 0 0 3 (by decide) (by decide) semS_0_0
    (dst := blk aM 512 (k0_off8 c) (k0_off8_inb c) (fun _ => rfl) squeezes_S1x512x256_S512x256) rfl) $$ [P00 HO]
  · isplitr; · iexact HR
    isplitr; · iexact HL
    isplitl [P00]; · iexact P00
    iexact HO
  iintro ⟨-, P00, HO⟩
  iapply (wait_recv (I := I) (K := K) (c := c) 0 0 3 (by decide) (by decide) semR_0_0
    (dst := blk r1M 512 ![0, 0, 0] inb_S3x512x256_S1x512x256_0_0_0 (fun _ => rfl) squeezes_S1x512x256_S512x256) rfl) $$ [R00 HO]
  · isplitr; · iexact HR
    isplitr; · iexact HL
    isplitl [R00]; · iexact R00
    iexact HO
  iintro ⟨U0, R00, HO⟩
  ihave U0 := (recv_0 I c 0) $$ U0
  icases U0 with ⟨U0, HX0⟩
  iapply (wp_load_reg (M := aM) (c := c) (g := (0 : Fin 3).val) (lo := kp0 0 c) (n := 512) (o := 0) (A := A0 I c 0) (off11_at c) (k0_off11_inb c) (Nat.le_refl _) (Nat.le_refl _)) $$ HK0
  iintro HK0
  iapply (wp_load_reg (M := r1M) (c := c) (g := (0 : Fin 3).val) (lo := 0) (n := 512) (o := (kp0 0 c)) (A := A0 I (peer (ax 0 0) c) 0) (show ![0, 0, 0] = ![(0 : Fin 3).val, 0, 0] from rfl) inb_S3x512x256_S1x512x256_0_0_0 (Nat.le_refl _) (Nat.le_refl _)) $$ U0
  iintro U0
  iapply wp_done
  iapply Hk
  isplitl [HK2]; · iexact HK2
  isplitl [P20]; · iexact P20
  isplitl [P00]; · iexact P00
  isplitl [HX0]; · iexact HX0
  isplitl [R00]; · iexact R00
  isplitl [HO]; · iexact HO
  isplitl [HK0]; · iexact HK0
  iexact U0

end

section
variable (I : Ins F) (K : Dev nD × CK → ℕ) (c : Dev nD) {Q : (PUnit) → sProp (MT nD τ sig Unit (Elt F) ℕ UU ℕ)}

theorem part12 (v16 : BitVec 32) (v57 : BitVec 32)  :
    iprop(recs I K ∗ levAts L lv ∗ regA aM c (0 : Fin 3).val (kp0 0 c) 512 0 (A0 I c 0) ∗ regX r2M (peer (ax 0 1) c) (0 : Fin 3).val 0 256 ∗ owesK c 3 ∗ tok c 0 1 ∗ posS c 0 1 ∗ fly c 1 0 ∗ posR c 1 0)
      ⊢ iprop((iprop(iprop(regA aM c (0 : Fin 3).val (kp1 0 c) 256 0 (A1 I c 0) ∗ fly c 0 1 ∗ offS c 1 0 ∗ regA r1M c (1 : Fin 3).val 0 512 (kp0 1 c) (A0 I (peer (ax 1 0) c) 1) ∗ regX aM (peer (ax 1 0) c) (1 : Fin 3).val (kp0 1 c) 512 ∗ offR c 1 0 ∗ owesK c 4) -∗ Q ⟨⟩)) -∗ WP c (at0 (k0_part12 (F := F)) c v16 v57 ((k0_pay45 (rdA 512 (kp0 0 c) (A0 I c 0)) (rdL 512 (kp0 0 c) (A0 I (peer (ax 0 0) c) 0))))) Q) := by
  unfold at0
  simp only [k0_part12_eq_skeleton]
  unfold k0_part12_skel
  simp only [Prog.lift, Prog.bind_op, Prog.bind_ret, Prog.pure_eq_ret]
  iintro ⟨#HR, #HL, HK0, V0, HO, T01, P01, P10, R10⟩ Hk
  iapply (wp_load_reg (M := aM) (c := c) (g := (0 : Fin 3).val) (lo := kp0 0 c) (n := 512) (o := 0) (A := A0 I c 0) (off11_at c) (k0_off11_inb c) (Nat.le_refl _) (Nat.le_refl _)) $$ HK0
  iintro HK0
  iapply (wp_store_reg (M := aM) (c := c) (g := (0 : Fin 3).val) (lo := kp0 0 c) (n := 512) (o := 0) (A := A1 I c 0) (off11_at c) (k0_off11_inb c)
    (w := k0_pay46 (k0_pay45 (rdA 512 (kp0 0 c) (A0 I c 0)) (rdL 512 (kp0 0 c) (A0 I (peer (ax 0 0) c) 0)))) (fun j => add_val (B := A0 I c 0) (C := A0 I (peer (ax 0 0) c) 0) (D := A1 I c 0) (fun _ _ => rfl) _ _ j)) $$ [HK0]
  · iapply regA_X; iexact HK0
  iintro HK0
  ihave HK0 := (quarters (M := aM) (c := c) (g := (0 : Fin 3).val) (A := A1 I c 0) 0) $$ HK0
  icases HK0 with ⟨HG0, HK0⟩
  iapply (send1 (I := I) (K := K) (c := c) 0 3 rfl (dev7_at c) semS_0_1 semR_0_1 (off16_at c) (show ![0, 0, 0] = ![(0 : Fin 3).val, 0, 0] from rfl)) $$ [HG0 V0 HO T01 P01]
  · isplitr; · iexact HR
    isplitl [HG0]; · iexact HG0
    isplitl [V0]; · iexact V0
    isplitl [HO]; · iexact HO
    isplitl [T01]; · iexact T01
    iexact P01
  iintro ⟨P01, HO⟩
  iapply (wait_send (I := I) (K := K) (c := c) 1 0 4 (by decide) (by decide) semS_1_0
    (dst := blk aM 512 (k0_off14 c) (k0_off14_inb c) (fun _ => rfl) squeezes_S1x512x256_S512x256) rfl) $$ [P10 HO]
  · isplitr; · iexact HR
    isplitr; · iexact HL
    isplitl [P10]; · iexact P10
    iexact HO
  iintro ⟨-, P10, HO⟩
  iapply (wait_recv (I := I) (K := K) (c := c) 1 0 4 (by decide) (by decide) semR_1_0
    (dst := blk r1M 512 ![1, 0, 0] inb_S3x512x256_S1x512x256_1_0_0 (fun _ => rfl) squeezes_S1x512x256_S512x256) rfl) $$ [R10 HO]
  · isplitr; · iexact HR
    isplitr; · iexact HL
    isplitl [R10]; · iexact R10
    iexact HO
  iintro ⟨U1, R10, HO⟩
  ihave U1 := (recv_0 I c 1) $$ U1
  icases U1 with ⟨U1, HX1⟩
  iapply wp_done
  iapply Hk
  isplitl [HK0]; · iexact HK0
  isplitl [P01]; · iexact P01
  isplitl [P10]; · iexact P10
  isplitl [U1]; · iexact U1
  isplitl [HX1]; · iexact HX1
  isplitl [R10]; · iexact R10
  iexact HO

end

section
variable (I : Ins F) (K : Dev nD × CK → ℕ) (c : Dev nD) {Q : (PUnit) → sProp (MT nD τ sig Unit (Elt F) ℕ UU ℕ)}

theorem part13 (v18 : BitVec 32) (v57 : BitVec 32)  :
    iprop(recs I K ∗ levAts L lv ∗ regA aM c (1 : Fin 3).val (kp0 1 c) 512 0 (A0 I c 1) ∗ regA r1M c (1 : Fin 3).val 0 512 (kp0 1 c) (A0 I (peer (ax 1 0) c) 1) ∗ regX r2M (peer (ax 1 1) c) (1 : Fin 3).val 0 256 ∗ owesK c 4 ∗ tok c 1 1 ∗ posS c 1 1 ∗ fly c 2 0)
      ⊢ iprop((iprop(iprop(regA r1M c (1 : Fin 3).val (0) 512 (kp0 1 c) (A0 I (peer (ax 1 0) c) 1) ∗ regA aM c (1 : Fin 3).val (kp1 1 c) 256 0 (A1 I c 1) ∗ fly c 1 1 ∗ offS c 2 0 ∗ owesK c 5) -∗ Q ⟨⟩)) -∗ WP c (at0 (k0_part13 (F := F)) c v18 v57) Q) := by
  unfold at0
  simp only [k0_part13_eq_skeleton]
  unfold k0_part13_skel
  simp only [Prog.lift, Prog.bind_op, Prog.bind_ret, Prog.pure_eq_ret]
  iintro ⟨#HR, #HL, HK1, U1, V1, HO, T11, P11, P20⟩ Hk
  iapply (wp_load_reg (M := aM) (c := c) (g := (1 : Fin 3).val) (lo := kp0 1 c) (n := 512) (o := 0) (A := A0 I c 1) (off17_at c) (k0_off17_inb c) (Nat.le_refl _) (Nat.le_refl _)) $$ HK1
  iintro HK1
  iapply (wp_load_reg (M := r1M) (c := c) (g := (1 : Fin 3).val) (lo := 0) (n := 512) (o := (kp0 1 c)) (A := A0 I (peer (ax 1 0) c) 1) (show ![1, 0, 0] = ![(1 : Fin 3).val, 0, 0] from rfl) inb_S3x512x256_S1x512x256_1_0_0 (Nat.le_refl _) (Nat.le_refl _)) $$ U1
  iintro U1
  iapply (wp_load_reg (M := aM) (c := c) (g := (1 : Fin 3).val) (lo := kp0 1 c) (n := 512) (o := 0) (A := A0 I c 1) (off17_at c) (k0_off17_inb c) (Nat.le_refl _) (Nat.le_refl _)) $$ HK1
  iintro HK1
  iapply (wp_store_reg (M := aM) (c := c) (g := (1 : Fin 3).val) (lo := kp0 1 c) (n := 512) (o := 0) (A := A1 I c 1) (off17_at c) (k0_off17_inb c)
    (w := k0_pay47 (rdA 512 (kp0 1 c) (A0 I c 1)) (rdL 512 (kp0 1 c) (A0 I (peer (ax 1 0) c) 1))) (fun j => add_val (B := A0 I c 1) (C := A0 I (peer (ax 1 0) c) 1) (D := A1 I c 1) (fun _ _ => rfl) _ _ j)) $$ [HK1]
  · iapply regA_X; iexact HK1
  iintro HK1
  ihave HK1 := (quarters (M := aM) (c := c) (g := (1 : Fin 3).val) (A := A1 I c 1) 1) $$ HK1
  icases HK1 with ⟨HG1, HK1⟩
  iapply (send1 (I := I) (K := K) (c := c) 1 4 rfl (dev8_at c) semS_1_1 semR_1_1 (off18_at c) (show ![1, 0, 0] = ![(1 : Fin 3).val, 0, 0] from rfl)) $$ [HG1 V1 HO T11 P11]
  · isplitr; · iexact HR
    isplitl [HG1]; · iexact HG1
    isplitl [V1]; · iexact V1
    isplitl [HO]; · iexact HO
    isplitl [T11]; · iexact T11
    iexact P11
  iintro ⟨P11, HO⟩
  iapply (wait_send (I := I) (K := K) (c := c) 2 0 5 (by decide) (by decide) semS_2_0
    (dst := blk aM 512 (k0_off15 c) (k0_off15_inb c) (fun _ => rfl) squeezes_S1x512x256_S512x256) rfl) $$ [P20 HO]
  · isplitr; · iexact HR
    isplitr; · iexact HL
    isplitl [P20]; · iexact P20
    iexact HO
  iintro ⟨-, P20, HO⟩
  iapply wp_done
  iapply Hk
  isplitl [U1]; · iexact U1
  isplitl [HK1]; · iexact HK1
  isplitl [P11]; · iexact P11
  isplitl [P20]; · iexact P20
  iexact HO

end

section
variable (I : Ins F) (K : Dev nD × CK → ℕ) (c : Dev nD) {Q : (PUnit) → sProp (MT nD τ sig Unit (Elt F) ℕ UU ℕ)}

theorem part14 (v12 : BitVec 32) (v65 : BitVec 32)  :
    iprop(recs I K ∗ levAts L lv ∗ posR c 2 0 ∗ owesK c 5 ∗ regA aM c (2 : Fin 3).val (kp0 2 c) 512 0 (A0 I c 2) ∗ regX r2M (peer (ax 2 1) c) (2 : Fin 3).val 0 256 ∗ tok c 2 1 ∗ posS c 2 1)
      ⊢ iprop((iprop(iprop(regX aM (peer (ax 2 0) c) (2 : Fin 3).val (kp0 2 c) 512 ∗ offR c 2 0 ∗ regA r1M c (2 : Fin 3).val (0) 512 (kp0 2 c) (A0 I (peer (ax 2 0) c) 2) ∗ regA aM c (2 : Fin 3).val (kp1 2 c) 256 0 (A1 I c 2) ∗ fly c 2 1 ∗ owesK c 6) -∗ Q ⟨⟩)) -∗ WP c (at0 (k0_part14 (F := F)) c v12 v65) Q) := by
  unfold at0
  simp only [k0_part14_eq_skeleton]
  unfold k0_part14_skel
  simp only [Prog.lift, Prog.bind_op, Prog.bind_ret, Prog.pure_eq_ret]
  iintro ⟨#HR, #HL, R20, HO, HK2, V2, T21, P21⟩ Hk
  iapply (wait_recv (I := I) (K := K) (c := c) 2 0 5 (by decide) (by decide) semR_2_0
    (dst := blk r1M 512 ![2, 0, 0] inb_S3x512x256_S1x512x256_2_0_0 (fun _ => rfl) squeezes_S1x512x256_S512x256) rfl) $$ [R20 HO]
  · isplitr; · iexact HR
    isplitr; · iexact HL
    isplitl [R20]; · iexact R20
    iexact HO
  iintro ⟨U2, R20, HO⟩
  ihave U2 := (recv_0 I c 2) $$ U2
  icases U2 with ⟨U2, HX2⟩
  iapply (wp_load_reg (M := aM) (c := c) (g := (2 : Fin 3).val) (lo := kp0 2 c) (n := 512) (o := 0) (A := A0 I c 2) (off19_at c) (k0_off19_inb c) (Nat.le_refl _) (Nat.le_refl _)) $$ HK2
  iintro HK2
  iapply (wp_load_reg (M := r1M) (c := c) (g := (2 : Fin 3).val) (lo := 0) (n := 512) (o := (kp0 2 c)) (A := A0 I (peer (ax 2 0) c) 2) (show ![2, 0, 0] = ![(2 : Fin 3).val, 0, 0] from rfl) inb_S3x512x256_S1x512x256_2_0_0 (Nat.le_refl _) (Nat.le_refl _)) $$ U2
  iintro U2
  iapply (wp_load_reg (M := aM) (c := c) (g := (2 : Fin 3).val) (lo := kp0 2 c) (n := 512) (o := 0) (A := A0 I c 2) (off19_at c) (k0_off19_inb c) (Nat.le_refl _) (Nat.le_refl _)) $$ HK2
  iintro HK2
  iapply (wp_store_reg (M := aM) (c := c) (g := (2 : Fin 3).val) (lo := kp0 2 c) (n := 512) (o := 0) (A := A1 I c 2) (off19_at c) (k0_off19_inb c)
    (w := k0_pay48 (rdA 512 (kp0 2 c) (A0 I c 2)) (rdL 512 (kp0 2 c) (A0 I (peer (ax 2 0) c) 2))) (fun j => add_val (B := A0 I c 2) (C := A0 I (peer (ax 2 0) c) 2) (D := A1 I c 2) (fun _ _ => rfl) _ _ j)) $$ [HK2]
  · iapply regA_X; iexact HK2
  iintro HK2
  ihave HK2 := (quarters (M := aM) (c := c) (g := (2 : Fin 3).val) (A := A1 I c 2) 2) $$ HK2
  icases HK2 with ⟨HG2, HK2⟩
  iapply (send1 (I := I) (K := K) (c := c) 2 5 rfl (dev9_at c) semS_2_1 semR_2_1 (off20_at c) (show ![2, 0, 0] = ![(2 : Fin 3).val, 0, 0] from rfl)) $$ [HG2 V2 HO T21 P21]
  · isplitr; · iexact HR
    isplitl [HG2]; · iexact HG2
    isplitl [V2]; · iexact V2
    isplitl [HO]; · iexact HO
    isplitl [T21]; · iexact T21
    iexact P21
  iintro ⟨P21, HO⟩
  iapply wp_done
  iapply Hk
  isplitl [HX2]; · iexact HX2
  isplitl [R20]; · iexact R20
  isplitl [U2]; · iexact U2
  isplitl [HK2]; · iexact HK2
  isplitl [P21]; · iexact P21
  iexact HO

end

section
variable (I : Ins F) (K : Dev nD × CK → ℕ) (c : Dev nD) {Q : (PUnit) → sProp (MT nD τ sig Unit (Elt F) ℕ UU ℕ)}

theorem part15 (v16 : BitVec 32) (v18 : BitVec 32) (v53 : BitVec 32)  :
    iprop(recs I K ∗ levAts L lv ∗ fly c 0 1 ∗ owesK c 6 ∗ posR c 0 1 ∗ regA aM c (0 : Fin 3).val (kp1 0 c) 256 0 (A1 I c 0) ∗ regX r3M (peer (ax 0 2) c) (0 : Fin 3).val 0 256 ∗ tok c 0 2 ∗ posS c 0 2)
      ⊢ iprop((iprop(iprop(offS c 0 1 ∗ regX aM (peer (ax 0 1) c) (0 : Fin 3).val (kp1 0 c) 256 ∗ offR c 0 1 ∗ regA r2M c (0 : Fin 3).val (0) 256 (kp1 0 c) (A1 I (peer (ax 0 1) c) 0) ∗ fly c 0 2 ∗ owesK c 7) -∗ Q ⟨⟩)) -∗ WP c (at0 (k0_part15 (F := F)) c v16 v18 v53) Q) := by
  unfold at0
  simp only [k0_part15_eq_skeleton]
  unfold k0_part15_skel
  simp only [Prog.lift, Prog.bind_op, Prog.bind_ret, Prog.pure_eq_ret]
  iintro ⟨#HR, #HL, P01, HO, R01, HK0, X0, T02, P02⟩ Hk
  iapply (wait_send (I := I) (K := K) (c := c) 0 1 6 (by decide) (by decide) semS_0_1
    (dst := blk aM 256 (k0_off16 c) (k0_off16_inb c) (fun _ => rfl) squeezes_S1x256x256_S256x256) rfl) $$ [P01 HO]
  · isplitr; · iexact HR
    isplitr; · iexact HL
    isplitl [P01]; · iexact P01
    iexact HO
  iintro ⟨-, P01, HO⟩
  iapply (wait_recv (I := I) (K := K) (c := c) 0 1 6 (by decide) (by decide) semR_0_1
    (dst := blk r2M 256 ![0, 0, 0] inb_S3x256x256_S1x256x256_0_0_0 (fun _ => rfl) squeezes_S1x256x256_S256x256) rfl) $$ [R01 HO]
  · isplitr; · iexact HR
    isplitr; · iexact HL
    isplitl [R01]; · iexact R01
    iexact HO
  iintro ⟨V0, R01, HO⟩
  ihave V0 := (recv_1 I c 0) $$ V0
  icases V0 with ⟨V0, HY0⟩
  iapply (wp_load_reg (M := aM) (c := c) (g := (0 : Fin 3).val) (lo := kp1 0 c) (n := 256) (o := 0) (A := A1 I c 0) (off21_at c) (k0_off21_inb c) (Nat.le_refl _) (Nat.le_refl _)) $$ HK0
  iintro HK0
  iapply (wp_load_reg (M := r2M) (c := c) (g := (0 : Fin 3).val) (lo := 0) (n := 256) (o := (kp1 0 c)) (A := A1 I (peer (ax 0 1) c) 0) (show ![0, 0, 0] = ![(0 : Fin 3).val, 0, 0] from rfl) inb_S3x256x256_S1x256x256_0_0_0 (Nat.le_refl _) (Nat.le_refl _)) $$ V0
  iintro V0
  iapply (wp_load_reg (M := aM) (c := c) (g := (0 : Fin 3).val) (lo := kp1 0 c) (n := 256) (o := 0) (A := A1 I c 0) (off21_at c) (k0_off21_inb c) (Nat.le_refl _) (Nat.le_refl _)) $$ HK0
  iintro HK0
  iapply (wp_store_reg (M := aM) (c := c) (g := (0 : Fin 3).val) (lo := kp1 0 c) (n := 256) (o := 0) (A := A2 I c 0) (off21_at c) (k0_off21_inb c)
    (w := k0_pay49 (rdA 256 (kp1 0 c) (A1 I c 0)) (rdL 256 (kp1 0 c) (A1 I (peer (ax 0 1) c) 0))) (fun j => add_val (B := A1 I c 0) (C := A1 I (peer (ax 0 1) c) 0) (D := A2 I c 0) (fun _ _ => rfl) _ _ j)) $$ [HK0]
  · iapply regA_X; iexact HK0
  iintro HK0
  iapply (send2 (I := I) (K := K) (c := c) 0 6 rfl (dev10_at c) semS_0_2 semR_0_2 (off22_at c) (show ![0, 0, 0] = ![(0 : Fin 3).val, 0, 0] from rfl)) $$ [HK0 X0 HO T02 P02]
  · isplitr; · iexact HR
    isplitl [HK0]; · iexact HK0
    isplitl [X0]; · iexact X0
    isplitl [HO]; · iexact HO
    isplitl [T02]; · iexact T02
    iexact P02
  iintro ⟨P02, HO⟩
  iapply wp_done
  iapply Hk
  isplitl [P01]; · iexact P01
  isplitl [HY0]; · iexact HY0
  isplitl [R01]; · iexact R01
  isplitl [V0]; · iexact V0
  isplitl [P02]; · iexact P02
  iexact HO

end

section
variable (I : Ins F) (K : Dev nD × CK → ℕ) (c : Dev nD) {Q : (PUnit) → sProp (MT nD τ sig Unit (Elt F) ℕ UU ℕ)}

theorem part16 (v12 : BitVec 32) (v18 : BitVec 32) (v61 : BitVec 32)  :
    iprop(recs I K ∗ levAts L lv ∗ fly c 1 1 ∗ owesK c 7 ∗ posR c 1 1 ∗ regA aM c (1 : Fin 3).val (kp1 1 c) 256 0 (A1 I c 1))
      ⊢ iprop((iprop(iprop(offS c 1 1 ∗ regX aM (peer (ax 1 1) c) (1 : Fin 3).val (kp1 1 c) 256 ∗ offR c 1 1 ∗ owesK c 7 ∗ regA r2M c (1 : Fin 3).val (0) 256 (kp1 1 c) (A1 I (peer (ax 1 1) c) 1) ∗ regA aM c (1 : Fin 3).val (kp1 1 c) 256 0 (A2 I c 1)) -∗ Q ⟨⟩)) -∗ WP c (at0 (k0_part16 (F := F)) c v12 v18 v61) Q) := by
  unfold at0
  simp only [k0_part16_eq_skeleton]
  unfold k0_part16_skel
  simp only [Prog.lift, Prog.bind_op, Prog.bind_ret, Prog.pure_eq_ret]
  iintro ⟨#HR, #HL, P11, HO, R11, HK1⟩ Hk
  iapply (wait_send (I := I) (K := K) (c := c) 1 1 7 (by decide) (by decide) semS_1_1
    (dst := blk aM 256 (k0_off18 c) (k0_off18_inb c) (fun _ => rfl) squeezes_S1x256x256_S256x256) rfl) $$ [P11 HO]
  · isplitr; · iexact HR
    isplitr; · iexact HL
    isplitl [P11]; · iexact P11
    iexact HO
  iintro ⟨-, P11, HO⟩
  iapply (wait_recv (I := I) (K := K) (c := c) 1 1 7 (by decide) (by decide) semR_1_1
    (dst := blk r2M 256 ![1, 0, 0] inb_S3x256x256_S1x256x256_1_0_0 (fun _ => rfl) squeezes_S1x256x256_S256x256) rfl) $$ [R11 HO]
  · isplitr; · iexact HR
    isplitr; · iexact HL
    isplitl [R11]; · iexact R11
    iexact HO
  iintro ⟨V1, R11, HO⟩
  ihave V1 := (recv_1 I c 1) $$ V1
  icases V1 with ⟨V1, HY1⟩
  iapply (wp_load_reg (M := aM) (c := c) (g := (1 : Fin 3).val) (lo := kp1 1 c) (n := 256) (o := 0) (A := A1 I c 1) (off23_at c) (k0_off23_inb c) (Nat.le_refl _) (Nat.le_refl _)) $$ HK1
  iintro HK1
  iapply (wp_load_reg (M := r2M) (c := c) (g := (1 : Fin 3).val) (lo := 0) (n := 256) (o := (kp1 1 c)) (A := A1 I (peer (ax 1 1) c) 1) (show ![1, 0, 0] = ![(1 : Fin 3).val, 0, 0] from rfl) inb_S3x256x256_S1x256x256_1_0_0 (Nat.le_refl _) (Nat.le_refl _)) $$ V1
  iintro V1
  iapply (wp_load_reg (M := aM) (c := c) (g := (1 : Fin 3).val) (lo := kp1 1 c) (n := 256) (o := 0) (A := A1 I c 1) (off23_at c) (k0_off23_inb c) (Nat.le_refl _) (Nat.le_refl _)) $$ HK1
  iintro HK1
  iapply (wp_store_reg (M := aM) (c := c) (g := (1 : Fin 3).val) (lo := kp1 1 c) (n := 256) (o := 0) (A := A2 I c 1) (off23_at c) (k0_off23_inb c)
    (w := k0_pay50 (rdA 256 (kp1 1 c) (A1 I c 1)) (rdL 256 (kp1 1 c) (A1 I (peer (ax 1 1) c) 1))) (fun j => add_val (B := A1 I c 1) (C := A1 I (peer (ax 1 1) c) 1) (D := A2 I c 1) (fun _ _ => rfl) _ _ j)) $$ [HK1]
  · iapply regA_X; iexact HK1
  iintro HK1
  iapply wp_done
  iapply Hk
  isplitl [P11]; · iexact P11
  isplitl [HY1]; · iexact HY1
  isplitl [R11]; · iexact R11
  isplitl [HO]; · iexact HO
  isplitl [V1]; · iexact V1
  iexact HK1

end

section
variable (I : Ins F) (K : Dev nD × CK → ℕ) (c : Dev nD) {Q : (PUnit) → sProp (MT nD τ sig Unit (Elt F) ℕ UU ℕ)}

theorem part17 (v12 : BitVec 32) (v69 : BitVec 32)  :
    iprop(recs I K ∗ levAts L lv ∗ regA aM c (1 : Fin 3).val (kp1 1 c) 256 0 (A2 I c 1) ∗ regX r3M (peer (ax 1 2) c) (1 : Fin 3).val 0 256 ∗ owesK c 7 ∗ tok c 1 2 ∗ posS c 1 2 ∗ fly c 2 1 ∗ posR c 2 1 ∗ regA aM c (2 : Fin 3).val (kp1 2 c) 256 0 (A1 I c 2))
      ⊢ iprop((iprop(iprop(fly c 1 2 ∗ offS c 2 1 ∗ regX aM (peer (ax 2 1) c) (2 : Fin 3).val (kp1 2 c) 256 ∗ offR c 2 1 ∗ owesK c 8 ∗ regA r2M c (2 : Fin 3).val (0) 256 (kp1 2 c) (A1 I (peer (ax 2 1) c) 2) ∗ regA aM c (2 : Fin 3).val (kp1 2 c) 256 0 (A2 I c 2)) -∗ Q ⟨⟩)) -∗ WP c (at0 (k0_part17 (F := F)) c v12 v69) Q) := by
  unfold at0
  simp only [k0_part17_eq_skeleton]
  unfold k0_part17_skel
  simp only [Prog.lift, Prog.bind_op, Prog.bind_ret, Prog.pure_eq_ret]
  iintro ⟨#HR, #HL, HK1, X1, HO, T12, P12, P21, R21, HK2⟩ Hk
  iapply (send2 (I := I) (K := K) (c := c) 1 7 rfl (dev11_at c) semS_1_2 semR_1_2 (off24_at c) (show ![1, 0, 0] = ![(1 : Fin 3).val, 0, 0] from rfl)) $$ [HK1 X1 HO T12 P12]
  · isplitr; · iexact HR
    isplitl [HK1]; · iexact HK1
    isplitl [X1]; · iexact X1
    isplitl [HO]; · iexact HO
    isplitl [T12]; · iexact T12
    iexact P12
  iintro ⟨P12, HO⟩
  iapply (wait_send (I := I) (K := K) (c := c) 2 1 8 (by decide) (by decide) semS_2_1
    (dst := blk aM 256 (k0_off20 c) (k0_off20_inb c) (fun _ => rfl) squeezes_S1x256x256_S256x256) rfl) $$ [P21 HO]
  · isplitr; · iexact HR
    isplitr; · iexact HL
    isplitl [P21]; · iexact P21
    iexact HO
  iintro ⟨-, P21, HO⟩
  iapply (wait_recv (I := I) (K := K) (c := c) 2 1 8 (by decide) (by decide) semR_2_1
    (dst := blk r2M 256 ![2, 0, 0] inb_S3x256x256_S1x256x256_2_0_0 (fun _ => rfl) squeezes_S1x256x256_S256x256) rfl) $$ [R21 HO]
  · isplitr; · iexact HR
    isplitr; · iexact HL
    isplitl [R21]; · iexact R21
    iexact HO
  iintro ⟨V2, R21, HO⟩
  ihave V2 := (recv_1 I c 2) $$ V2
  icases V2 with ⟨V2, HY2⟩
  iapply (wp_load_reg (M := aM) (c := c) (g := (2 : Fin 3).val) (lo := kp1 2 c) (n := 256) (o := 0) (A := A1 I c 2) (off25_at c) (k0_off25_inb c) (Nat.le_refl _) (Nat.le_refl _)) $$ HK2
  iintro HK2
  iapply (wp_load_reg (M := r2M) (c := c) (g := (2 : Fin 3).val) (lo := 0) (n := 256) (o := (kp1 2 c)) (A := A1 I (peer (ax 2 1) c) 2) (show ![2, 0, 0] = ![(2 : Fin 3).val, 0, 0] from rfl) inb_S3x256x256_S1x256x256_2_0_0 (Nat.le_refl _) (Nat.le_refl _)) $$ V2
  iintro V2
  iapply (wp_load_reg (M := aM) (c := c) (g := (2 : Fin 3).val) (lo := kp1 2 c) (n := 256) (o := 0) (A := A1 I c 2) (off25_at c) (k0_off25_inb c) (Nat.le_refl _) (Nat.le_refl _)) $$ HK2
  iintro HK2
  iapply (wp_store_reg (M := aM) (c := c) (g := (2 : Fin 3).val) (lo := kp1 2 c) (n := 256) (o := 0) (A := A2 I c 2) (off25_at c) (k0_off25_inb c)
    (w := k0_pay51 (rdA 256 (kp1 2 c) (A1 I c 2)) (rdL 256 (kp1 2 c) (A1 I (peer (ax 2 1) c) 2))) (fun j => add_val (B := A1 I c 2) (C := A1 I (peer (ax 2 1) c) 2) (D := A2 I c 2) (fun _ _ => rfl) _ _ j)) $$ [HK2]
  · iapply regA_X; iexact HK2
  iintro HK2
  iapply wp_done
  iapply Hk
  isplitl [P12]; · iexact P12
  isplitl [P21]; · iexact P21
  isplitl [HY2]; · iexact HY2
  isplitl [R21]; · iexact R21
  isplitl [HO]; · iexact HO
  isplitl [V2]; · iexact V2
  iexact HK2

end

section
variable (I : Ins F) (K : Dev nD × CK → ℕ) (c : Dev nD) {Q : (FVec F S256x256 .bf16) → sProp (MT nD τ sig Unit (Elt F) ℕ UU ℕ)}

theorem part18 (v16 : BitVec 32) (v18 : BitVec 32) (v53 : BitVec 32)  :
    iprop(recs I K ∗ levAts L lv ∗ regA aM c (2 : Fin 3).val (kp1 2 c) 256 0 (A2 I c 2) ∗ regX r3M (peer (ax 2 2) c) (2 : Fin 3).val 0 256 ∗ owesK c 8 ∗ tok c 2 2 ∗ posS c 2 2 ∗ fly c 0 2 ∗ posR c 0 2)
      ⊢ iprop((iprop(iprop(fly c 2 2 ∗ offS c 0 2 ∗ regA r3M c (0 : Fin 3).val 0 256 (kp1 0 c) (A2 I (peer (ax 0 2) c) 0) ∗ offR c 0 2 ∗ owesK c 9 ∗ regA aM c (0 : Fin 3).val (kp1 0 c) 256 0 (A2 I c 0)) -∗ Q (k0_pay52 (rdA 256 (kp1 0 c) (A2 I c 0))))) -∗ WP c (at0 (k0_part18 (F := F)) c v16 v18 v53) Q) := by
  unfold at0
  simp only [k0_part18_eq_skeleton]
  unfold k0_part18_skel
  simp only [Prog.lift, Prog.bind_op, Prog.bind_ret, Prog.pure_eq_ret]
  iintro ⟨#HR, #HL, HK2, X2, HO, T22, P22, P02, R02⟩ Hk
  iapply (send2 (I := I) (K := K) (c := c) 2 8 rfl (dev12_at c) semS_2_2 semR_2_2 (off26_at c) (show ![2, 0, 0] = ![(2 : Fin 3).val, 0, 0] from rfl)) $$ [HK2 X2 HO T22 P22]
  · isplitr; · iexact HR
    isplitl [HK2]; · iexact HK2
    isplitl [X2]; · iexact X2
    isplitl [HO]; · iexact HO
    isplitl [T22]; · iexact T22
    iexact P22
  iintro ⟨P22, HO⟩
  iapply (wait_send (I := I) (K := K) (c := c) 0 2 9 (by decide) (by decide) semS_0_2
    (dst := blk aM 256 (k0_off22 c) (k0_off22_inb c) (fun _ => rfl) squeezes_S1x256x256_S256x256) rfl) $$ [P02 HO]
  · isplitr; · iexact HR
    isplitr; · iexact HL
    isplitl [P02]; · iexact P02
    iexact HO
  iintro ⟨HK0, P02, HO⟩
  ihave HK0 := (sent_2 I c 0) $$ HK0
  iapply (wait_recv (I := I) (K := K) (c := c) 0 2 9 (by decide) (by decide) semR_0_2
    (dst := blk r3M 256 ![0, 0, 0] inb_S3x256x256_S1x256x256_0_0_0 (fun _ => rfl) squeezes_S1x256x256_S256x256) rfl) $$ [R02 HO]
  · isplitr; · iexact HR
    isplitr; · iexact HL
    isplitl [R02]; · iexact R02
    iexact HO
  iintro ⟨X0, R02, HO⟩
  ihave X0 := (recv_2 I c 0) $$ X0
  iapply (wp_load_reg (M := aM) (c := c) (g := (0 : Fin 3).val) (lo := kp1 0 c) (n := 256) (o := 0) (A := A2 I c 0) (off21_at c) (k0_off21_inb c) (Nat.le_refl _) (Nat.le_refl _)) $$ HK0
  iintro HK0
  iapply wp_done
  iapply Hk
  isplitl [P22]; · iexact P22
  isplitl [P02]; · iexact P02
  isplitl [X0]; · iexact X0
  isplitl [R02]; · iexact R02
  isplitl [HO]; · iexact HO
  iexact HK0

end

end Cert.CubeProof
-- ==== Proof.Parts3.lean ====
/-
# The last sum, and the exchanges that hand the rows back
-/
module

public import proofs.«01_k».proof.Proof.Facts

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable (I : Ins F) (K : Dev nD × CK → ℕ) (c : Dev nD) {Q : (PUnit) → sProp (MT nD τ sig Unit (Elt F) ℕ UU ℕ)}

theorem part19 (v12 : BitVec 32) (v16 : BitVec 32) (v53 : BitVec 32)  :
    iprop(recs I K ∗ levAts L lv ∗ regA r3M c (0 : Fin 3).val 0 256 (kp1 0 c) (A2 I (peer (ax 0 2) c) 0) ∗ regA aM c (0 : Fin 3).val (kp1 0 c) 256 0 (A2 I c 0) ∗ regX aM (peer (ax 0 1) c) (0 : Fin 3).val (kp1 0 c) 256 ∗ owesK c 9 ∗ tok c 0 4 ∗ posS c 0 4 ∗ fly c 1 2)
      ⊢ iprop((iprop(iprop(regA r3M c (0 : Fin 3).val (0) 256 (kp1 0 c) (A2 I (peer (ax 0 2) c) 0) ∗ fly c 0 4 ∗ regA aM c (1 : Fin 3).val (kp1 1 c) 256 0 (A2 I c 1) ∗ offS c 1 2 ∗ owesK c 10) -∗ Q ⟨⟩)) -∗ WP c (at0 (k0_part19 (F := F)) c v12 v16 v53 ((k0_pay52 (rdA 256 (kp1 0 c) (A2 I c 0))))) Q) := by
  unfold at0
  simp only [k0_part19_eq_skeleton]
  unfold k0_part19_skel
  simp only [Prog.lift, Prog.bind_op, Prog.bind_ret, Prog.pure_eq_ret]
  iintro ⟨#HR, #HL, X0, HK0, HY0, HO, T04, P04, P12⟩ Hk
  iapply (wp_load_reg (M := r3M) (c := c) (g := (0 : Fin 3).val) (lo := 0) (n := 256) (o := (kp1 0 c)) (A := A2 I (peer (ax 0 2) c) 0) (show ![0, 0, 0] = ![(0 : Fin 3).val, 0, 0] from rfl) inb_S3x256x256_S1x256x256_0_0_0 (Nat.le_refl _) (Nat.le_refl _)) $$ X0
  iintro X0
  iapply (wp_load_reg (M := aM) (c := c) (g := (0 : Fin 3).val) (lo := kp1 0 c) (n := 256) (o := 0) (A := A2 I c 0) (off21_at c) (k0_off21_inb c) (Nat.le_refl _) (Nat.le_refl _)) $$ HK0
  iintro HK0
  iapply (wp_store_reg (M := aM) (c := c) (g := (0 : Fin 3).val) (lo := kp1 0 c) (n := 256) (o := 0) (A := A3 I c 0) (off21_at c) (k0_off21_inb c)
    (w := k0_pay53 (k0_pay52 (rdA 256 (kp1 0 c) (A2 I c 0))) (rdL 256 (kp1 0 c) (A2 I (peer (ax 0 2) c) 0))) (fun j => add_val (B := A2 I c 0) (C := A2 I (peer (ax 0 2) c) 0) (D := A3 I c 0) (fun _ _ => rfl) _ _ j)) $$ [HK0]
  · iapply regA_X; iexact HK0
  iintro HK0
  iapply (send4 (I := I) (K := K) (c := c) 0 9 rfl (dev13_at c) semS_0_4 semR_0_4 (off22_at c) (off22_at c)) $$ [HK0 HY0 HO T04 P04]
  · isplitr; · iexact HR
    isplitl [HK0]; · iexact HK0
    isplitl [HY0]; · iexact HY0
    isplitl [HO]; · iexact HO
    isplitl [T04]; · iexact T04
    iexact P04
  iintro ⟨P04, HO⟩
  iapply (wait_send (I := I) (K := K) (c := c) 1 2 10 (by decide) (by decide) semS_1_2
    (dst := blk aM 256 (k0_off24 c) (k0_off24_inb c) (fun _ => rfl) squeezes_S1x256x256_S256x256) rfl) $$ [P12 HO]
  · isplitr; · iexact HR
    isplitr; · iexact HL
    isplitl [P12]; · iexact P12
    iexact HO
  iintro ⟨HK1, P12, HO⟩
  ihave HK1 := (sent_2 I c 1) $$ HK1
  iapply wp_done
  iapply Hk
  isplitl [X0]; · iexact X0
  isplitl [P04]; · iexact P04
  isplitl [HK1]; · iexact HK1
  isplitl [P12]; · iexact P12
  iexact HO

end

section
variable (I : Ins F) (K : Dev nD × CK → ℕ) (c : Dev nD) {Q : (BitVec 32) → sProp (MT nD τ sig Unit (Elt F) ℕ UU ℕ)}

theorem part20 (v16 : BitVec 32) (v18 : BitVec 32) (v61 : BitVec 32)  :
    iprop(recs I K ∗ levAts L lv ∗ posR c 1 2 ∗ owesK c 10 ∗ regA aM c (1 : Fin 3).val (kp1 1 c) 256 0 (A2 I c 1) ∗ regX aM (peer (ax 1 1) c) (1 : Fin 3).val (kp1 1 c) 256 ∗ tok c 1 4 ∗ posS c 1 4 ∗ fly c 2 2)
      ⊢ iprop((iprop(∀ w1 : BitVec 32, iprop(offR c 1 2 ∗ regA r3M c (1 : Fin 3).val (0) 256 (kp1 1 c) (A2 I (peer (ax 1 2) c) 1) ∗ fly c 1 4 ∗ regA aM c (2 : Fin 3).val (kp1 2 c) 256 0 (A2 I c 2) ∗ offS c 2 2 ∗ owesK c 11) -∗ Q w1)) -∗ WP c (at0 (k0_part20 (F := F)) c v16 v18 v61) Q) := by
  unfold at0
  simp only [k0_part20_eq_skeleton]
  unfold k0_part20_skel
  simp only [Prog.lift, Prog.bind_op, Prog.bind_ret, Prog.pure_eq_ret]
  iintro ⟨#HR, #HL, R12, HO, HK1, HY1, T14, P14, P22⟩ Hk
  iapply (wait_recv (I := I) (K := K) (c := c) 1 2 10 (by decide) (by decide) semR_1_2
    (dst := blk r3M 256 ![1, 0, 0] inb_S3x256x256_S1x256x256_1_0_0 (fun _ => rfl) squeezes_S1x256x256_S256x256) rfl) $$ [R12 HO]
  · isplitr; · iexact HR
    isplitr; · iexact HL
    isplitl [R12]; · iexact R12
    iexact HO
  iintro ⟨X1, R12, HO⟩
  ihave X1 := (recv_2 I c 1) $$ X1
  iapply (wp_load_reg (M := aM) (c := c) (g := (1 : Fin 3).val) (lo := kp1 1 c) (n := 256) (o := 0) (A := A2 I c 1) (off23_at c) (k0_off23_inb c) (Nat.le_refl _) (Nat.le_refl _)) $$ HK1
  iintro HK1
  iapply (wp_load_reg (M := r3M) (c := c) (g := (1 : Fin 3).val) (lo := 0) (n := 256) (o := (kp1 1 c)) (A := A2 I (peer (ax 1 2) c) 1) (show ![1, 0, 0] = ![(1 : Fin 3).val, 0, 0] from rfl) inb_S3x256x256_S1x256x256_1_0_0 (Nat.le_refl _) (Nat.le_refl _)) $$ X1
  iintro X1
  iapply (wp_load_reg (M := aM) (c := c) (g := (1 : Fin 3).val) (lo := kp1 1 c) (n := 256) (o := 0) (A := A2 I c 1) (off23_at c) (k0_off23_inb c) (Nat.le_refl _) (Nat.le_refl _)) $$ HK1
  iintro HK1
  iapply (wp_store_reg (M := aM) (c := c) (g := (1 : Fin 3).val) (lo := kp1 1 c) (n := 256) (o := 0) (A := A3 I c 1) (off23_at c) (k0_off23_inb c)
    (w := k0_pay54 (rdA 256 (kp1 1 c) (A2 I c 1)) (rdL 256 (kp1 1 c) (A2 I (peer (ax 1 2) c) 1))) (fun j => add_val (B := A2 I c 1) (C := A2 I (peer (ax 1 2) c) 1) (D := A3 I c 1) (fun _ _ => rfl) _ _ j)) $$ [HK1]
  · iapply regA_X; iexact HK1
  iintro HK1
  iapply (send4 (I := I) (K := K) (c := c) 1 10 rfl (dev14_at c) semS_1_4 semR_1_4 (off24_at c) (off24_at c)) $$ [HK1 HY1 HO T14 P14]
  · isplitr; · iexact HR
    isplitl [HK1]; · iexact HK1
    isplitl [HY1]; · iexact HY1
    isplitl [HO]; · iexact HO
    isplitl [T14]; · iexact T14
    iexact P14
  iintro ⟨P14, HO⟩
  iapply (wait_send (I := I) (K := K) (c := c) 2 2 11 (by decide) (by decide) semS_2_2
    (dst := blk aM 256 (k0_off26 c) (k0_off26_inb c) (fun _ => rfl) squeezes_S1x256x256_S256x256) rfl) $$ [P22 HO]
  · isplitr; · iexact HR
    isplitr; · iexact HL
    isplitl [P22]; · iexact P22
    iexact HO
  iintro ⟨HK2, P22, HO⟩
  ihave HK2 := (sent_2 I c 2) $$ HK2
  iapply wp_done
  iapply Hk $$ %_
  isplitl [R12]; · iexact R12
  isplitl [X1]; · iexact X1
  isplitl [P14]; · iexact P14
  isplitl [HK2]; · iexact HK2
  isplitl [P22]; · iexact P22
  iexact HO

end

section
variable (I : Ins F) (K : Dev nD × CK → ℕ) (c : Dev nD) {Q : (PUnit) → sProp (MT nD τ sig Unit (Elt F) ℕ UU ℕ)}

theorem part21 (v12 : BitVec 32) (v69 : BitVec 32) (v696 : BitVec 32)  :
    iprop(recs I K ∗ levAts L lv ∗ posR c 2 2 ∗ owesK c 11 ∗ regA aM c (2 : Fin 3).val (kp1 2 c) 256 0 (A2 I c 2) ∗ regX aM (peer (ax 2 1) c) (2 : Fin 3).val (kp1 2 c) 256 ∗ tok c 2 4 ∗ posS c 2 4)
      ⊢ iprop((iprop(iprop(offR c 2 2 ∗ regA r3M c (2 : Fin 3).val (0) 256 (kp1 2 c) (A2 I (peer (ax 2 2) c) 2) ∗ fly c 2 4 ∗ owesK c 12) -∗ Q ⟨⟩)) -∗ WP c (at0 (k0_part21 (F := F)) c v12 v69 v696) Q) := by
  unfold at0
  simp only [k0_part21_eq_skeleton]
  unfold k0_part21_skel
  simp only [Prog.lift, Prog.bind_op, Prog.bind_ret, Prog.pure_eq_ret]
  iintro ⟨#HR, #HL, R22, HO, HK2, HY2, T24, P24⟩ Hk
  iapply (wait_recv (I := I) (K := K) (c := c) 2 2 11 (by decide) (by decide) semR_2_2
    (dst := blk r3M 256 ![2, 0, 0] inb_S3x256x256_S1x256x256_2_0_0 (fun _ => rfl) squeezes_S1x256x256_S256x256) rfl) $$ [R22 HO]
  · isplitr; · iexact HR
    isplitr; · iexact HL
    isplitl [R22]; · iexact R22
    iexact HO
  iintro ⟨X2, R22, HO⟩
  ihave X2 := (recv_2 I c 2) $$ X2
  iapply (wp_load_reg (M := aM) (c := c) (g := (2 : Fin 3).val) (lo := kp1 2 c) (n := 256) (o := 0) (A := A2 I c 2) (off25_at c) (k0_off25_inb c) (Nat.le_refl _) (Nat.le_refl _)) $$ HK2
  iintro HK2
  iapply (wp_load_reg (M := r3M) (c := c) (g := (2 : Fin 3).val) (lo := 0) (n := 256) (o := (kp1 2 c)) (A := A2 I (peer (ax 2 2) c) 2) (show ![2, 0, 0] = ![(2 : Fin 3).val, 0, 0] from rfl) inb_S3x256x256_S1x256x256_2_0_0 (Nat.le_refl _) (Nat.le_refl _)) $$ X2
  iintro X2
  iapply (wp_load_reg (M := aM) (c := c) (g := (2 : Fin 3).val) (lo := kp1 2 c) (n := 256) (o := 0) (A := A2 I c 2) (off25_at c) (k0_off25_inb c) (Nat.le_refl _) (Nat.le_refl _)) $$ HK2
  iintro HK2
  iapply (wp_store_reg (M := aM) (c := c) (g := (2 : Fin 3).val) (lo := kp1 2 c) (n := 256) (o := 0) (A := A3 I c 2) (off25_at c) (k0_off25_inb c)
    (w := k0_pay55 (rdA 256 (kp1 2 c) (A2 I c 2)) (rdL 256 (kp1 2 c) (A2 I (peer (ax 2 2) c) 2))) (fun j => add_val (B := A2 I c 2) (C := A2 I (peer (ax 2 2) c) 2) (D := A3 I c 2) (fun _ _ => rfl) _ _ j)) $$ [HK2]
  · iapply regA_X; iexact HK2
  iintro HK2
  iapply (send4 (I := I) (K := K) (c := c) 2 11 rfl (dev15_at c) semS_2_4 semR_2_4 (off26_at c) (off26_at c)) $$ [HK2 HY2 HO T24 P24]
  · isplitr; · iexact HR
    isplitl [HK2]; · iexact HK2
    isplitl [HY2]; · iexact HY2
    isplitl [HO]; · iexact HO
    isplitl [T24]; · iexact T24
    iexact P24
  iintro ⟨P24, HO⟩
  iapply wp_done
  iapply Hk
  isplitl [R22]; · iexact R22
  isplitl [X2]; · iexact X2
  isplitl [P24]; · iexact P24
  iexact HO

end

section
variable (I : Ins F) (K : Dev nD × CK → ℕ) (c : Dev nD) {Q : (Σ' (v754 : BitVec 32), BitVec 32) → sProp (MT nD τ sig Unit (Elt F) ℕ UU ℕ)}

theorem part22 (v12 : BitVec 32) (v16 : BitVec 32) (v18 : BitVec 32)  :
    iprop(recs I K ∗ levAts L lv ∗ fly c 0 4 ∗ owesK c 12 ∗ posR c 0 4 ∗ regX aM (peer (ax 0 0) c) (0 : Fin 3).val (kp0 0 c) 512 ∗ tok c 0 5 ∗ posS c 0 5 ∗ fly c 1 4)
      ⊢ iprop((iprop(∀ w1 : BitVec 32, iprop(offS c 0 4 ∗ offR c 0 4 ∗ fly c 0 5 ∗ regA aM c (1 : Fin 3).val (kp1 1 c) 256 0 (A3 I c 1) ∗ offS c 1 4 ∗ owesK c 13) -∗ Q ⟨w1, 0#32⟩)) -∗ WP c (at0 (k0_part22 (F := F)) c v12 v16 v18) Q) := by
  unfold at0
  simp only [k0_part22_eq_skeleton]
  unfold k0_part22_skel
  simp only [Prog.lift, Prog.bind_op, Prog.bind_ret, Prog.pure_eq_ret]
  iintro ⟨#HR, #HL, P04, HO, R04, HX0, T05, P05, P14⟩ Hk
  iapply (wait_send (I := I) (K := K) (c := c) 0 4 12 (by decide) (by decide) semS_0_4
    (dst := blk aM 256 (k0_off22 c) (k0_off22_inb c) (fun _ => rfl) squeezes_S1x256x256_S256x256) rfl) $$ [P04 HO]
  · isplitr; · iexact HR
    isplitr; · iexact HL
    isplitl [P04]; · iexact P04
    iexact HO
  iintro ⟨HK0, P04, HO⟩
  ihave HK0 := (sent_4 I c 0) $$ HK0
  iapply (wait_recv (I := I) (K := K) (c := c) 0 4 12 (by decide) (by decide) semR_0_4
    (dst := blk aM 256 (k0_off22 c) (k0_off22_inb c) (fun _ => rfl) squeezes_S1x256x256_S256x256) rfl) $$ [R04 HO]
  · isplitr; · iexact HR
    isplitr; · iexact HL
    isplitl [R04]; · iexact R04
    iexact HO
  iintro ⟨HG0, R04, HO⟩
  ihave HG0 := (recv_4 I c 0) $$ HG0
  ihave HK0 := (join4 (I := I) (c := c) aM 0) $$ [HG0 HK0]
  · isplitl [HG0]; · iexact HG0
    iexact HK0
  iapply (send5 (I := I) (K := K) (c := c) 0 12 rfl (dev16_at c) semS_0_5 semR_0_5 (off27_at c) (off27_at c)) $$ [HK0 HX0 HO T05 P05]
  · isplitr; · iexact HR
    isplitl [HK0]; · iexact HK0
    isplitl [HX0]; · iexact HX0
    isplitl [HO]; · iexact HO
    isplitl [T05]; · iexact T05
    iexact P05
  iintro ⟨P05, HO⟩
  iapply (wait_send (I := I) (K := K) (c := c) 1 4 13 (by decide) (by decide) semS_1_4
    (dst := blk aM 256 (k0_off24 c) (k0_off24_inb c) (fun _ => rfl) squeezes_S1x256x256_S256x256) rfl) $$ [P14 HO]
  · isplitr; · iexact HR
    isplitr; · iexact HL
    isplitl [P14]; · iexact P14
    iexact HO
  iintro ⟨HK1, P14, HO⟩
  ihave HK1 := (sent_4 I c 1) $$ HK1
  iapply wp_done
  iapply Hk $$ %_
  isplitl [P04]; · iexact P04
  isplitl [R04]; · iexact R04
  isplitl [P05]; · iexact P05
  isplitl [HK1]; · iexact HK1
  isplitl [P14]; · iexact P14
  iexact HO

end

section
variable (I : Ins F) (K : Dev nD × CK → ℕ) (c : Dev nD) {Q : (PUnit) → sProp (MT nD τ sig Unit (Elt F) ℕ UU ℕ)}

theorem part23 (v12 : BitVec 32) (v16 : BitVec 32) (v754 : BitVec 32) (c0_i32_487 : BitVec 32)  :
    iprop(recs I K ∗ levAts L lv ∗ posR c 1 4 ∗ owesK c 13 ∗ regA aM c (1 : Fin 3).val (kp1 1 c) 256 0 (A3 I c 1) ∗ regX aM (peer (ax 1 0) c) (1 : Fin 3).val (kp0 1 c) 512 ∗ tok c 1 5 ∗ posS c 1 5 ∗ fly c 2 4 ∗ posR c 2 4)
      ⊢ iprop((iprop(iprop(offR c 1 4 ∗ fly c 1 5 ∗ offS c 2 4 ∗ regA aM c (2 : Fin 3).val (kp0 2 c) 512 0 (A4 I c 2) ∗ offR c 2 4 ∗ owesK c 14) -∗ Q ⟨⟩)) -∗ WP c (at0 (k0_part23 (F := F)) c v12 v16 v754 c0_i32_487) Q) := by
  unfold at0
  simp only [k0_part23_eq_skeleton]
  unfold k0_part23_skel
  simp only [Prog.lift, Prog.bind_op, Prog.bind_ret, Prog.pure_eq_ret]
  iintro ⟨#HR, #HL, R14, HO, HK1, HX1, T15, P15, P24, R24⟩ Hk
  iapply (wait_recv (I := I) (K := K) (c := c) 1 4 13 (by decide) (by decide) semR_1_4
    (dst := blk aM 256 (k0_off24 c) (k0_off24_inb c) (fun _ => rfl) squeezes_S1x256x256_S256x256) rfl) $$ [R14 HO]
  · isplitr; · iexact HR
    isplitr; · iexact HL
    isplitl [R14]; · iexact R14
    iexact HO
  iintro ⟨HG1, R14, HO⟩
  ihave HG1 := (recv_4 I c 1) $$ HG1
  ihave HK1 := (join4 (I := I) (c := c) aM 1) $$ [HG1 HK1]
  · isplitl [HG1]; · iexact HG1
    iexact HK1
  iapply (send5 (I := I) (K := K) (c := c) 1 13 rfl (dev17_at c) semS_1_5 semR_1_5 (off28_at c) (off28_at c)) $$ [HK1 HX1 HO T15 P15]
  · isplitr; · iexact HR
    isplitl [HK1]; · iexact HK1
    isplitl [HX1]; · iexact HX1
    isplitl [HO]; · iexact HO
    isplitl [T15]; · iexact T15
    iexact P15
  iintro ⟨P15, HO⟩
  iapply (wait_send (I := I) (K := K) (c := c) 2 4 14 (by decide) (by decide) semS_2_4
    (dst := blk aM 256 (k0_off26 c) (k0_off26_inb c) (fun _ => rfl) squeezes_S1x256x256_S256x256) rfl) $$ [P24 HO]
  · isplitr; · iexact HR
    isplitr; · iexact HL
    isplitl [P24]; · iexact P24
    iexact HO
  iintro ⟨HK2, P24, HO⟩
  ihave HK2 := (sent_4 I c 2) $$ HK2
  iapply (wait_recv (I := I) (K := K) (c := c) 2 4 14 (by decide) (by decide) semR_2_4
    (dst := blk aM 256 (k0_off26 c) (k0_off26_inb c) (fun _ => rfl) squeezes_S1x256x256_S256x256) rfl) $$ [R24 HO]
  · isplitr; · iexact HR
    isplitr; · iexact HL
    isplitl [R24]; · iexact R24
    iexact HO
  iintro ⟨HG2, R24, HO⟩
  ihave HG2 := (recv_4 I c 2) $$ HG2
  ihave HK2 := (join4 (I := I) (c := c) aM 2) $$ [HG2 HK2]
  · isplitl [HG2]; · iexact HG2
    iexact HK2
  iapply wp_done
  iapply Hk
  isplitl [R14]; · iexact R14
  isplitl [P15]; · iexact P15
  isplitl [P24]; · iexact P24
  isplitl [HK2]; · iexact HK2
  isplitl [R24]; · iexact R24
  iexact HO

end

section
variable (I : Ins F) (K : Dev nD × CK → ℕ) (c : Dev nD) {Q : (FVec F S2x512x256 .f32) → sProp (MT nD τ sig Unit (Elt F) ℕ UU ℕ)}

theorem part24 (v12 : BitVec 32) (v18 : BitVec 32)  :
    iprop(recs I K ∗ levAts L lv ∗ regA aM c (2 : Fin 3).val (kp0 2 c) 512 0 (A4 I c 2) ∗ regX aM (peer (ax 2 0) c) (2 : Fin 3).val (kp0 2 c) 512 ∗ owesK c 14 ∗ tok c 2 5 ∗ posS c 2 5 ∗ fly c 0 5 ∗ posR c 0 5)
      ⊢ iprop((iprop(iprop(fly c 2 5 ∗ offS c 0 5 ∗ offR c 0 5 ∗ owesK c 15 ∗ regA aM c (0 : Fin 3).val (0) 1024 0 (fin I c 0)) -∗ Q (k0_pay56 (rdA 1024 0 (fin I c 0))))) -∗ WP c (at0 (k0_part24 (F := F)) c v12 v18) Q) := by
  unfold at0
  simp only [k0_part24_eq_skeleton]
  unfold k0_part24_skel
  simp only [Prog.lift, Prog.bind_op, Prog.bind_ret, Prog.pure_eq_ret]
  iintro ⟨#HR, #HL, HK2, HX2, HO, T25, P25, P05, R05⟩ Hk
  iapply (send5 (I := I) (K := K) (c := c) 2 14 rfl (dev18_at c) semS_2_5 semR_2_5 (off29_at c) (off29_at c)) $$ [HK2 HX2 HO T25 P25]
  · isplitr; · iexact HR
    isplitl [HK2]; · iexact HK2
    isplitl [HX2]; · iexact HX2
    isplitl [HO]; · iexact HO
    isplitl [T25]; · iexact T25
    iexact P25
  iintro ⟨P25, HO⟩
  iapply (wait_send (I := I) (K := K) (c := c) 0 5 15 (by decide) (by decide) semS_0_5
    (dst := blk aM 512 (k0_off27 c) (k0_off27_inb c) (fun _ => rfl) squeezes_S1x512x256_S512x256) rfl) $$ [P05 HO]
  · isplitr; · iexact HR
    isplitr; · iexact HL
    isplitl [P05]; · iexact P05
    iexact HO
  iintro ⟨HK0, P05, HO⟩
  ihave HK0 := (sent_5 I c 0) $$ HK0
  iapply (wait_recv (I := I) (K := K) (c := c) 0 5 15 (by decide) (by decide) semR_0_5
    (dst := blk aM 512 (k0_off27 c) (k0_off27_inb c) (fun _ => rfl) squeezes_S1x512x256_S512x256) rfl) $$ [R05 HO]
  · isplitr; · iexact HR
    isplitr; · iexact HL
    isplitl [R05]; · iexact R05
    iexact HO
  iintro ⟨HG0, R05, HO⟩
  ihave HG0 := (recv_5 I c 0) $$ HG0
  ihave HK0 := (join5 (I := I) (c := c) aM 0) $$ [HG0 HK0]
  · isplitl [HG0]; · iexact HG0
    iexact HK0
  iapply (wp_load_reg (M := aM) (c := c) (g := (0 : Fin 3).val) (lo := 0) (n := 1024) (o := 0) (A := fin I c 0) (show ![0, 0, 0] = ![(0 : Fin 3).val, 0, 0] from rfl) inb_S3x1024x256_S1x1024x256_0_0_0 (Nat.le_refl _) (Nat.le_refl _)) $$ HK0
  iintro HK0
  iapply wp_done
  iapply Hk
  isplitl [P25]; · iexact P25
  isplitl [P05]; · iexact P05
  isplitl [R05]; · iexact R05
  isplitl [HO]; · iexact HO
  iexact HK0

end

section
variable (I : Ins F) (K : Dev nD × CK → ℕ) (c : Dev nD) {Q : (PUnit) → sProp (MT nD τ sig Unit (Elt F) ℕ UU ℕ)}

theorem part25 (v16 : BitVec 32)  :
    iprop(recs I K ∗ levAts L lv ∗ outP I c 0 ∗ fly c 1 5 ∗ owesK c 15 ∗ posR c 1 5 ∗ fly c 2 5)
      ⊢ iprop((iprop(iprop(offS c 1 5 ∗ offR c 1 5 ∗ regA aM c (1 : Fin 3).val (0) 1024 0 (fin I c 1) ∗ outP I c 2 ∗ regA aM c (2 : Fin 3).val (kp0 2 c) 512 0 (A4 I c 2) ∗ offS c 2 5 ∗ owesK c 15) -∗ Q ⟨⟩)) -∗ WP c (at0 (k0_part25 (F := F)) c v16 ((k0_pay56 (rdA 1024 0 (fin I c 0))))) Q) := by
  unfold at0
  simp only [k0_part25_eq_skeleton]
  unfold k0_part25_skel
  simp only [Prog.lift, Prog.bind_op, Prog.bind_ret, Prog.pure_eq_ret]
  iintro ⟨#HR, #HL, OUT, P15, HO, R15, P25⟩ Hk
  iapply (wp_load_out (I := I) (c := c)) $$ OUT
  iintro OUT
  iapply (wp_store_out (I := I) (c := c) 0 0 1 rfl rfl (show ![0, 0, 0] = ![0, 0, 256 * (0 : Fin 3).val] from rfl) inb_S2x512x768_S2x512x256_0_0_0 (w := k0_pay56 (rdA 1024 0 (fin I c 0))) (fun j => out_col 0 (fin I c 0) j)) $$ OUT
  iintro OUT
  iapply (wait_send (I := I) (K := K) (c := c) 1 5 15 (by decide) (by decide) semS_1_5
    (dst := blk aM 512 (k0_off28 c) (k0_off28_inb c) (fun _ => rfl) squeezes_S1x512x256_S512x256) rfl) $$ [P15 HO]
  · isplitr; · iexact HR
    isplitr; · iexact HL
    isplitl [P15]; · iexact P15
    iexact HO
  iintro ⟨HK1, P15, HO⟩
  ihave HK1 := (sent_5 I c 1) $$ HK1
  iapply (wait_recv (I := I) (K := K) (c := c) 1 5 15 (by decide) (by decide) semR_1_5
    (dst := blk aM 512 (k0_off28 c) (k0_off28_inb c) (fun _ => rfl) squeezes_S1x512x256_S512x256) rfl) $$ [R15 HO]
  · isplitr; · iexact HR
    isplitr; · iexact HL
    isplitl [R15]; · iexact R15
    iexact HO
  iintro ⟨HG1, R15, HO⟩
  ihave HG1 := (recv_5 I c 1) $$ HG1
  ihave HK1 := (join5 (I := I) (c := c) aM 1) $$ [HG1 HK1]
  · isplitl [HG1]; · iexact HG1
    iexact HK1
  iapply (wp_load_reg (M := aM) (c := c) (g := (1 : Fin 3).val) (lo := 0) (n := 1024) (o := 0) (A := fin I c 1) (show ![1, 0, 0] = ![(1 : Fin 3).val, 0, 0] from rfl) inb_S3x1024x256_S1x1024x256_1_0_0 (Nat.le_refl _) (Nat.le_refl _)) $$ HK1
  iintro HK1
  iapply (wp_load_out (I := I) (c := c)) $$ OUT
  iintro OUT
  iapply (wp_store_out (I := I) (c := c) 1 1 2 rfl rfl (show ![0, 0, 256] = ![0, 0, 256 * (1 : Fin 3).val] from rfl) inb_S2x512x768_S2x512x256_0_0_256 (w := k0_pay57 (rdA 1024 0 (fin I c 1))) (fun j => out_col 1 (fin I c 1) j)) $$ OUT
  iintro OUT
  iapply (wait_send (I := I) (K := K) (c := c) 2 5 15 (by decide) (by decide) semS_2_5
    (dst := blk aM 512 (k0_off29 c) (k0_off29_inb c) (fun _ => rfl) squeezes_S1x512x256_S512x256) rfl) $$ [P25 HO]
  · isplitr; · iexact HR
    isplitr; · iexact HL
    isplitl [P25]; · iexact P25
    iexact HO
  iintro ⟨HK2, P25, HO⟩
  ihave HK2 := (sent_5 I c 2) $$ HK2
  iapply wp_done
  iapply Hk
  isplitl [P15]; · iexact P15
  isplitl [R15]; · iexact R15
  isplitl [HK1]; · iexact HK1
  isplitl [OUT]; · iexact OUT
  isplitl [HK2]; · iexact HK2
  isplitl [P25]; · iexact P25
  iexact HO

end

end Cert.CubeProof
-- ==== Proof.Body.lean ====
/-
# The kernel on one device, from the barrier to the last store
-/
module

public import proofs.«01_k».proof.Proof.Parts1
public import proofs.«01_k».proof.Proof.Parts2
public import proofs.«01_k».proof.Proof.Parts3

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem wp_seq {α β : Type} {c : Dev nD} {p : Prog (TpuEff nD τ sig (Elt F) Λ₀ .tc) α} {k : α → Prog (TpuEff nD τ sig (Elt F) Λ₀ .tc) β}
    {Q : β → sProp (MT nD τ sig Unit (Elt F) ℕ UU ℕ)} : WP c p (fun a => WP c (k a) Q) ⊢ WP c (p >>= k) Q := by
  show wp frame (wpE (defs₀ (F := F)) 𝒱₀ (c : Thread nD τ) none) Set.univ p (fun a => wp frame (wpE (defs₀ (F := F)) 𝒱₀ (c : Thread nD τ) none) Set.univ (k a) Q) ⊢
    wp frame (wpE (defs₀ (F := F)) 𝒱₀ (c : Thread nD τ) none) Set.univ (p >>= k) Q
  rw [wp_bind]

theorem wp_id {α : Type} {c : Dev nD} {k : Dev nD → Prog (TpuEff nD τ sig (Elt F) Λ₀ .tc) α}
    {Q : α → sProp (MT nD τ sig Unit (Elt F) ℕ UU ℕ)} : WP c (k c) Q ⊢ WP c (.op .deviceId k) Q := by
  show wp frame (wpE (defs₀ (F := F)) 𝒱₀ (c : Thread nD τ) none) Set.univ (k c) Q ⊢ wp frame (wpE (defs₀ (F := F)) 𝒱₀ (c : Thread nD τ) none) Set.univ (.op .deviceId k) Q
  rw [wp_deviceId]

section
variable (I : Ins F) (K : Dev nD × CK → ℕ) (c : Dev nD)

/-- The meeting at the barrier. -/
theorem part1 {W : Waits sig Unit} {Q : (Σ' (d0 : Dev nD) (v2 : BitVec 32) (v4 : BitVec 32) (v7 : BitVec 32) (v8 : BitVec 32) (v12 : BitVec 32) (v16 : BitVec 32) (v18 : BitVec 32), BitVec 32) → sProp (MT nD τ sig Unit (Elt F) ℕ UU ℕ)} :
    iprop(recs I K ∗ levAts L lv ∗ owes (c : Thread nD τ) (O₀ c) W
        ∗ dutyTok ER (barCell (peer 0 c)) 0 0 ∗ dutyTok ER (barCell (peer 1 c)) 0 1 ∗ dutyTok ER (barCell (peer 2 c)) 0 2
        ∗ barPay (peer 0 c) 0 ∗ barPay (peer 1 c) 1 ∗ barPay (peer 2 c) 2
        ∗ atPos ER (barCell c) 0 ∅ 0 ∗ cred (tallyAt (barCell c) () 3))
      ⊢ iprop((iprop(∀ v2 : BitVec 32, ∀ v4 : BitVec 32, ∀ v7 : BitVec 32, ∀ v8 : BitVec 32, ∀ v12 : BitVec 32, ∀ v16 : BitVec 32, ∀ v18 : BitVec 32, ∀ v26 : BitVec 32, iprop(barPay c 0 ∗ barPay c 1 ∗ barPay c 2 ∗ semVal (barCell c) 0 ∗ owesK c 0) -∗ Q ⟨c, v2, v4, v7, v8, v12, v16, v18, v26⟩)) -∗ WP c (at0 (k0_part1 (F := F))) Q) := by
  unfold at0
  simp only [k0_part1_eq_skeleton]
  unfold k0_part1_skel
  simp only [semSignalWord, semWaitWord, Prog.lift, Prog.bind_op, Prog.bind_ret, Prog.pure_eq_ret]
  iintro ⟨#HR, #HL, HO, T0, T1, T2, S0, S1, S2, HP, HC⟩ Hk
  iapply wp_id
  iapply (step_signal (I := I) (K := K) (c := c) 0 (dev1_at c) (w := 1) rfl (O := O₁ c) (O' := O₀ c) rfl) $$ [HO T0 S0]
  · isplitr; · iexact HR
    isplitl [HO]; · iexact HO
    isplitl [T0]; · iexact T0
    iexact S0
  iintro HO
  iapply (step_signal (I := I) (K := K) (c := c) 1 (dev2_at c) (w := 1) rfl (O := O₂ c) (O' := O₁ c) rfl) $$ [HO T1 S1]
  · isplitr; · iexact HR
    isplitl [HO]; · iexact HO
    isplitl [T1]; · iexact T1
    iexact S1
  iintro HO
  iapply (step_signal (I := I) (K := K) (c := c) 2 (dev3_at c) (w := 1) rfl (O := oweL c sends) (O' := O₂ c) rfl) $$ [HO T2 S2]
  · isplitr; · iexact HR
    isplitl [HO]; · iexact HO
    isplitl [T2]; · iexact T2
    iexact S2
  iintro HO
  iapply (step_meet (I := I) (K := K) (c := c) 0 rfl (w := 3) rfl) $$ [HO HP HC]
  · isplitr; · iexact HR
    isplitr; · iexact HL
    isplitl [HO]; · iexact HO
    isplitl [HP]; · iexact HP
    iexact HC
  iintro H
  iapply wp_done
  iapply Hk $$ %_ %_ %_ %_ %_ %_ %_ %_
  iexact H

/-- What a device starts the kernel with. -/
def startR (W : Waits sig Unit) : sProp 𝕄 :=
  iprop(recs I K
    ∗ levAts L lv
    ∗ owes (c : Thread nD τ) (O₀ c) W
    ∗ dutyTok ER (barCell (peer 0 c)) 0 0
    ∗ dutyTok ER (barCell (peer 1 c)) 0 1
    ∗ dutyTok ER (barCell (peer 2 c)) 0 2
    ∗ ((regX r1M c 0 0 512 ∗ regX r1M c 1 0 512 ∗ regX r1M c 2 0 512) ∗ (regX r2M c 0 0 256 ∗ regX r2M c 1 0 256 ∗ regX r2M c 2 0 256) ∗ (regX r3M c 0 0 256 ∗ regX r3M c 1 0 256 ∗ regX r3M c 2 0 256))
    ∗ atPos ER (barCell c) 0 ∅ 0
    ∗ cred (tallyAt (barCell c) () 3)
    ∗ regX aM c (0 : Fin 3).val 0 1024
    ∗ tok c 0 0
    ∗ posS c 0 0
    ∗ posR c 0 0
    ∗ tok c 0 1
    ∗ posS c 0 1
    ∗ posR c 0 1
    ∗ tok c 0 2
    ∗ posS c 0 2
    ∗ posR c 0 2
    ∗ tok c 0 4
    ∗ posS c 0 4
    ∗ posR c 0 4
    ∗ tok c 0 5
    ∗ posS c 0 5
    ∗ posR c 0 5
    ∗ regX aM c (1 : Fin 3).val 0 1024
    ∗ tok c 1 0
    ∗ posS c 1 0
    ∗ posR c 1 0
    ∗ tok c 1 1
    ∗ posS c 1 1
    ∗ posR c 1 1
    ∗ tok c 1 2
    ∗ posS c 1 2
    ∗ posR c 1 2
    ∗ tok c 1 4
    ∗ posS c 1 4
    ∗ posR c 1 4
    ∗ tok c 1 5
    ∗ posS c 1 5
    ∗ posR c 1 5
    ∗ regX aM c (2 : Fin 3).val 0 1024
    ∗ tok c 2 0
    ∗ posS c 2 0
    ∗ posR c 2 0
    ∗ tok c 2 1
    ∗ posS c 2 1
    ∗ posR c 2 1
    ∗ tok c 2 2
    ∗ posS c 2 2
    ∗ posR c 2 2
    ∗ tok c 2 4
    ∗ posS c 2 4
    ∗ posR c 2 4
    ∗ tok c 2 5
    ∗ posS c 2 5
    ∗ posR c 2 5
    ∗ stgP c cc0_stg0_0 (I.X c)
    ∗ stgP c cc0_stg1_0 (I.Wq c)
    ∗ stgP c cc0_stg2_0 (I.K c)
    ∗ stgP c cc0_stg3_0 (I.V c)
    ∗ stgP c cc0_stg4_0 (I.Wo c)
    ∗ outP I c 0)

/-- What it ends with. -/
def endR : sProp 𝕄 :=
  iprop(semVal (barCell c) 0
    ∗ outP I c 3
    ∗ stgP c cc0_stg0_0 (I.X c)
    ∗ stgP c cc0_stg1_0 (I.Wq c)
    ∗ stgP c cc0_stg2_0 (I.K c)
    ∗ stgP c cc0_stg3_0 (I.V c)
    ∗ stgP c cc0_stg4_0 (I.Wo c)
    ∗ regA aM c (0 : Fin 3).val (0) 1024 0 (fin I c 0)
    ∗ regA aM c (1 : Fin 3).val (0) 1024 0 (fin I c 1)
    ∗ regA aM c (2 : Fin 3).val (0) 1024 0 (fin I c 2)
    ∗ regA r1M c (0 : Fin 3).val (0) 512 (kp0 0 c) (A0 I (peer (ax 0 0) c) 0)
    ∗ regA r1M c (1 : Fin 3).val (0) 512 (kp0 1 c) (A0 I (peer (ax 1 0) c) 1)
    ∗ regA r1M c (2 : Fin 3).val (0) 512 (kp0 2 c) (A0 I (peer (ax 2 0) c) 2)
    ∗ regA r2M c (0 : Fin 3).val (0) 256 (kp1 0 c) (A1 I (peer (ax 0 1) c) 0)
    ∗ regA r2M c (1 : Fin 3).val (0) 256 (kp1 1 c) (A1 I (peer (ax 1 1) c) 1)
    ∗ regA r2M c (2 : Fin 3).val (0) 256 (kp1 2 c) (A1 I (peer (ax 2 1) c) 2)
    ∗ regA r3M c (0 : Fin 3).val (0) 256 (kp1 0 c) (A2 I (peer (ax 0 2) c) 0)
    ∗ regA r3M c (1 : Fin 3).val (0) 256 (kp1 1 c) (A2 I (peer (ax 1 2) c) 1)
    ∗ regA r3M c (2 : Fin 3).val (0) 256 (kp1 2 c) (A2 I (peer (ax 2 2) c) 2)
    ∗ offS c 0 0
    ∗ offR c 0 0
    ∗ offS c 0 1
    ∗ offR c 0 1
    ∗ offS c 0 2
    ∗ offR c 0 2
    ∗ offS c 0 4
    ∗ offR c 0 4
    ∗ offS c 0 5
    ∗ offR c 0 5
    ∗ offS c 1 0
    ∗ offR c 1 0
    ∗ offS c 1 1
    ∗ offR c 1 1
    ∗ offS c 1 2
    ∗ offR c 1 2
    ∗ offS c 1 4
    ∗ offR c 1 4
    ∗ offS c 1 5
    ∗ offR c 1 5
    ∗ offS c 2 0
    ∗ offR c 2 0
    ∗ offS c 2 1
    ∗ offR c 2 1
    ∗ offS c 2 2
    ∗ offR c 2 2
    ∗ offS c 2 4
    ∗ offR c 2 4
    ∗ offS c 2 5
    ∗ offR c 2 5
    ∗ owesK c 15)

set_option maxHeartbeats 1600000 in
theorem body_run {W : Waits sig Unit} {Q : PUnit → sProp (MT nD τ sig Unit (Elt F) ℕ UU ℕ)} :
    startR I K c W ⊢ iprop((endR I c -∗ Q ⟨⟩) -∗ WP c (at0 (cc0_body (F := F))) Q) := by
  unfold at0
  simp only [cc0_body_eq_skeleton]
  unfold cc0_body_skel startR endR
  iintro ⟨#HR, #HL, HO, T0, T1, T2, SL, HP, HC, HA0, T00, P00, R00, T01, P01, R01, T02, P02, R02, T04, P04, R04, T05, P05, R05, HA1, T10, P10, R10, T11, P11, R11, T12, P12, R12, T14, P14, R14, T15, P15, R15, HA2, T20, P20, R20, T21, P21, R21, T22, P22, R22, T24, P24, R24, T25, P25, R25, Ox, Oq, Ok, Ov, Oo, OUT⟩ Hk
  ihave SL := (slots_to (F := F) c) $$ SL
  icases SL with ⟨S0, S1, S2⟩
  iapply wp_seq
  iapply (part1 I K c) $$ [HO T0 T1 T2 S0 S1 S2 HP HC]
  · isplitr; · iexact HR
    isplitr; · iexact HL
    isplitl [HO]; · iexact HO
    isplitl [T0]; · iexact T0
    isplitl [T1]; · iexact T1
    isplitl [T2]; · iexact T2
    isplitl [S0]; · iexact S0
    isplitl [S1]; · iexact S1
    isplitl [S2]; · iexact S2
    isplitl [HP]; · iexact HP
    iexact HC
  iintro %v2 %v4 %v7 %v8 %v12 %v16 %v18 %v26 ⟨S0, S1, S2, HB, HO⟩
  ihave SL := (slots_of (F := F) c) $$ [S0 S1 S2]
  · isplitl [S0]; · iexact S0
    isplitl [S1]; · iexact S1
    iexact S2
  icases SL with ⟨⟨U0, U1, U2⟩, ⟨V0, V1, V2⟩, ⟨X0, X1, X2⟩⟩
  dsimp only
  iapply wp_seq
  iapply (part2 I c v2 v4 v7 v8 v26) $$ [Oq Oo]
  · isplitl [Oq]; · iexact Oq
    iexact Oo
  iintro %v49 %v53 %v57 %v61 %v65 ⟨Oq, Oo⟩
  dsimp only
  iapply wp_seq
  iapply (part3 I c v7 v8 _ _ v65 1#32) $$ [Ox Ok Ov]
  · isplitl [Ox]; · iexact Ox
    isplitl [Ok]; · iexact Ok
    iexact Ov
  iintro %v69 %v73 ⟨Ox, Ok, Ov⟩
  dsimp only
  iapply wp_seq
  iapply (part4 c _ _ _ _ _ _)
  dsimp only
  iapply wp_seq
  iapply (part5 c _ _ _ _ _)
  dsimp only
  iapply wp_seq
  iapply (part6 I c v12 _ v73 _ _ _ _ _ _ _ _ _ _ (chain_first (wqS I c) (woS I c) (xB I c (1 - bit 0 c)) (kB I c (1 - bit 0 c)) (vB I c (1 - bit 0 c)))) $$ [HA0 HA1 HA2]
  · isplitl [HA0]; · iexact HA0
    isplitl [HA1]; · iexact HA1
    iexact HA2
  iintro  ⟨HK0, HK1, HK2, HG0, HG1, HG2⟩
  try dsimp only
  iapply wp_seq
  iapply (part7 I K c v7 _ _) $$ [HG0 U0 HO T00 P00 Ox Ok Ov]
  · isplitr; · iexact HR
    isplitr; · iexact HL
    isplitl [HG0]; · iexact HG0
    isplitl [U0]; · iexact U0
    isplitl [HO]; · iexact HO
    isplitl [T00]; · iexact T00
    isplitl [P00]; · iexact P00
    isplitl [Ox]; · iexact Ox
    isplitl [Ok]; · iexact Ok
    iexact Ov
  iintro  ⟨P00, HO, Ox, Ok, Ov⟩
  dsimp only
  iapply wp_seq
  iapply (part8 c _ _ _ _ _ _)
  dsimp only
  iapply wp_seq
  iapply (part9 c _ _ _ _ _ _ _ _)
  dsimp only
  iapply wp_seq
  iapply (part10 I K c v7 v16 v18 _ _ _ _ _ _ _ _ _ (chain_second (wqS I c) (woS I c) (xB I c (bit 0 c)) (kB I c (bit 0 c)) (vB I c (bit 0 c)))) $$ [HK0 HK1 HK2 HG1 U1 HO T10 P10]
  · isplitr; · iexact HR
    isplitr; · iexact HL
    isplitl [HK0]; · iexact HK0
    isplitl [HK1]; · iexact HK1
    isplitl [HK2]; · iexact HK2
    isplitl [HG1]; · iexact HG1
    isplitl [U1]; · iexact U1
    isplitl [HO]; · iexact HO
    isplitl [T10]; · iexact T10
    iexact P10
  iintro %v408 ⟨HK0, HK2, HK1, P10, HO⟩
  dsimp only
  iapply wp_seq
  iapply (part11 I K c v12 v49 v408 0#32) $$ [HG2 HK2 U2 HO T20 P20 P00 R00 HK0]
  · isplitr; · iexact HR
    isplitr; · iexact HL
    isplitl [HG2]; · iexact HG2
    isplitl [HK2]; · iexact HK2
    isplitl [U2]; · iexact U2
    isplitl [HO]; · iexact HO
    isplitl [T20]; · iexact T20
    isplitl [P20]; · iexact P20
    isplitl [P00]; · iexact P00
    isplitl [R00]; · iexact R00
    iexact HK0
  iintro  ⟨HK2, P20, P00, HX0, R00, HO, HK0, U0⟩
  try dsimp only
  iapply wp_seq
  iapply (part12 I K c v16 v57) $$ [HK0 V0 HO T01 P01 P10 R10]
  · isplitr; · iexact HR
    isplitr; · iexact HL
    isplitl [HK0]; · iexact HK0
    isplitl [V0]; · iexact V0
    isplitl [HO]; · iexact HO
    isplitl [T01]; · iexact T01
    isplitl [P01]; · iexact P01
    isplitl [P10]; · iexact P10
    iexact R10
  iintro  ⟨HK0, P01, P10, U1, HX1, R10, HO⟩
  try dsimp only
  iapply wp_seq
  iapply (part13 I K c v18 v57) $$ [HK1 U1 V1 HO T11 P11 P20]
  · isplitr; · iexact HR
    isplitr; · iexact HL
    isplitl [HK1]; · iexact HK1
    isplitl [U1]; · iexact U1
    isplitl [V1]; · iexact V1
    isplitl [HO]; · iexact HO
    isplitl [T11]; · iexact T11
    isplitl [P11]; · iexact P11
    iexact P20
  iintro  ⟨U1, HK1, P11, P20, HO⟩
  try dsimp only
  iapply wp_seq
  iapply (part14 I K c v12 v65) $$ [R20 HO HK2 V2 T21 P21]
  · isplitr; · iexact HR
    isplitr; · iexact HL
    isplitl [R20]; · iexact R20
    isplitl [HO]; · iexact HO
    isplitl [HK2]; · iexact HK2
    isplitl [V2]; · iexact V2
    isplitl [T21]; · iexact T21
    iexact P21
  iintro  ⟨HX2, R20, U2, HK2, P21, HO⟩
  try dsimp only
  iapply wp_seq
  iapply (part15 I K c v16 v18 v53) $$ [P01 HO R01 HK0 X0 T02 P02]
  · isplitr; · iexact HR
    isplitr; · iexact HL
    isplitl [P01]; · iexact P01
    isplitl [HO]; · iexact HO
    isplitl [R01]; · iexact R01
    isplitl [HK0]; · iexact HK0
    isplitl [X0]; · iexact X0
    isplitl [T02]; · iexact T02
    iexact P02
  iintro  ⟨P01, HY0, R01, V0, P02, HO⟩
  try dsimp only
  iapply wp_seq
  iapply (part16 I K c v12 v18 v61) $$ [P11 HO R11 HK1]
  · isplitr; · iexact HR
    isplitr; · iexact HL
    isplitl [P11]; · iexact P11
    isplitl [HO]; · iexact HO
    isplitl [R11]; · iexact R11
    iexact HK1
  iintro  ⟨P11, HY1, R11, HO, V1, HK1⟩
  try dsimp only
  iapply wp_seq
  iapply (part17 I K c v12 v69) $$ [HK1 X1 HO T12 P12 P21 R21 HK2]
  · isplitr; · iexact HR
    isplitr; · iexact HL
    isplitl [HK1]; · iexact HK1
    isplitl [X1]; · iexact X1
    isplitl [HO]; · iexact HO
    isplitl [T12]; · iexact T12
    isplitl [P12]; · iexact P12
    isplitl [P21]; · iexact P21
    isplitl [R21]; · iexact R21
    iexact HK2
  iintro  ⟨P12, P21, HY2, R21, HO, V2, HK2⟩
  try dsimp only
  iapply wp_seq
  iapply (part18 I K c v16 v18 v53) $$ [HK2 X2 HO T22 P22 P02 R02]
  · isplitr; · iexact HR
    isplitr; · iexact HL
    isplitl [HK2]; · iexact HK2
    isplitl [X2]; · iexact X2
    isplitl [HO]; · iexact HO
    isplitl [T22]; · iexact T22
    isplitl [P22]; · iexact P22
    isplitl [P02]; · iexact P02
    iexact R02
  iintro  ⟨P22, P02, X0, R02, HO, HK0⟩
  try dsimp only
  iapply wp_seq
  iapply (part19 I K c v12 v16 v53) $$ [X0 HK0 HY0 HO T04 P04 P12]
  · isplitr; · iexact HR
    isplitr; · iexact HL
    isplitl [X0]; · iexact X0
    isplitl [HK0]; · iexact HK0
    isplitl [HY0]; · iexact HY0
    isplitl [HO]; · iexact HO
    isplitl [T04]; · iexact T04
    isplitl [P04]; · iexact P04
    iexact P12
  iintro  ⟨X0, P04, HK1, P12, HO⟩
  try dsimp only
  iapply wp_seq
  iapply (part20 I K c v16 v18 v61) $$ [R12 HO HK1 HY1 T14 P14 P22]
  · isplitr; · iexact HR
    isplitr; · iexact HL
    isplitl [R12]; · iexact R12
    isplitl [HO]; · iexact HO
    isplitl [HK1]; · iexact HK1
    isplitl [HY1]; · iexact HY1
    isplitl [T14]; · iexact T14
    isplitl [P14]; · iexact P14
    iexact P22
  iintro %v696 ⟨R12, X1, P14, HK2, P22, HO⟩
  try dsimp only
  iapply wp_seq
  iapply (part21 I K c v12 v69 v696) $$ [R22 HO HK2 HY2 T24 P24]
  · isplitr; · iexact HR
    isplitr; · iexact HL
    isplitl [R22]; · iexact R22
    isplitl [HO]; · iexact HO
    isplitl [HK2]; · iexact HK2
    isplitl [HY2]; · iexact HY2
    isplitl [T24]; · iexact T24
    iexact P24
  iintro  ⟨R22, X2, P24, HO⟩
  try dsimp only
  iapply wp_seq
  iapply (part22 I K c v12 v16 v18) $$ [P04 HO R04 HX0 T05 P05 P14]
  · isplitr; · iexact HR
    isplitr; · iexact HL
    isplitl [P04]; · iexact P04
    isplitl [HO]; · iexact HO
    isplitl [R04]; · iexact R04
    isplitl [HX0]; · iexact HX0
    isplitl [T05]; · iexact T05
    isplitl [P05]; · iexact P05
    iexact P14
  iintro %v754 ⟨P04, R04, P05, HK1, P14, HO⟩
  dsimp only
  iapply wp_seq
  iapply (part23 I K c v12 v16 v754 0#32) $$ [R14 HO HK1 HX1 T15 P15 P24 R24]
  · isplitr; · iexact HR
    isplitr; · iexact HL
    isplitl [R14]; · iexact R14
    isplitl [HO]; · iexact HO
    isplitl [HK1]; · iexact HK1
    isplitl [HX1]; · iexact HX1
    isplitl [T15]; · iexact T15
    isplitl [P15]; · iexact P15
    isplitl [P24]; · iexact P24
    iexact R24
  iintro  ⟨R14, P15, P24, HK2, R24, HO⟩
  try dsimp only
  iapply wp_seq
  iapply (part24 I K c v12 v18) $$ [HK2 HX2 HO T25 P25 P05 R05]
  · isplitr; · iexact HR
    isplitr; · iexact HL
    isplitl [HK2]; · iexact HK2
    isplitl [HX2]; · iexact HX2
    isplitl [HO]; · iexact HO
    isplitl [T25]; · iexact T25
    isplitl [P25]; · iexact P25
    isplitl [P05]; · iexact P05
    iexact R05
  iintro  ⟨P25, P05, R05, HO, HK0⟩
  try dsimp only
  iapply wp_seq
  iapply (part25 I K c v16) $$ [OUT P15 HO R15 P25]
  · isplitr; · iexact HR
    isplitr; · iexact HL
    isplitl [OUT]; · iexact OUT
    isplitl [P15]; · iexact P15
    isplitl [HO]; · iexact HO
    isplitl [R15]; · iexact R15
    iexact P25
  iintro  ⟨P15, R15, HK1, OUT, HK2, P25, HO⟩
  try dsimp only
  simp only [Prog.lift, Prog.bind_op, Prog.bind_ret, Prog.pure_eq_ret]
  iapply (wait_recv (I := I) (K := K) (c := c) 2 5 15 (by decide) (by decide) semR_2_5
    (dst := blk aM 512 (k0_off29 c) (k0_off29_inb c) (fun _ => rfl) squeezes_S1x512x256_S512x256) rfl) $$ [R25 HO]
  · isplitr; · iexact HR
    isplitr; · iexact HL
    isplitl [R25]; · iexact R25
    iexact HO
  iintro ⟨HG2, R25, HO⟩
  ihave HG2 := (recv_5 I c 2) $$ HG2
  ihave HK2 := (join5 (I := I) (c := c) aM 2) $$ [HG2 HK2]
  · isplitl [HG2]; · iexact HG2
    iexact HK2
  iapply (wp_load_reg (M := aM) (c := c) (g := (2 : Fin 3).val) (lo := 0) (n := 1024) (o := 0) (A := fin I c 2) (show ![2, 0, 0] = ![(2 : Fin 3).val, 0, 0] from rfl) inb_S3x1024x256_S1x1024x256_2_0_0 (Nat.le_refl _) (Nat.le_refl _)) $$ HK2
  iintro HK2
  iapply (wp_load_out (I := I) (c := c)) $$ OUT
  iintro OUT
  iapply (wp_store_out (I := I) (c := c) 2 2 3 rfl rfl (show ![0, 0, 512] = ![0, 0, 256 * (2 : Fin 3).val] from rfl) inb_S2x512x768_S2x512x256_0_0_512 (w := k0_pay1 (rdA 1024 0 (fin I c 2))) (fun j => out_col 2 (fin I c 2) j)) $$ OUT
  iintro OUT
  iapply wp_done
  iapply Hk
  isplitl [HB]; · iexact HB
  isplitl [OUT]; · iexact OUT
  isplitl [Ox]; · iexact Ox
  isplitl [Oq]; · iexact Oq
  isplitl [Ok]; · iexact Ok
  isplitl [Ov]; · iexact Ov
  isplitl [Oo]; · iexact Oo
  isplitl [HK0]; · iexact HK0
  isplitl [HK1]; · iexact HK1
  isplitl [HK2]; · iexact HK2
  isplitl [U0]; · iexact U0
  isplitl [U1]; · iexact U1
  isplitl [U2]; · iexact U2
  isplitl [V0]; · iexact V0
  isplitl [V1]; · iexact V1
  isplitl [V2]; · iexact V2
  isplitl [X0]; · iexact X0
  isplitl [X1]; · iexact X1
  isplitl [X2]; · iexact X2
  isplitl [P00]; · iexact P00
  isplitl [R00]; · iexact R00
  isplitl [P01]; · iexact P01
  isplitl [R01]; · iexact R01
  isplitl [P02]; · iexact P02
  isplitl [R02]; · iexact R02
  isplitl [P04]; · iexact P04
  isplitl [R04]; · iexact R04
  isplitl [P05]; · iexact P05
  isplitl [R05]; · iexact R05
  isplitl [P10]; · iexact P10
  isplitl [R10]; · iexact R10
  isplitl [P11]; · iexact P11
  isplitl [R11]; · iexact R11
  isplitl [P12]; · iexact P12
  isplitl [R12]; · iexact R12
  isplitl [P14]; · iexact P14
  isplitl [R14]; · iexact R14
  isplitl [P15]; · iexact P15
  isplitl [R15]; · iexact R15
  isplitl [P20]; · iexact P20
  isplitl [R20]; · iexact R20
  isplitl [P21]; · iexact P21
  isplitl [R21]; · iexact R21
  isplitl [P22]; · iexact P22
  isplitl [R22]; · iexact R22
  isplitl [P24]; · iexact P24
  isplitl [R24]; · iexact R24
  isplitl [P25]; · iexact P25
  isplitl [R25]; · iexact R25
  iexact HO

end

end Cert.CubeProof
-- ==== Proof.Ghost.lean ====
/-
# What the launch deals out

The launch element: every cell's opening state, its waiting position and the tokens of its duties; the tokens dealt across
the cube to the devices that pay the duties; the credit that what the devices owe gives each waiter.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (I : Ins F)

/-! ## The launch element -/

theorem osem_injective : Function.Injective osem := by decide +kernel
theorem ownSemFacts : Pipeline.OwnSemFacts cfg0.spec osem := by decide +kernel

theorem osem_not_bar (k : Bool × Fin 3 × Fin 6) : osem k ≠ SemLoc.reg barS := by
  rcases k with ⟨_ | _, g, s⟩ <;> exact fun h => by cases h

theorem kcell_injective : Function.Injective (kcell : Dev nD × CK → GSem nD τ sig) := by
  rintro ⟨c, k⟩ ⟨c', k'⟩ h
  have h1 : c = c' := by
    have := congrArg (fun g : GSem nD τ sig => g.1.1) h
    rcases k with _ | k <;> rcases k' with _ | k' <;> exact this
  subst h1
  have h2 := congrArg (fun g : GSem nD τ sig => g.2) h
  rcases k with _ | k <;> rcases k' with _ | k'
  · rfl
  · exact absurd h2.symm (osem_not_bar k')
  · exact absurd h2 (osem_not_bar k)
  · rw [osem_injective h2]
def cubeCells : Finset (GSem nD τ sig) := Finset.univ.map ⟨kcell, kcell_injective⟩

/-- A device's own duties: three at its barrier cell, one at each of the transfers' cells. -/
abbrev TK := Fin 3 ⊕ (Bool × Fin 3 × Fin 6)
def tokOf (p : Dev nD × TK) : GSem nD τ sig × ℕ × Fin 3 := match p.2 with
  | .inl a => (barCell p.1, 0, a)
  | .inr k => (((p.1 : Thread nD τ), osem k), 0, 0)
theorem tokOf_injective : Function.Injective (tokOf : Dev nD × TK → GSem nD τ sig × ℕ × Fin 3) := by
  rintro ⟨c, k⟩ ⟨c', k'⟩ h
  have h1 : c = c' := by
    have := congrArg (fun x : GSem nD τ sig × ℕ × Fin 3 => x.1.1.1) h
    rcases k with k | k <;> rcases k' with k' | k' <;> exact this
  subst h1
  have h2 := congrArg (fun x : GSem nD τ sig × ℕ × Fin 3 => x.1.2) h
  have h3 := congrArg (fun x : GSem nD τ sig × ℕ × Fin 3 => x.2.2) h
  rcases k with k | k <;> rcases k' with k' | k'
  · rw [show k = k' from h3]
  · exact absurd h2.symm (osem_not_bar k')
  · exact absurd h2 (osem_not_bar k)
  · rw [osem_injective h2]
def cubeToks : Finset (GSem nD τ sig × ℕ × Fin 3) := Finset.univ.map ⟨tokOf, tokOf_injective⟩

def u₀ : UU := (initOf (Pipeline.cells cfgs cellOf_inj) (Pipeline.launchToks cfgs cellOf_inj), initOf cubeCells cubeToks)

/-- The tokens of the duties at device `c`'s own cells. -/
def toks (c : Dev nD) : sProp 𝕄 :=
  iprop((bigSep Finset.univ fun a : Fin 3 => dutyTok ER (barCell c) 0 a)
    ∗ bigSep Finset.univ fun x : Fin 3 × Fin 6 => iprop(dutyTok ER (sendCell c x.1 x.2) 0 0 ∗ dutyTok ER (recvCell c x.1 x.2) 0 0))
/-- The tokens of the duties device `c` pays. -/
def payToks (c : Dev nD) : sProp 𝕄 :=
  iprop((bigSep Finset.univ fun a : Fin 3 => dutyTok ER (barCell (peer a c)) 0 a)
    ∗ bigSep Finset.univ fun x : Fin 3 × Fin 6 => tok c x.1 x.2)

/-- What the launch element deals device `c`. -/
def G (c : Dev nD) : sProp 𝕄 :=
  iprop((bigSep Finset.univ fun k : CK => roundState ER (cubeRd I) (kcell (c, k)) 0)
    ∗ (bigSep Finset.univ fun k : CK => iprop(atPos ER (kcell (c, k)) 0 ∅ 0 ∗ reached ER (kcell (c, k)) 0)) ∗ toks c)

/-- What stays with device `c`: its positions and the tokens of the duties it pays. -/
def linear (c : Dev nD) : sProp 𝕄 := iprop((bigSep Finset.univ fun k : CK => atPos ER (kcell (c, k)) 0 ∅ 0) ∗ payToks c)
/-- What the global step makes of it. -/
def G' (c : Dev nD) : sProp 𝕄 := iprop(∃ K, recs I K ∗ linear c)

theorem bigSep_option {α : Type} [Fintype α] [DecidableEq α] (Φ : Option α → sProp 𝕄) :
    bigSep Finset.univ Φ = iprop(Φ none ∗ bigSep Finset.univ fun k => Φ (some k)) := by
  rw [bigSep_univ_at Φ none]
  congr 1
  rw [show (Finset.univ : Finset (Option α)).erase none = Finset.univ.map Function.Embedding.some from by
    ext x; cases x <;> simp, BI.bigSep_map]
  rfl

theorem bigSep_two {α : Type} [Fintype α] [DecidableEq α] (Φ : Bool × α → sProp 𝕄) :
    bigSep Finset.univ Φ = bigSep Finset.univ fun x : α => iprop(Φ (false, x) ∗ Φ (true, x)) := by
  rw [BI.bigSep_univ_prod, bigSep_univ_eq_bigSepL [false, true] (by decide) (by decide), bigSep_sep']
  rfl

theorem fund_cube : BI.own (ER (initOf cubeCells cubeToks)) ⊢ (|==> bigSep Finset.univ (G I) : sProp 𝕄) := by
  have hX (Φ : GSem nD τ sig → sProp 𝕄) : bigSep cubeCells Φ = bigSep Finset.univ fun c : Dev nD => bigSep Finset.univ fun k : CK => Φ (kcell (c, k)) := by
    unfold cubeCells; rw [BI.bigSep_map, BI.bigSep_univ_prod]; rfl
  have hT : bigSep cubeToks (fun x => (dutyTok ER x.1 x.2.1 x.2.2 : sProp 𝕄)) = bigSep Finset.univ fun c : Dev nD => toks c := by
    unfold cubeToks; rw [BI.bigSep_map, BI.bigSep_univ_prod]
    refine bigSep_congr fun c _ => ?_
    unfold toks
    rw [BI.bigSep_univ_sum]
    congr 1
    exact bigSep_two (α := Fin 3 × Fin 6) fun k => (dutyTok ER ((c : Thread nD τ), osem k) 0 0 : sProp 𝕄)
  iintro HX
  imod (Rounds.fund ER (cubeRd I) cubeCells cubeToks) $$ HX with ⟨Hst, Hr, Hat, Htok⟩
  imodintro
  ihave Hst' := (Entails.of_eq (hX fun g => roundState ER (cubeRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells allocated, for every device at once -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_option]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (cubeRd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (cubeRd I) (kcell (c, k)) 0)
      ⊢ (|={Set.univ}=> bigSep Finset.univ fun k => iprop(∃ κ : ℕ, cellInv ER (cubeRd I) κ (kcell (c, k))) : sProp 𝕄) from by
        rw [← bigSep_sep']
        exact (bigSep_mono fun k _ => (Rounds.body_intro ER (cubeRd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem devs_swap {α : Type} [Fintype α] [DecidableEq α] (Φ : Dev nD → α → sProp 𝕄) :
    (bigSep Finset.univ fun c => bigSep Finset.univ fun a => Φ c a) = bigSep Finset.univ fun a => bigSep Finset.univ fun c => Φ c a := by
  rw [← BI.bigSep_univ_prod (fun p : Dev nD × α => Φ p.1 p.2), ← BI.bigSep_univ_prod (fun p : α × Dev nD => Φ p.2 p.1)]
  exact BI.bigSep_univ_equiv (Equiv.prodComm α (Dev nD)) _

/-- Each duty's token goes to the device across the axis that pays it. -/
theorem toks_across : (bigSep Finset.univ fun c : Dev nD => (toks c : sProp 𝕄)) ⊢ bigSep Finset.univ fun c : Dev nD => payToks c := by
  have hb : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (peer a c)) 0 a := by
    rw [devs_swap, devs_swap (fun c a => (dutyTok ER (barCell (peer a c)) 0 a : sProp 𝕄))]
    exact bigSep_congr fun a _ => BI.bigSep_univ_equiv (cross a) fun c => (dutyTok ER (barCell c) 0 a : sProp 𝕄)
  have hr : (bigSep Finset.univ fun c : Dev nD => bigSep Finset.univ fun x : Fin 3 × Fin 6 => (dutyTok ER (recvCell c x.1 x.2) 0 0 : sProp 𝕄))
      = bigSep Finset.univ fun c : Dev nD => bigSep Finset.univ fun x : Fin 3 × Fin 6 => dutyTok ER (recvCell (peer (tax x.1 x.2) c) x.1 x.2) 0 0 := by
    rw [devs_swap, devs_swap (fun c (x : Fin 3 × Fin 6) => (dutyTok ER (recvCell (peer (tax x.1 x.2) c) x.1 x.2) 0 0 : sProp 𝕄))]
    exact bigSep_congr fun x _ => BI.bigSep_univ_equiv (cross (tax x.1 x.2)) fun c => (dutyTok ER (recvCell c x.1 x.2) 0 0 : sProp 𝕄)
  unfold toks payToks tok
  simp only [bigSep_sep']
  rw [hb, hr]

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (cubeRd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← BI.bigSep_univ_prod (fun ck : Dev nD × CK => iprop(∃ κ : ℕ, cellInv ER (cubeRd I) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← BI.bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (cubeRd I) κ (kcell ck) : sProp 𝕄))) $$ HI
  icases HK with ⟨%K, #HI⟩
  ihave Htk := (toks_across (F := F)) $$ Htok
  iapply (with_persistent (R := recs I K) fun c _ => show iprop(recs I K ∗ linear c) ⊢ G' I c from by
    unfold G'
    iintro H
    iexists K
    iexact H)
  isplitr
  · unfold recs
    rw [bigSep_sep']
    isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem bar_eq {a b : Dev nD} (h : barCell a = barCell b) : a = b :=
  Fin.ext (congrArg (fun g : GSem nD τ sig => g.1.1.val) h)
theorem recv_eq {a b : Dev nD} {g g' : Fin 3} {s s' : Fin 6} (h : recvCell a g s = recvCell b g' s') : a = b ∧ g = g' ∧ s = s' := by
  have h1 : a = b := Fin.ext (congrArg (fun g : GSem nD τ sig => g.1.1.val) h)
  have h2 : recvQ g s = recvQ g' s' := by injection congrArg (fun g : GSem nD τ sig => g.2) h
  have h3 : 24 + (6 * g.val + s.val) = 24 + (6 * g'.val + s'.val) := congrArg Fin.val h2
  have := s.isLt; have := s'.isLt
  exact ⟨h1, Fin.ext (by omega), Fin.ext (by omega)⟩
theorem recv_ne_bar {a b : Dev nD} {g : Fin 3} {s : Fin 6} : recvCell a g s ≠ barCell b :=
  fun h => absurd (congrArg (fun g : GSem nD τ sig => g.2) h) (fun h' => by cases h')

theorem oweL_bar (d c : Dev nD) (l : List (Fin 3 × Fin 6)) : oweL d l (barCell c) () = 0 := by
  induction l with
  | nil => rfl
  | cons t l ih =>
    show (oweL d l + (tallyAt _ () _ : CellTallies nD τ sig Unit)) (barCell c) () = 0
    rw [Pi.add_apply, Finsupp.add_apply, ih, tallyAt_ne_cell recv_ne_bar.symm]
    rfl

theorem oweL_recv (d c : Dev nD) (g : Fin 3) (s : Fin 6) (l : List (Fin 3 × Fin 6)) (hl : l.Nodup) :
    oweL d l (recvCell c g s) () = if (g, s) ∈ l ∧ d = peer (tax g s) c then Nn s.val else 0 := by
  induction l with
  | nil => rw [if_neg fun h => absurd h.1 List.not_mem_nil]; rfl
  | cons t l ih =>
    obtain ⟨ht, hl⟩ := List.nodup_cons.1 hl
    show (oweL d l + (tallyAt _ () _ : CellTallies nD τ sig Unit)) (recvCell c g s) () = _
    rw [Pi.add_apply, Finsupp.add_apply, ih hl, tallyAt_apply]
    by_cases e : (g, s) = t
    · subst e
      rw [if_neg fun h => ht h.1]
      by_cases hd : d = peer (tax g s) c
      · subst hd
        rw [peer_peer, if_pos ⟨rfl, rfl⟩, if_pos ⟨List.mem_cons_self, rfl⟩, Nat.zero_add]
      · rw [if_neg fun h => hd (by rw [(recv_eq h.1).1, peer_peer]), if_neg fun h => hd h.2]
    · rw [if_neg (c := _ ∧ _) fun h => e (Prod.ext (recv_eq h.1).2.1 (recv_eq h.1).2.2), Nat.add_zero]
      refine if_congr (and_congr_left fun _ => ?_) rfl rfl
      exact ⟨List.mem_cons_of_mem _, fun h => (List.mem_cons.1 h).resolve_left e⟩

theorem bar_tally (d c : Dev nD) (a : Fin 3) :
    (tallyAt (barCell (peer a d)) () 1 : CellTallies nD τ sig Unit) (barCell c) () = if d = peer a c then 1 else 0 := by
  rw [tallyAt_apply]
  by_cases h : d = peer a c
  · subst h; rw [peer_peer, if_pos ⟨rfl, rfl⟩, if_pos rfl]
  · rw [if_neg fun h' => h (by rw [bar_eq h'.1, peer_peer]), if_neg h]

theorem owed_bar (d c : Dev nD) : O₀ d (barCell c) () = (if d = peer 2 c then 1 else 0) + (if d = peer 1 c then 1 else 0) + (if d = peer 0 c then 1 else 0) := by
  unfold O₀ O₁ O₂
  rw [Pi.add_apply, Finsupp.add_apply, Pi.add_apply, Finsupp.add_apply, Pi.add_apply, Finsupp.add_apply, oweL_bar,
    bar_tally, bar_tally, bar_tally, Nat.zero_add]

theorem owed_recv (d c : Dev nD) {g : Fin 3} {s : Fin 6} (h : (g, s) ∈ sends) :
    O₀ d (recvCell c g s) () = if d = peer (tax g s) c then Nn s.val else 0 := by
  unfold O₀ O₁ O₂
  rw [Pi.add_apply, Finsupp.add_apply, Pi.add_apply, Finsupp.add_apply, Pi.add_apply, Finsupp.add_apply,
    oweL_recv d c g s sends (by decide), tallyAt_ne_cell recv_ne_bar, tallyAt_ne_cell recv_ne_bar, tallyAt_ne_cell recv_ne_bar,
    Finsupp.zero_apply, Nat.add_zero, Nat.add_zero, Nat.add_zero]
  exact if_congr ⟨fun h' => h'.2, fun h' => ⟨h, h'⟩⟩ rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1,
    Finset.sum_ite_eq' Finset.univ (peer 0 c) fun _ => 1, if_pos (Finset.mem_univ _), if_pos (Finset.mem_univ _), if_pos (Finset.mem_univ _)]

theorem launch_recv (c : Dev nD) {g : Fin 3} {s : Fin 6} (h : (g, s) ∈ sends) :
    tallyOn (recvCell c g s) (launchCredit (Pipeline.owing O₀) 0 (recvCell c g s)) = (tallyAt (recvCell c g s) () (Nn s.val) : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (peer (tax g s) c) fun _ => Nn s.val, if_pos (Finset.mem_univ _)]

/-- The transfers, as a set. -/
def sendSet : Finset (Fin 3 × Fin 6) := sends.toFinset

def recvEmb : Fin 3 × Fin 6 ↪ SemLoc sig := ⟨fun x => osem (true, x), fun x y h => (Prod.ext_iff.1 (osem_injective h)).2⟩

theorem creds (c : Dev nD) :
    (Pipeline.launchCred O₀ c : sProp 𝕄)
      ⊢ iprop(cred (tallyAt (barCell c) () 3) ∗ bigSep sendSet fun x => cred (tallyAt (recvCell c x.1 x.2) () (Nn x.2.val))) := by
  unfold Pipeline.launchCred
  rw [bigSep_univ_at _ (SemLoc.reg barS), launch_bar]
  refine sep_mono_right ?_
  refine BIBase.Entails.trans (BI.bigSep_subset (t := sendSet.map recvEmb) fun x hx => ?_) ?_
  · obtain ⟨y, -, rfl⟩ := Finset.mem_map.1 hx
    exact Finset.mem_erase.2 ⟨osem_not_bar (true, y), Finset.mem_univ _⟩
  · rw [BI.bigSep_map]
    refine bigSep_mono fun x hx => ?_
    rw [← launch_recv c (g := x.1) (s := x.2) (List.mem_toFinset.1 hx)]
    exact BI.Entails.refl _

end Cert.CubeProof

end
-- ==== Proof.Launch.lean ====
/-
# The run of the kernel

The body on every device, under what the launch deals; then the whole program: every fair execution terminates, the
arguments are unchanged, the result holds what the cube of transfers leaves, and every semaphore is at zero.
-/
module

public import proofs.«01_k».proof.Proof.Ghost
public import proofs.«01_k».proof.Proof.Gen.KernelIdeal.Points
public import proofs.«01_k».proof.Proof.Gen.KernelIdeal.Frame
public import Idealize.ShloMosaic.Lib.Pipeline.ValueKit
public import Idealize.ShloMosaic.Lib.Pipeline.CollectiveSegs

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The scratch buffers, slot by slot -/

section Slots
variable {R : ℕ} {M : M3 R} (hM : M.view.set = Finset.univ) (c : Dev nD)

theorem rows_all (R : ℕ) : (Finset.univ : Finset (B3 R).Idx) = rows R 0 0 R ∪ (rows R 1 0 R ∪ rows R 2 0 R) := by
  ext x
  have h0 : (x 0).val < 3 := (x 0).isLt
  have h1 : (x 1).val < R := (x 1).isLt
  simp only [Finset.mem_union, mem_rows, Finset.mem_univ, true_iff]
  omega

theorem rows_apart (R : ℕ) {g g' : ℕ} (h : g ≠ g') : Disjoint (rows R g 0 R) (rows R g' 0 R) :=
  Finset.disjoint_left.2 fun x h1 h2 => h ((mem_rows.1 h1).1.symm.trans (mem_rows.1 h2).1)

include hM in
theorem all_rows : (Finset.univ : Finset (Idx (M.view.loc (c : Thread nD τ))))
    = (rows R 0 0 R).map M.view.emb ∪ ((rows R 1 0 R).map M.view.emb ∪ (rows R 2 0 R).map M.view.emb) := by
  rw [← Finset.map_union, ← Finset.map_union, ← rows_all]
  exact hM.symm

theorem apart (M : M3 R) : Disjoint ((rows R 0 0 R).map M.view.emb) ((rows R 1 0 R).map M.view.emb ∪ (rows R 2 0 R).map M.view.emb) := by
  rw [← Finset.map_union]
  exact map_disj _ (Finset.disjoint_union_right.2 ⟨rows_apart R (by decide), rows_apart R (by decide)⟩)

include hM in
/-- A whole scratch buffer is its three slots, -/
theorem slots_split : iprop(∃ f : Buf (Elt F) (M.view.loc (c : Thread nD τ)), (M.view.loc (c : Thread nD τ)) ↦{fullShare} f)
    ⊢ (iprop(regX M c 0 0 R ∗ regX M c 1 0 R ∗ regX M c 2 0 R) : sProp 𝕄) := by
  iintro ⟨%f, H⟩
  ihave H := (Entails.of_eq (congrArg (fun S => ((M.view.loc (c : Thread nD τ)) ↦[S]{fullShare} f : sProp 𝕄)) (all_rows hM c))) $$ H
  ihave H := (pointsTo_union (apart M)).1 $$ H
  icases H with ⟨H0, H⟩
  ihave H := (pointsTo_union (map_disj _ (rows_apart R (g := 1) (g' := 2) (by decide)))).1 $$ H
  icases H with ⟨H1, H2⟩
  unfold regX
  isplitl [H0]
  · iexists f; iexact H0
  isplitl [H1]
  · iexists f; iexact H1
  iexists f; iexact H2

include hM in
/-- and its three slots are the whole buffer. -/
theorem slots_join : (iprop(regX M c 0 0 R ∗ regX M c 1 0 R ∗ regX M c 2 0 R) : sProp 𝕄)
    ⊢ iprop(∃ f : Buf (Elt F) (M.view.loc (c : Thread nD τ)), (M.view.loc (c : Thread nD τ)) ↦{fullShare} f) := by
  unfold regX
  iintro ⟨⟨%f0, H0⟩, ⟨%f1, H1⟩, ⟨%f2, H2⟩⟩
  ihave H := (pointsTo_join (f := f1) (g := f2) (map_disj _ (rows_apart R (g := 1) (g' := 2) (by decide)))) $$ [H1 H2]
  · isplitl [H1]
    · iexact H1
    iexact H2
  ihave H := (pointsTo_join (f := f0) (apart M)) $$ [H0 H]
  · isplitl [H0]
    · iexact H0
    iexact H
  iexists _
  ihave H := (Entails.of_eq (congrArg (fun S => ((M.view.loc (c : Thread nD τ)) ↦[S]{fullShare} _ : sProp 𝕄)) (all_rows hM c).symm)) $$ H
  iexact H

end Slots

theorem set_a : (aM : M3 1024).view.set = Finset.univ := View.set_whole _
theorem set_r1 : (r1M : M3 512).view.set = Finset.univ := View.set_whole _
theorem set_r2 : (r2M : M3 256).view.set = Finset.univ := View.set_whole _
theorem set_r3 : (r3M : M3 256).view.set = Finset.univ := View.set_whole _

/-! ## The operands, read off the memory -/

variable (m : (ℓ : Loc nD τ sig) → Buf (Elt F) ℓ) (ρ : Dev nD → PrngReg)

/-- The operands as the memory holds them. -/
def insOf : Ins F where
  X c := m ((c : Thread nD τ).loc main_arg0)
  Wq c := m ((c : Thread nD τ).loc main_arg1)
  K c := m ((c : Thread nD τ).loc main_arg2)
  V c := m ((c : Thread nD τ).loc main_arg3)
  Wo c := m ((c : Thread nD τ).loc main_arg4)

/-- What device `c` starts from, beside its buffers. -/
def start (I : Ins F) (c : Dev nD) : sProp 𝕄 :=
  iprop(G' I c ∗ (cred (tallyAt (barCell c) () 3) ∗ bigSep sendSet fun x => cred (tallyAt (recvCell c x.1 x.2) () (Nn x.2.val))) ∗ levAts L lv)

/-- The scratch buffers at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start (insOf m) c ∗ scr c)
def Φ₁ (c : Dev nD) : sProp 𝕄 :=
  iprop(scr c ∗ semVal (barCell c) 0 ∗ bigSep Finset.univ fun x : Fin 3 × Fin 6 => iprop(semVal (sendCell c x.1 x.2) 0 ∗ semVal (recvCell c x.1 x.2) 0))

def dats (_ : Fin 1) (c : Dev nD) : Dat τ (Elt F) Unit ℕ UU ℕ cfg0 c where
  A w := m ((cfg0.win w).arr.view.loc (c : Thread nD τ))
  after w _ := match w with
    | ⟨0, _⟩ => (insOf m).X c
    | ⟨1, _⟩ => (insOf m).Wq c
    | ⟨2, _⟩ => (insOf m).K c
    | ⟨3, _⟩ => (insOf m).V c
    | ⟨4, _⟩ => (insOf m).Wo c
    | ⟨5, _⟩ => outC (insOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_x (Φ : Fin 3 × Fin 6 → sProp 𝕄) : bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5)) :=
  bigSep_univ_eq_bigSepL [(0, 0), (0, 1), (0, 2), (0, 3), (0, 4), (0, 5), (1, 0), (1, 1), (1, 2), (1, 3), (1, 4), (1, 5), (2, 0), (2, 1), (2, 2), (2, 3), (2, 4), (2, 5)] (by decide) (by decide) Φ
theorem bigSep_sends (Φ : Fin 3 × Fin 6 → sProp 𝕄) : bigSep sendSet Φ = iprop(Φ (0, 0) ∗ Φ (1, 0) ∗ Φ (2, 0) ∗ Φ (0, 1) ∗ Φ (1, 1) ∗ Φ (2, 1) ∗ Φ (0, 2) ∗ Φ (1, 2) ∗ Φ (2, 2) ∗ Φ (0, 4) ∗ Φ (1, 4) ∗ Φ (2, 4) ∗ Φ (0, 5) ∗ Φ (1, 5) ∗ Φ (2, 5)) :=
  bigSep_eq_bigSepL_of_eq sends rfl (by decide) Φ
theorem bigSep_three (Φ : Fin 3 → sProp 𝕄) : bigSep Finset.univ Φ = iprop(Φ 0 ∗ Φ 1 ∗ Φ 2) := bigSep_univ_eq_bigSepL [0, 1, 2] (by decide) (by decide) Φ

/-- What the launch deals device `c`, cell by cell. -/
def dealt (c : Dev nD) : sProp 𝕄 :=
  iprop(dutyTok ER (barCell (peer 0 c)) 0 0 ∗ dutyTok ER (barCell (peer 1 c)) 0 1 ∗ dutyTok ER (barCell (peer 2 c)) 0 2
    ∗ atPos ER (barCell c) 0 ∅ 0 ∗ cred (tallyAt (barCell c) () 3)
    ∗ tok c 0 0 ∗ posS c 0 0 ∗ posR c 0 0
    ∗ tok c 0 1 ∗ posS c 0 1 ∗ posR c 0 1
    ∗ tok c 0 2 ∗ posS c 0 2 ∗ posR c 0 2
    ∗ tok c 0 4 ∗ posS c 0 4 ∗ posR c 0 4
    ∗ tok c 0 5 ∗ posS c 0 5 ∗ posR c 0 5
    ∗ tok c 1 0 ∗ posS c 1 0 ∗ posR c 1 0
    ∗ tok c 1 1 ∗ posS c 1 1 ∗ posR c 1 1
    ∗ tok c 1 2 ∗ posS c 1 2 ∗ posR c 1 2
    ∗ tok c 1 4 ∗ posS c 1 4 ∗ posR c 1 4
    ∗ tok c 1 5 ∗ posS c 1 5 ∗ posR c 1 5
    ∗ tok c 2 0 ∗ posS c 2 0 ∗ posR c 2 0
    ∗ tok c 2 1 ∗ posS c 2 1 ∗ posR c 2 1
    ∗ tok c 2 2 ∗ posS c 2 2 ∗ posR c 2 2
    ∗ tok c 2 4 ∗ posS c 2 4 ∗ posR c 2 4
    ∗ tok c 2 5 ∗ posS c 2 5 ∗ posR c 2 5
    ∗ atPos ER (sendCell c 0 3) 0 ∅ 0 ∗ atPos ER (recvCell c 0 3) 0 ∅ 0 ∗ atPos ER (sendCell c 1 3) 0 ∅ 0 ∗ atPos ER (recvCell c 1 3) 0 ∅ 0 ∗ atPos ER (sendCell c 2 3) 0 ∅ 0 ∗ atPos ER (recvCell c 2 3) 0 ∅ 0)

set_option maxHeartbeats 1600000 in
theorem deal (c : Dev nD) : (iprop(linear c ∗ cred (tallyAt (barCell c) () 3)
      ∗ bigSep sendSet fun x => cred (tallyAt (recvCell c x.1 x.2) () (Nn x.2.val))) : sProp 𝕄) ⊢ dealt c := by
  unfold linear payToks
  rw [bigSep_option, bigSep_two (fun k => (atPos ER (kcell (c, some k)) 0 ∅ 0 : sProp 𝕄)), bigSep_three, bigSep_x, bigSep_x, bigSep_sends]
  unfold dealt posS posR
  iintro ⟨⟨⟨HP, ⟨P00, R00⟩, ⟨P01, R01⟩, ⟨P02, R02⟩, ⟨P03, R03⟩, ⟨P04, R04⟩, ⟨P05, R05⟩, ⟨P10, R10⟩, ⟨P11, R11⟩, ⟨P12, R12⟩, ⟨P13, R13⟩, ⟨P14, R14⟩, ⟨P15, R15⟩, ⟨P20, R20⟩, ⟨P21, R21⟩, ⟨P22, R22⟩, ⟨P23, R23⟩, ⟨P24, R24⟩, ⟨P25, R25⟩⟩, ⟨D0, D1, D2⟩, T00, T01, T02, T03, T04, T05, T10, T11, T12, T13, T14, T15, T20, T21, T22, T23, T24, T25⟩, HC, C00, C10, C20, C01, C11, C21, C02, C12, C22, C04, C14, C24, C05, C15, C25⟩
  isplitl [D0]; · iexact D0
  isplitl [D1]; · iexact D1
  isplitl [D2]; · iexact D2
  isplitl [HP]; · iexact HP
  isplitl [HC]; · iexact HC
  isplitl [T00]; · iexact T00
  isplitl [P00]; · iexact P00
  isplitl [R00 C00]
  · isplitl [R00]; · iexact R00
    iexact C00
  isplitl [T01]; · iexact T01
  isplitl [P01]; · iexact P01
  isplitl [R01 C01]
  · isplitl [R01]; · iexact R01
    iexact C01
  isplitl [T02]; · iexact T02
  isplitl [P02]; · iexact P02
  isplitl [R02 C02]
  · isplitl [R02]; · iexact R02
    iexact C02
  isplitl [T04]; · iexact T04
  isplitl [P04]; · iexact P04
  isplitl [R04 C04]
  · isplitl [R04]; · iexact R04
    iexact C04
  isplitl [T05]; · iexact T05
  isplitl [P05]; · iexact P05
  isplitl [R05 C05]
  · isplitl [R05]; · iexact R05
    iexact C05
  isplitl [T10]; · iexact T10
  isplitl [P10]; · iexact P10
  isplitl [R10 C10]
  · isplitl [R10]; · iexact R10
    iexact C10
  isplitl [T11]; · iexact T11
  isplitl [P11]; · iexact P11
  isplitl [R11 C11]
  · isplitl [R11]; · iexact R11
    iexact C11
  isplitl [T12]; · iexact T12
  isplitl [P12]; · iexact P12
  isplitl [R12 C12]
  · isplitl [R12]; · iexact R12
    iexact C12
  isplitl [T14]; · iexact T14
  isplitl [P14]; · iexact P14
  isplitl [R14 C14]
  · isplitl [R14]; · iexact R14
    iexact C14
  isplitl [T15]; · iexact T15
  isplitl [P15]; · iexact P15
  isplitl [R15 C15]
  · isplitl [R15]; · iexact R15
    iexact C15
  isplitl [T20]; · iexact T20
  isplitl [P20]; · iexact P20
  isplitl [R20 C20]
  · isplitl [R20]; · iexact R20
    iexact C20
  isplitl [T21]; · iexact T21
  isplitl [P21]; · iexact P21
  isplitl [R21 C21]
  · isplitl [R21]; · iexact R21
    iexact C21
  isplitl [T22]; · iexact T22
  isplitl [P22]; · iexact P22
  isplitl [R22 C22]
  · isplitl [R22]; · iexact R22
    iexact C22
  isplitl [T24]; · iexact T24
  isplitl [P24]; · iexact P24
  isplitl [R24 C24]
  · isplitl [R24]; · iexact R24
    iexact C24
  isplitl [T25]; · iexact T25
  isplitl [P25]; · iexact P25
  isplitl [R25 C25]
  · isplitl [R25]; · iexact R25
    iexact C25
  isplitl [P03]; · iexact P03
  isplitl [R03]; · iexact R03
  isplitl [P13]; · iexact P13
  isplitl [R13]; · iexact R13
  isplitl [P23]; · iexact P23
  iexact R23

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt () t0_0.succ
    ∗ stg c cc0_stg0_0 ((insOf m).X c) ∗ stg c cc0_stg1_0 ((insOf m).Wq c) ∗ stg c cc0_stg2_0 ((insOf m).K c)
    ∗ stg c cc0_stg3_0 ((insOf m).V c) ∗ stg c cc0_stg4_0 ((insOf m).Wo c) ∗ stg c cc0_stg5_0 (outC (insOf m) c))

theorem read_0 (c : Dev nD) : ((cfg0.win (0 : Fin 6)).blk t0_0).view.read (Elt F) (m ((cfg0.win (0 : Fin 6)).arr.view.loc (c : Thread nD τ))) = (insOf m).X c := by
  funext x
  show m ((c : Thread nD τ).loc main_arg0) _ = m ((c : Thread nD τ).loc main_arg0) x
  refine congrArg _ (funext fun a => Fin.ext ?_)
  show 0 * _ + 1 * (x a).val = (x a).val
  omega
theorem before_0 (c : Dev nD) (d) : (dats m 0 c).before (0 : Fin 6) t0_0 d = (insOf m).X c := by
  refine ((dats m 0 c).before_in_eq_fetched (0 : Fin 6) rfl (fun _ => rfl) (fun _ _ _ => rfl) (fun t => ?_) t0_0 d).trans ?_
  · rw [fin_N0 t]
    exact (read_0 m c).symm
  · exact read_0 m c

theorem read_1 (c : Dev nD) : ((cfg0.win (1 : Fin 6)).blk t0_0).view.read (Elt F) (m ((cfg0.win (1 : Fin 6)).arr.view.loc (c : Thread nD τ))) = (insOf m).Wq c := by
  funext x
  show m ((c : Thread nD τ).loc main_arg1) _ = m ((c : Thread nD τ).loc main_arg1) x
  refine congrArg _ (funext fun a => Fin.ext ?_)
  show 0 * _ + 1 * (x a).val = (x a).val
  omega
theorem before_1 (c : Dev nD) (d) : (dats m 0 c).before (1 : Fin 6) t0_0 d = (insOf m).Wq c := by
  refine ((dats m 0 c).before_in_eq_fetched (1 : Fin 6) rfl (fun _ => rfl) (fun _ _ _ => rfl) (fun t => ?_) t0_0 d).trans ?_
  · rw [fin_N0 t]
    exact (read_1 m c).symm
  · exact read_1 m c

theorem read_2 (c : Dev nD) : ((cfg0.win (2 : Fin 6)).blk t0_0).view.read (Elt F) (m ((cfg0.win (2 : Fin 6)).arr.view.loc (c : Thread nD τ))) = (insOf m).K c := by
  funext x
  show m ((c : Thread nD τ).loc main_arg2) _ = m ((c : Thread nD τ).loc main_arg2) x
  refine congrArg _ (funext fun a => Fin.ext ?_)
  show 0 * _ + 1 * (x a).val = (x a).val
  omega
theorem before_2 (c : Dev nD) (d) : (dats m 0 c).before (2 : Fin 6) t0_0 d = (insOf m).K c := by
  refine ((dats m 0 c).before_in_eq_fetched (2 : Fin 6) rfl (fun _ => rfl) (fun _ _ _ => rfl) (fun t => ?_) t0_0 d).trans ?_
  · rw [fin_N0 t]
    exact (read_2 m c).symm
  · exact read_2 m c

theorem read_3 (c : Dev nD) : ((cfg0.win (3 : Fin 6)).blk t0_0).view.read (Elt F) (m ((cfg0.win (3 : Fin 6)).arr.view.loc (c : Thread nD τ))) = (insOf m).V c := by
  funext x
  show m ((c : Thread nD τ).loc main_arg3) _ = m ((c : Thread nD τ).loc main_arg3) x
  refine congrArg _ (funext fun a => Fin.ext ?_)
  show 0 * _ + 1 * (x a).val = (x a).val
  omega
theorem before_3 (c : Dev nD) (d) : (dats m 0 c).before (3 : Fin 6) t0_0 d = (insOf m).V c := by
  refine ((dats m 0 c).before_in_eq_fetched (3 : Fin 6) rfl (fun _ => rfl) (fun _ _ _ => rfl) (fun t => ?_) t0_0 d).trans ?_
  · rw [fin_N0 t]
    exact (read_3 m c).symm
  · exact read_3 m c

theorem read_4 (c : Dev nD) : ((cfg0.win (4 : Fin 6)).blk t0_0).view.read (Elt F) (m ((cfg0.win (4 : Fin 6)).arr.view.loc (c : Thread nD τ))) = (insOf m).Wo c := by
  funext x
  show m ((c : Thread nD τ).loc main_arg4) _ = m ((c : Thread nD τ).loc main_arg4) x
  refine congrArg _ (funext fun a => Fin.ext ?_)
  show 0 * _ + 1 * (x a).val = (x a).val
  omega
theorem before_4 (c : Dev nD) (d) : (dats m 0 c).before (4 : Fin 6) t0_0 d = (insOf m).Wo c := by
  refine ((dats m 0 c).before_in_eq_fetched (4 : Fin 6) rfl (fun _ => rfl) (fun _ _ _ => rfl) (fun t => ?_) t0_0 d).trans ?_
  · rw [fin_N0 t]
    exact (read_4 m c).symm
  · exact read_4 m c

theorem out_none (I : Ins F) (c : Dev nD) (f : Buf (Elt F) ((c : Thread nD τ).loc cc0_stg5_0)) :
    (((c : Thread nD τ).loc cc0_stg5_0) ↦{fullShare} f : sProp 𝕄) ⊢ outP I c 0 := by
  unfold outP
  iintro H
  iexists f
  isplitr
  · ipureintro
    intro x hx
    exact absurd hx (Nat.not_lt_zero _)
  iexact H

theorem out_all (I : Ins F) (c : Dev nD) : outP I c 3 ⊢ (stg c cc0_stg5_0 (outC I c) : sProp 𝕄) := by
  unfold outP
  iintro ⟨%f, %hf, H⟩
  iexists f
  isplitr
  · ipureintro
    funext x
    exact hf x (x 2).isLt
  iexact H

set_option maxHeartbeats 4000000 in
theorem sound_body (c : Dev nD) (Kt : PUnit → sProp (MT nD τ sig Unit (Elt F) ℕ UU ℕ)) :
    iprop(bodyPre m c ∗ (bodyPost m c -∗ Kt ⟨⟩)) ⊢ WP c (at0 (cc0_body (F := F))) Kt := by
  unfold bodyPre Φ₀ start G' scr
  iintro ⟨⟨⟨⟨⟨%K, #HI, HLin⟩, HCr, #Hlev⟩, SA, S1, S2, S3⟩, Ho, ⟨%d0, %g0, %hg0, Ox⟩, ⟨%d1, %g1, %hg1, Oq⟩, ⟨%d2, %g2, %hg2, Ok⟩, ⟨%d3, %g3, %hg3, Ov⟩, ⟨%d4, %g4, %hg4, Oo⟩, ⟨%d5, %g5, %hg5, OUT⟩⟩, Hk⟩
  rw [before_0] at hg0
  rw [before_1] at hg1
  rw [before_2] at hg2
  rw [before_3] at hg3
  rw [before_4] at hg4
  subst hg0 hg1 hg2 hg3 hg4
  unfold Dat.owesAt Pipeline.owesWithin
  icases Ho with ⟨%W, %hW, HO⟩
  rw [show (dats m 0 c).owed t0_0.castSucc = O₀ c from rfl]
  ihave HD := (deal (F := F) c) $$ [HLin HCr]
  · isplitl [HLin]; · iexact HLin
    iexact HCr
  unfold dealt
  icases HD with ⟨D0, D1, D2, HP, HC, T00, P00, R00, T01, P01, R01, T02, P02, R02, T04, P04, R04, T05, P05, R05, T10, P10, R10, T11, P11, R11, T12, P12, R12, T14, P14, R14, T15, P15, R15, T20, P20, R20, T21, P21, R21, T22, P22, R22, T24, P24, R24, T25, P25, R25, P03, R03, P13, R13, P23, R23⟩
  ihave SA := (slots_split set_a c) $$ SA
  icases SA with ⟨HA0, HA1, HA2⟩
  ihave S1 := (slots_split set_r1 c) $$ S1
  ihave S2 := (slots_split set_r2 c) $$ S2
  ihave S3 := (slots_split set_r3 c) $$ S3
  ihave OUT := (out_none (insOf m) c _) $$ OUT
  ihave HZ := (rec_send (insOf m) K c 0 3) $$ HI
  icases HZ with ⟨#HZ, -⟩
  imod (Rounds.cell_close ER (cubeRd (insOf m)) (Set.mem_univ (K (c, some (false, 0, 3)))) (fun h => h) (R := 0) (duties_none (insOf m) (duties_send3 (insOf m) c 0))) $$ [P03] with P03
  · isplitr; · iexact HZ
    iexact P03
  ihave HY := (rec_recv (insOf m) K c 0 3) $$ HI
  icases HY with ⟨#HY, -⟩
  imod (Rounds.cell_close ER (cubeRd (insOf m)) (Set.mem_univ (K (c, some (true, 0, 3)))) (fun h => h) (R := 0) (duties_none (insOf m) (duties_recv3 (insOf m) c 0))) $$ [R03] with R03
  · isplitr; · iexact HY
    iexact R03
  ihave HZ := (rec_send (insOf m) K c 1 3) $$ HI
  icases HZ with ⟨#HZ, -⟩
  imod (Rounds.cell_close ER (cubeRd (insOf m)) (Set.mem_univ (K (c, some (false, 1, 3)))) (fun h => h) (R := 0) (duties_none (insOf m) (duties_send3 (insOf m) c 1))) $$ [P13] with P13
  · isplitr; · iexact HZ
    iexact P13
  ihave HY := (rec_recv (insOf m) K c 1 3) $$ HI
  icases HY with ⟨#HY, -⟩
  imod (Rounds.cell_close ER (cubeRd (insOf m)) (Set.mem_univ (K (c, some (true, 1, 3)))) (fun h => h) (R := 0) (duties_none (insOf m) (duties_recv3 (insOf m) c 1))) $$ [R13] with R13
  · isplitr; · iexact HY
    iexact R13
  ihave HZ := (rec_send (insOf m) K c 2 3) $$ HI
  icases HZ with ⟨#HZ, -⟩
  imod (Rounds.cell_close ER (cubeRd (insOf m)) (Set.mem_univ (K (c, some (false, 2, 3)))) (fun h => h) (R := 0) (duties_none (insOf m) (duties_send3 (insOf m) c 2))) $$ [P23] with P23
  · isplitr; · iexact HZ
    iexact P23
  ihave HY := (rec_recv (insOf m) K c 2 3) $$ HI
  icases HY with ⟨#HY, -⟩
  imod (Rounds.cell_close ER (cubeRd (insOf m)) (Set.mem_univ (K (c, some (true, 2, 3)))) (fun h => h) (R := 0) (duties_none (insOf m) (duties_recv3 (insOf m) c 2))) $$ [R23] with R23
  · isplitr; · iexact HY
    iexact R23
  iapply (body_run (insOf m) K c (W := W)) $$ [HO D0 D1 D2 S1 S2 S3 HP HC HA0 T00 P00 R00 T01 P01 R01 T02 P02 R02 T04 P04 R04 T05 P05 R05 HA1 T10 P10 R10 T11 P11 R11 T12 P12 R12 T14 P14 R14 T15 P15 R15 HA2 T20 P20 R20 T21 P21 R21 T22 P22 R22 T24 P24 R24 T25 P25 R25 Ox Oq Ok Ov Oo OUT]
  · unfold startR
    isplitr; · iexact HI
    isplitr; · iexact Hlev
    isplitl [HO]; · iexact HO
    isplitl [D0]; · iexact D0
    isplitl [D1]; · iexact D1
    isplitl [D2]; · iexact D2
    isplitl [S1 S2 S3]
    · isplitl [S1]; · iexact S1
      isplitl [S2]; · iexact S2
      iexact S3
    isplitl [HP]; · iexact HP
    isplitl [HC]; · iexact HC
    isplitl [HA0]; · iexact HA0
    isplitl [T00]; · iexact T00
    isplitl [P00]; · iexact P00
    isplitl [R00]; · iexact R00
    isplitl [T01]; · iexact T01
    isplitl [P01]; · iexact P01
    isplitl [R01]; · iexact R01
    isplitl [T02]; · iexact T02
    isplitl [P02]; · iexact P02
    isplitl [R02]; · iexact R02
    isplitl [T04]; · iexact T04
    isplitl [P04]; · iexact P04
    isplitl [R04]; · iexact R04
    isplitl [T05]; · iexact T05
    isplitl [P05]; · iexact P05
    isplitl [R05]; · iexact R05
    isplitl [HA1]; · iexact HA1
    isplitl [T10]; · iexact T10
    isplitl [P10]; · iexact P10
    isplitl [R10]; · iexact R10
    isplitl [T11]; · iexact T11
    isplitl [P11]; · iexact P11
    isplitl [R11]; · iexact R11
    isplitl [T12]; · iexact T12
    isplitl [P12]; · iexact P12
    isplitl [R12]; · iexact R12
    isplitl [T14]; · iexact T14
    isplitl [P14]; · iexact P14
    isplitl [R14]; · iexact R14
    isplitl [T15]; · iexact T15
    isplitl [P15]; · iexact P15
    isplitl [R15]; · iexact R15
    isplitl [HA2]; · iexact HA2
    isplitl [T20]; · iexact T20
    isplitl [P20]; · iexact P20
    isplitl [R20]; · iexact R20
    isplitl [T21]; · iexact T21
    isplitl [P21]; · iexact P21
    isplitl [R21]; · iexact R21
    isplitl [T22]; · iexact T22
    isplitl [P22]; · iexact P22
    isplitl [R22]; · iexact R22
    isplitl [T24]; · iexact T24
    isplitl [P24]; · iexact P24
    isplitl [R24]; · iexact R24
    isplitl [T25]; · iexact T25
    isplitl [P25]; · iexact P25
    isplitl [R25]; · iexact R25
    isplitl [Ox]; · iexact Ox
    isplitl [Oq]; · iexact Oq
    isplitl [Ok]; · iexact Ok
    isplitl [Ov]; · iexact Ov
    isplitl [Oo]; · iexact Oo
    iexact OUT
  unfold endR offS offR
  iintro ⟨HB, OUT, Ox, Oq, Ok, Ov, Oo, HA0, HA1, HA2, U0, U1, U2, V0, V1, V2, X0, X1, X2, P00, R00, P01, R01, P02, R02, P04, R04, P05, R05, P10, R10, P11, R11, P12, R12, P14, R14, P15, R15, P20, R20, P21, R21, P22, R22, P24, R24, P25, R25, HO⟩
  iapply Hk
  unfold bodyPost Φ₁ scr Dat.owesAt Pipeline.owesWithin owesK
  rw [show (dats m 0 c).owed t0_0.succ = 0 from rfl, bigSep_x]
  isplitl [HA0 HA1 HA2 U0 U1 U2 V0 V1 V2 X0 X1 X2 HB P00 R00 P01 R01 P02 R02 P03 R03 P04 R04 P05 R05 P10 R10 P11 R11 P12 R12 P13 R13 P14 R14 P15 R15 P20 R20 P21 R21 P22 R22 P23 R23 P24 R24 P25 R25]
  · isplitl [HA0 HA1 HA2 U0 U1 U2 V0 V1 V2 X0 X1 X2]
    · isplitl [HA0 HA1 HA2]
      · iapply (slots_join set_a c)
        isplitl [HA0]; · iapply regA_X $$ HA0
        isplitl [HA1]; · iapply regA_X $$ HA1
        iapply regA_X $$ HA2
      isplitl [U0 U1 U2]
      · iapply (slots_join set_r1 c)
        isplitl [U0]; · iapply regA_X $$ U0
        isplitl [U1]; · iapply regA_X $$ U1
        iapply regA_X $$ U2
      isplitl [V0 V1 V2]
      · iapply (slots_join set_r2 c)
        isplitl [V0]; · iapply regA_X $$ V0
        isplitl [V1]; · iapply regA_X $$ V1
        iapply regA_X $$ V2
      iapply (slots_join set_r3 c)
      isplitl [X0]; · iapply regA_X $$ X0
      isplitl [X1]; · iapply regA_X $$ X1
      iapply regA_X $$ X2
    isplitl [HB]; · iexact HB
    isplitl [P00 R00]
    · isplitl [P00]; · iexact P00
      iexact R00
    isplitl [P01 R01]
    · isplitl [P01]; · iexact P01
      iexact R01
    isplitl [P02 R02]
    · isplitl [P02]; · iexact P02
      iexact R02
    isplitl [P03 R03]
    · isplitl [P03]; · iexact P03
      iexact R03
    isplitl [P04 R04]
    · isplitl [P04]; · iexact P04
      iexact R04
    isplitl [P05 R05]
    · isplitl [P05]; · iexact P05
      iexact R05
    isplitl [P10 R10]
    · isplitl [P10]; · iexact P10
      iexact R10
    isplitl [P11 R11]
    · isplitl [P11]; · iexact P11
      iexact R11
    isplitl [P12 R12]
    · isplitl [P12]; · iexact P12
      iexact R12
    isplitl [P13 R13]
    · isplitl [P13]; · iexact P13
      iexact R13
    isplitl [P14 R14]
    · isplitl [P14]; · iexact P14
      iexact R14
    isplitl [P15 R15]
    · isplitl [P15]; · iexact P15
      iexact R15
    isplitl [P20 R20]
    · isplitl [P20]; · iexact P20
      iexact R20
    isplitl [P21 R21]
    · isplitl [P21]; · iexact P21
      iexact R21
    isplitl [P22 R22]
    · isplitl [P22]; · iexact P22
      iexact R22
    isplitl [P23 R23]
    · isplitl [P23]; · iexact P23
      iexact R23
    isplitl [P24 R24]
    · isplitl [P24]; · iexact P24
      iexact R24
    isplitl [P25]; · iexact P25
    iexact R25
  isplitl [HO]
  · icases HO with ⟨%W', HO⟩
    iexists W'
    isplitr; · ipureintro; exact fun _ _ => Or.inl trivial
    iexact HO
  isplitl [Ox]
  · iexists _; isplitr; · (ipureintro; rfl)
    iexact Ox
  isplitl [Oq]
  · iexists _; isplitr; · (ipureintro; rfl)
    iexact Oq
  isplitl [Ok]
  · iexists _; isplitr; · (ipureintro; rfl)
    iexact Ok
  isplitl [Ov]
  · iexists _; isplitr; · (ipureintro; rfl)
    iexact Ov
  isplitl [Oo]
  · iexists _; isplitr; · (ipureintro; rfl)
    iexact Oo
  iapply (out_all (insOf m) c)
  iexact OUT

theorem alone (P Q : sProp (MT nD τ sig Unit (Elt F) ℕ UU ℕ)) : P ⊢ iprop(P ∗ (Q -∗ Q)) := by
  iintro H
  isplitl
  · iexact H
  iintro H; iexact H

set_option maxRecDepth 40000 in
/-- The library's body obligation on core `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  change bodyPre m c ⊢ WP c (at0 (cc0_body (F := F))) (fun _ => bodyPost m c)
  exact BIBase.Entails.trans (alone _ _) (sound_body m c fun _ => bodyPost m c)

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start (insOf m) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start (insOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ scr Pipeline.ownSems0
  rw [bigSep_two (fun k => (semVal ((c : Thread nD τ), osem k) 0 : sProp 𝕄))]
  iintro ⟨Hr, HB, HS⟩
  isplitl [HB]; · iexact HB
  isplitl [HS]; · iexact HS
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- Every fair execution terminates with the windows' arrays at their final contents and the semaphores at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (insOf m)) (G' := G' (insOf m)) (u₀ := u₀)
    (hu₀ := by
      unfold u₀
      iintro Hu
      ihave H := (ownU_pair _ _) $$ Hu
      icases H with ⟨HP, HX⟩
      imod (fund_cube (insOf m)) $$ HX with HG
      imodintro
      isplitl [HP] <;> iassumption)
    (hglob := glob (insOf m))
    (hA := fun _ _ => rfl) (hpf := fun _ k => k.elim0)
    (X := start (insOf m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array's final contents. -/
theorem final_out (c : Dev nD) : (dats m 0 c).arrAt (5 : Fin 6) cfg0.N = outC (insOf m) c := by
  refine (dats m 0 c).arrAt_eq_of_after_last (5 : Fin 6) t0_0 (by decide +kernel) _ fun j => ?_
  blk_simp
  rfl

/-- The run, buffer by buffer. -/
theorem run_all : θ_run defs (onTc (τ := τ) (main (F := F))) (s₀ m ρ) (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v1) = outC (insOf m) c)
    ∧ r.2.sem = fun _ => 0) :=
  (θ_run defs _ _).mono (fun _ h => ⟨fun c => ⟨
    (h.1 c (0 : Fin 6)).trans ((dats m 0 c).arrAt_in (0 : Fin 6) rfl _),
    (h.1 c (1 : Fin 6)).trans ((dats m 0 c).arrAt_in (1 : Fin 6) rfl _),
    (h.1 c (2 : Fin 6)).trans ((dats m 0 c).arrAt_in (2 : Fin 6) rfl _),
    (h.1 c (3 : Fin 6)).trans ((dats m 0 c).arrAt_in (3 : Fin 6) rfl _),
    (h.1 c (4 : Fin 6)).trans ((dats m 0 c).arrAt_in (4 : Fin 6) rfl _),
    (h.1 c (5 : Fin 6)).trans (final_out m c)⟩, h.2⟩) (run_main m ρ)

end Cert.CubeProof

end
-- ==== Proof.Softmax.lean ====
/-
# One row of the softmax over the extended reals

The kernel multiplies the values by the bare exponentials and divides by their sum afterwards; the reference subtracts the
row's maximum first and divides before it multiplies by the values. `row_eq` says the two agree when the row's scores are
real and at least one of them is kept; the values may be anything.
-/
module

public import Idealize.ShloMosaic.Lib.Pointwise

@[expose] public section

noncomputable section

namespace Cert.Softmax

open Idealize.ShloMosaic

/-- A number that is neither infinity. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem Real'.sum {ι : Type} [Fintype ι] {f : ι → EReal} (h : ∀ i, Real' (f i)) : Real' (∑ i, f i) := by
  choose g hg using h
  exact ⟨∑ i, g i, by rw [← coe_sum]; exact Finset.sum_congr rfl fun i _ => hg i⟩

/-- A nonnegative real factor goes into a sum. -/
theorem sum_mul_real {ι : Type} [Fintype ι] (f : ι → EReal) (a : ℝ) (ha : 0 ≤ a) : (∑ i, f i) * (a : EReal) = ∑ i, f i * (a : EReal) := by
  classical
  suffices h : ∀ s : Finset ι, (∑ i ∈ s, f i) * (a : EReal) = ∑ i ∈ s, f i * (a : EReal) from h _
  intro s
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

theorem bits_neg_inf : Ideal.ofBits .f32 4286578688#32 = (⊥ : EReal) := by
  simp [Ideal.ofBits, Ideal.ieee, -EReal.coe_mul]

theorem bits_eighth : Ideal.ofBits .f32 1040187392#32 = ((1 / 8 : ℝ) : EReal) := by
  simp [Ideal.ofBits, Ideal.ieee, -EReal.coe_mul]
  norm_num

theorem exp_real (r : ℝ) : Ideal.exp (r : EReal) = ((Real.exp r : ℝ) : EReal) := rfl
theorem exp_bot : Ideal.exp ⊥ = 0 := rfl

theorem div_real {a b : ℝ} (hb : b ≠ 0) : Ideal.div (a : EReal) (b : EReal) = ((a / b : ℝ) : EReal) := by
  have : ((b : ℝ) : EReal) ≠ 0 := by simpa using hb
  rw [Ideal.div, if_neg this, div_eq_mul_inv, EReal.coe_mul, EReal.coe_inv]

/-- A row's weights as the reference makes them: the maximum off, the exponentials over their sum. -/
def weight {n : ℕ} (t : Fin n → EReal) (j : Fin n) : EReal :=
  Ideal.div (Ideal.exp (t j - Finset.univ.fold max ⊥ t)) (∑ l, Ideal.exp (t l - Finset.univ.fold max ⊥ t))

/-- The maximum of a row with one real number at least, and no number above the reals. -/
theorem max_real {n : ℕ} (t : Fin n → EReal) (i : Fin n) (hi : t i ≠ ⊥) (ht : ∀ j, t j ≠ ⊤) :
    Real' (Finset.univ.fold max ⊥ t) := by
  have h1 : Finset.univ.fold max ⊥ t < ⊤ := by
    rw [Finset.fold_max_lt]
    exact ⟨bot_lt_top, fun j _ => lt_top_iff_ne_top.mpr (ht j)⟩
  have h2 : ⊥ < Finset.univ.fold max ⊥ t := by
    rw [Finset.lt_fold_max]
    exact .inr ⟨i, Finset.mem_univ _, bot_lt_iff_ne_bot.mpr hi⟩
  exact ⟨_, (EReal.coe_toReal h1.ne h2.ne').symm⟩

/-- A score and the bias of the mask added to it. -/
theorem add_bias (k : BitVec 1) (s : EReal) : s + Scalar.select k 0 ⊥ = Scalar.select k s ⊥ := by
  unfold Scalar.select
  split <;> simp

theorem row_eq {n : ℕ} (s : Fin n → EReal) (hs : ∀ j, Real' (s j)) (k : Fin n → BitVec 1) (i : Fin n) (hi : k i = 1#1) (v : Fin n → EReal) :
    (∑ j, Ideal.exp (Scalar.select (k j) (s j) ⊥) * v j) * Ideal.div 1 (∑ j, Ideal.exp (Scalar.select (k j) (s j) ⊥))
      = ∑ j, v j * weight (fun j => Scalar.select (k j) (s j) ⊥) j := by
  choose a ha using hs
  obtain ⟨μ, hμ⟩ := max_real (fun j => Scalar.select (k j) (s j) ⊥) i (by simp [Scalar.select, hi, ha])
    (fun j => by simp only [Scalar.select]; split <;> simp [ha])
  let E : Fin n → ℝ := fun j => if k j = 1 then Real.exp (a j) else 0
  have hE0 : ∀ j, 0 ≤ E j := fun j => by simp only [E]; split <;> positivity
  have hE : ∀ j, Ideal.exp (Scalar.select (k j) (s j) ⊥) = (E j : EReal) := fun j => by
    simp only [Scalar.select, E]
    split
    · rw [ha, exp_real]
    · exact exp_bot
  have hE' : ∀ j, Ideal.exp (Scalar.select (k j) (s j) ⊥ - (μ : EReal)) = ((E j * Real.exp (-μ) : ℝ) : EReal) := fun j => by
    simp only [Scalar.select, E]
    split
    · rw [ha, ← EReal.coe_sub, exp_real, ← Real.exp_add, sub_eq_add_neg]
    · rw [EReal.bot_sub, zero_mul]; exact exp_bot
  have hS : 0 < ∑ j, E j := Finset.sum_pos' (fun j _ => hE0 j)
    ⟨i, Finset.mem_univ _, by simp only [E, hi]; exact Real.exp_pos _⟩
  have hw : ∀ j, weight (fun j => Scalar.select (k j) (s j) ⊥) j = ((E j / ∑ l, E l : ℝ) : EReal) := fun j => by
    simp only [weight, hμ, hE']
    rw [coe_sum, div_real (by rw [← Finset.sum_mul]; exact (mul_pos hS (Real.exp_pos _)).ne'), ← Finset.sum_mul,
      mul_div_mul_right _ _ (Real.exp_pos _).ne']
  simp only [hE, hw]
  rw [coe_sum, show (1 : EReal) = ((1 : ℝ) : EReal) from rfl, div_real hS.ne', sum_mul_real _ _ (by positivity)]
  refine Finset.sum_congr rfl fun j _ => ?_
  rw [mul_comm _ (v j), mul_assoc, ← EReal.coe_mul, mul_one_div]

end Cert.Softmax

end
-- ==== Proof.Model.lean ====
/-
# What both programs compute

The attention over whole arrays, element by element: `keepBit` says which columns of a row the mask keeps, `score` is one
query against one key, `context` one element of a head's weighted values, `project` one element of the result.
-/
module

public import proofs.«01_k».proof.Proof.Softmax

@[expose] public section

noncomputable section

namespace Cert.Model

open Idealize.ShloMosaic Cert.Softmax

/-- Near the diagonal, or in the first 32 columns, or in the first 32 rows. -/
def keepBit (i j : Fin 512) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- A row keeps its own column. -/
theorem keepBit_self (i : Fin 512) : keepBit i i = 1#1 := by
  have h : IntOp.cmpi .sle (IntOp.absi (IntOp.subi (BitVec.ofNat 32 i.val) (BitVec.ofNat 32 i.val))) 128#32 = 1#1 := by
    rw [show IntOp.subi (BitVec.ofNat 32 i.val) (BitVec.ofNat 32 i.val) = 0#32 from BitVec.sub_self _]
    decide
  rw [keepBit, h]
  generalize IntOp.ori (IntOp.cmpi .slt (BitVec.ofNat 32 i.val) 32#32) (IntOp.cmpi .slt (BitVec.ofNat 32 i.val) 32#32) = x
  revert x
  decide

/-- So the bits of a row, or-ed together, are one. -/
theorem keepBit_any (i : Fin 512) : Finset.univ.fold IntOp.ori 0#1 (keepBit i) = 1#1 := by
  classical
  have h : ∀ s : Finset (Fin 512), i ∈ s → s.fold IntOp.ori 0#1 (keepBit i) = 1#1 := by
    intro s hs
    rw [← Finset.insert_erase hs, Finset.fold_insert (Finset.notMem_erase i s), keepBit_self]
    generalize Finset.fold IntOp.ori 0#1 (keepBit i) (s.erase i) = x
    revert x
    decide
  exact h _ (Finset.mem_univ i)

theorem head_lt (h e : Fin 64) : 64 * h.val + e.val < 4096 := by omega

variable (X : (⟨3, ![2, 512, 768]⟩ : Shape).Idx → EReal) (W : (⟨2, ![768, 4096]⟩ : Shape).Idx → EReal)
  (K V : (⟨4, ![2, 512, 64, 64]⟩ : Shape).Idx → EReal) (O : (⟨2, ![4096, 768]⟩ : Shape).Idx → EReal)

/-- Row `i`'s query of head `h` against key `j`, over the square root of the head's width. -/
def score (b : Fin 2) (h : Fin 64) (i j : Fin 512) : EReal :=
  (∑ e : Fin 64, (∑ k : Fin 768, X (ix3 b i k) * W (ix2 k (⟨64 * h.val + e.val, head_lt h e⟩ : Fin 4096))) * K (ix4 b j h e))
    * Ideal.ofBits .f32 1040187392#32

/-- The masked scores of a row. -/
def masked (b : Fin 2) (h : Fin 64) (i : Fin 512) : Fin 512 → EReal := fun j => Scalar.select (keepBit i j) (score X W K b h i j) ⊥

/-- A head's context. -/
def context (b : Fin 2) (i : Fin 512) (h d : Fin 64) : EReal := ∑ j : Fin 512, V (ix4 b j h d) * weight (masked X W K b h i) j

/-- The result. -/
def project (b : Fin 2) (i : Fin 512) (n : Fin 768) : EReal :=
  ∑ m : Fin 4096, context X W K V b i ⟨m.val / 64, by omega⟩ ⟨m.val % 64, by omega⟩ * O (ix2 m n)

theorem score_real (hX : ∀ x, Real' (X x)) (hW : ∀ x, Real' (W x)) (hK : ∀ x, Real' (K x)) (b : Fin 2) (h : Fin 64) (i j : Fin 512) :
    Real' (score X W K b h i j) :=
  (Real'.sum fun _ => (Real'.sum fun _ => (hX _).mul (hW _)).mul (hK _)).mul ⟨_, bits_eighth⟩

end Cert.Model

end
-- ==== Proof.ValRef.lean ====
/-
# The reference's value, element by element, over the extended reals
-/
module

public import proofs.«01_k».proof.Proof.Gen.ReferenceIdeal.Run
public import proofs.«01_k».proof.Proof.Model
public import Idealize.ShloMosaic.Lib.Tactic.CleanTypes

@[expose] public section

set_option maxRecDepth 16384
set_option maxHeartbeats 4000000

noncomputable section

namespace Cert.RefValue

open Cert.ReferenceIdeal Cert.ReferenceIdeal.Gen Cert.ReferenceIdeal.Value
open Idealize.ShloMosaic Idealize.ShloMosaic.TcCoe
open Cert.Softmax Cert.Model

theorem select_one {α : Type} (a b : α) : Scalar.select 1#1 a b = a := if_pos rfl

/-- The masked scores as the reference's text spells them. -/
theorem masked_ref (X : S2x512x768.Idx → EReal) (W : S768x4096.Idx → EReal) (K : S2x512x64x64.Idx → EReal) (b : Fin 2) (i : Fin 512) (x : Fin 4096)
    (j : Fin 512) (h1 : ∀ e : Fin 64, x.val / 64 * 64 + e.val < 4096) (h2 : x.val / 64 < 64) :
    Scalar.select (keepBit i j) ((∑ e : Fin 64, (∑ k : Fin 768, X (ix3 b i k) * W (ix2 k (⟨x.val / 64 * 64 + e.val, h1 e⟩ : Fin 4096)))
        * K (ix4 b j (⟨x.val / 64, h2⟩ : Fin 64) e)) * Ideal.ofBits .f32 1040187392#32) ⊥ = masked X W K b ⟨x.val / 64, h2⟩ i j := by
  simp only [masked, score, Nat.mul_comm (x.val / 64) 64]

theorem ref_apply (m : (ℓ : Loc nD τ sig) → Buf (Elt Ideal) ℓ) (c : Dev nD) (b : Fin 2) (i : Fin 512) (n : Fin 768) :
    res_main_v47 m c (ix3 b i n) = project (m ((c : Thread nD τ).loc main_arg0)) (m ((c : Thread nD τ).loc main_arg1))
      (m ((c : Thread nD τ).loc main_arg2)) (m ((c : Thread nD τ).loc main_arg3)) (m ((c : Thread nD τ).loc main_arg4)) b i n := by
  unfold res_main_v47
  clean_types
  pointwise
  have hf : ∀ i : Fin 512, Finset.univ.fold IntOp.ori 0#1 (fun j : Fin 512 => keepBit i j) = 1#1 := keepBit_any
  have hk : ∀ i j : Fin 512, IntOp.ori (IntOp.cmpi .sle (IntOp.absi (IntOp.subi (BitVec.ofNat 32 i.val) (BitVec.ofNat 32 j.val))) 128#32)
        (IntOp.ori (IntOp.cmpi .slt (BitVec.ofNat 32 j.val) 32#32) (IntOp.cmpi .slt (BitVec.ofNat 32 i.val) 32#32)) = keepBit i j := fun _ _ => rfl
  have hb : (constant S_ .f32 4286578688#32 : FVec Ideal S_ .f32) ix0 = (⊥ : EReal) := bits_neg_inf
  simp only [hk, hf, select_one, id, hb, bits_neg_inf, masked_ref, project, context, weight]

end Cert.RefValue

end
-- ==== Proof.ValKernel.lean ====
/-
# The kernel's values, element by element, over the extended reals

One head's context and a batch's partial product, read at an index; the partial product of a device, in the terms both
programs share, when the device's keys and values are its eight heads of the whole ones; and the sum of the devices'.
-/
module

public import proofs.«01_k».proof.Proof.Compute
public import proofs.«01_k».proof.Proof.Model

@[expose] public section

set_option maxRecDepth 16384

noncomputable section

namespace Cert.CubeProof

open Cert.KernelIdeal Cert.KernelIdeal.Gen
open Idealize.ShloMosaic
open Cert.Softmax Cert.Model

/-! ## The parts of a batch -/

/-- One head's context at a row, its columns starting at `c`. -/
def headAt (c : ℕ) (hc : c + 64 ≤ 512) (b : FVec Ideal S512x512 .f32) (q k v : FVec Ideal S512x512 .bf16) (r : Fin 512) (d : Fin 64) : EReal :=
  (∑ j : Fin 512, Ideal.exp ((∑ e : Fin 64, q (ix2 r (⟨c + e.val, by omega⟩ : Fin 512)) * k (ix2 j (⟨c + e.val, by omega⟩ : Fin 512))) + b (ix2 r j))
      * v (ix2 j (⟨c + d.val, by omega⟩ : Fin 512)))
    * Ideal.div 1 (∑ j : Fin 512, Ideal.exp ((∑ e : Fin 64, q (ix2 r (⟨c + e.val, by omega⟩ : Fin 512)) * k (ix2 j (⟨c + e.val, by omega⟩ : Fin 512)))
      + b (ix2 r j)))

theorem headCtx_apply (c : ℕ) (hs : S512x512.Slices ![0, c] S512x64) (hc : c + 64 ≤ 512) (b : FVec Ideal S512x512 .f32)
    (q k v : FVec Ideal S512x512 .bf16) (r : Fin 512) (d : Fin 64) : headCtx ![0, c] hs b q k v (ix2 r d) = headAt c hc b q k v r d := by
  unfold headAt
  pointwise [headCtx]

/-- The heads side by side: column `64 h + d` is column `d` of head `h`. -/
theorem ctxAll_apply (b : FVec Ideal S512x512 .f32) (q k v : FVec Ideal S512x512 .bf16) (r : Fin 512) (h : Fin 8) (d : Fin 64) :
    ctxAll b q k v (ix2 r (⟨64 * h.val + d.val, by omega⟩ : Fin 512)) = headAt (64 * h.val) (by omega) b q k v r d := by
  have e : ∀ (c c' : ℕ) (hc : c + 64 ≤ 512) (hc' : c' + 64 ≤ 512) (d d' : Fin 64), c = c' → d = d' →
      headAt c hc b q k v r d = headAt c' hc' b q k v r d' := by
    intro c c' hc hc' d d' h1 h2
    subst h1 h2
    rfl
  pointwise [ctxAll]
  split_ifs <;> rw [headCtx_apply _ _ (by omega)] <;> exact e _ _ _ _ _ _ (by omega) (Fin.ext (by dsimp only; omega))

theorem mask_apply (r j : Fin 512) : (k0_pay4 (F := Ideal)) (ix2 r j) = Scalar.select (keepBit r j) (0 : EReal) ⊥ := by
  pointwise [k0_pay4]
  rw [IdealRules.named_const.ideal_named_scalar κ "mask" _ ⊥ rfl]
  congr 1
  exact BitVec.or_assoc _ _ _

theorem query_apply (wq : FVec Ideal S768x512 .bf16) (x : Vec Ideal S1x512x768 .bf16) (r m : Fin 512) :
    k0_pay5 (k0_pay2 wq) x (ix2 r m) = ((∑ k : Fin 768, x (ix3 0 r k) * wq (ix2 k m)) * Ideal.ofBits .f32 1040187392#32 : EReal) := by
  pointwise [k0_pay5, k0_pay2]

theorem keys_apply (k : Vec Ideal S1x512x8x64 .bf16) (r : Fin 512) (h : Fin 8) (d : Fin 64) (hm : 64 * h.val + d.val < 512) :
    k0_pay6 k (ix2 r (⟨64 * h.val + d.val, hm⟩ : Fin 512)) = k (ix4 0 r h d) := by
  have h1 : (64 * h.val + d.val) / 64 = h.val := by omega
  have h2 : (64 * h.val + d.val) % 64 = d.val := by omega
  pointwise [k0_pay6]

theorem values_apply (k : Vec Ideal S1x512x8x64 .bf16) (r : Fin 512) (h : Fin 8) (d : Fin 64) (hm : 64 * h.val + d.val < 512) :
    k0_pay7 k (ix2 r (⟨64 * h.val + d.val, hm⟩ : Fin 512)) = k (ix4 0 r h d) := by
  have h1 : (64 * h.val + d.val) / 64 = h.val := by omega
  have h2 : (64 * h.val + d.val) % 64 = d.val := by omega
  pointwise [k0_pay7]

theorem blkOut_apply (wq : Vec Ideal S768x512 .bf16) (wo : Vec Ideal S512x768 .bf16) (x : Vec Ideal S1x512x768 .bf16)
    (k v : Vec Ideal S1x512x8x64 .bf16) (r : Fin 512) (n : Fin 768) : blkOut wq wo x k v (ix2 r n)
      = (∑ m : Fin 512, ctxAll k0_pay4 (k0_pay5 (k0_pay2 wq) x) (k0_pay6 k) (k0_pay7 v) (ix2 r m) * wo (ix2 m n) : EReal) := by
  unfold blkOut
  generalize ctxAll (F := Ideal) k0_pay4 (k0_pay5 (k0_pay2 wq) x) (k0_pay6 k) (k0_pay7 v) = t
  pointwise [k0_pay3]

/-! ## A device's part -/

variable (X : (⟨3, ![2, 512, 768]⟩ : Shape).Idx → EReal) (W : (⟨2, ![768, 4096]⟩ : Shape).Idx → EReal)
  (K V : (⟨4, ![2, 512, 64, 64]⟩ : Shape).Idx → EReal) (O : (⟨2, ![4096, 768]⟩ : Shape).Idx → EReal)

theorem dev_head_lt (c : Dev nD) (h : Fin 8) : 8 * c.val + h.val < 64 := by
  have : c.val < 8 := c.isLt
  omega

/-- The devices hold their parts of the five arrays: all of the first two and the last, eight heads of the keys and values. -/
structure Parts (I : Ins Ideal) : Prop where
  hX : ∀ c, I.X c = X
  hW : ∀ c, I.Wq c = W
  hK : ∀ c b j h e, I.K c (ix4 b j h e) = K (ix4 b j (⟨8 * c.val + h.val, dev_head_lt c h⟩ : Fin 64) e)
  hV : ∀ c b j h e, I.V c (ix4 b j h e) = V (ix4 b j (⟨8 * c.val + h.val, dev_head_lt c h⟩ : Fin 64) e)
  hO : ∀ c, I.Wo c = O

variable {X W K V O} {I : Ins Ideal}

theorem dev_context (P : Parts X W K V O I) (rX : ∀ x, Real' (X x)) (rW : ∀ x, Real' (W x)) (rK : ∀ x, Real' (K x))
    (c : Dev nD) (b : ℕ) (r : Fin 512) (h : Fin 8) (d : Fin 64) :
    ctxAll k0_pay4 (k0_pay5 (k0_pay2 (wqS I c)) (xB I c b)) (k0_pay6 (kB I c b)) (k0_pay7 (vB I c b))
        (ix2 r (⟨64 * h.val + d.val, by omega⟩ : Fin 512))
      = context X W K V ⟨b % 2, Nat.mod_lt _ (by decide)⟩ r ⟨8 * c.val + h.val, dev_head_lt c h⟩ d := by
  have hs : ∀ j : Fin 512, (∑ e : Fin 64, (∑ k : Fin 768, xB I c b (ix3 0 r k) * wqS I c (ix2 k (⟨64 * h.val + e.val, by omega⟩ : Fin 512)))
        * Ideal.ofBits .f32 1040187392#32 * kB I c b (ix4 0 j h e))
      = score X W K ⟨b % 2, Nat.mod_lt _ (by decide)⟩ ⟨8 * c.val + h.val, dev_head_lt c h⟩ r j := by
    intro j
    rw [score, bits_eighth, sum_mul_real _ _ (by norm_num)]
    refine Finset.sum_congr rfl fun e _ => ?_
    rw [mul_right_comm]
    congr 2
    · refine Finset.sum_congr rfl fun k _ => ?_
      show I.X c _ * I.Wq c _ = _
      rw [P.hX, P.hW]
      congr 3
      exact Fin.ext (by show 512 * c.val + (64 * h.val + e.val) = 64 * (8 * c.val + h.val) + e.val; ring)
    · exact P.hK c _ j h e
  have hv : ∀ j : Fin 512, vB I c b (ix4 0 j h d) = V (ix4 (⟨b % 2, Nat.mod_lt _ (by decide)⟩ : Fin 2) j (⟨8 * c.val + h.val, dev_head_lt c h⟩ : Fin 64) d) :=
    fun j => P.hV c _ j h d
  rw [ctxAll_apply, headAt]
  simp only [mask_apply, query_apply, keys_apply, values_apply, hs, hv, add_bias]
  exact row_eq (fun j => score X W K _ _ r j) (score_real X W K rX rW rK _ _ r) (keepBit r) r (keepBit_self r) _

/-- A device's partial product: the contraction over its own 512 columns. -/
theorem dev_out (P : Parts X W K V O I) (rX : ∀ x, Real' (X x)) (rW : ∀ x, Real' (W x)) (rK : ∀ x, Real' (K x))
    (c : Dev nD) (b : ℕ) (r : Fin 512) (n : Fin 768) :
    outB I c b (ix2 r n) = (∑ m : Fin 512, context X W K V ⟨b % 2, Nat.mod_lt _ (by decide)⟩ r
      ⟨(512 * c.val + m.val) / 64, by have := col_lt c m; omega⟩ ⟨(512 * c.val + m.val) % 64, by omega⟩
        * O (ix2 (⟨512 * c.val + m.val, col_lt c m⟩ : Fin 4096) n) : EReal) := by
  unfold outB
  rw [blkOut_apply]
  refine Finset.sum_congr rfl fun m _ => ?_
  have hm := dev_context P rX rW rK c b r ⟨m.val / 64, by omega⟩ ⟨m.val % 64, by omega⟩
  have e1 : (⟨64 * (m.val / 64) + m.val % 64, by omega⟩ : Fin 512) = m := Fin.ext (by dsimp only; omega)
  dsimp only at hm
  rw [e1] at hm
  rw [hm]
  congr 1
  · congr 1 <;> exact Fin.ext (by dsimp only; omega)
  · show I.Wo c _ = _
    rw [P.hO]
    rfl

/-! ## The sum over the devices -/

/-- The devices a colour's three exchanges bring together: all of them. -/
theorem all_devices : ∀ (g : Fin 3) (c : Dev nD), List.Perm
    [c, peer (ax g 0) c, peer (ax g 1) c, peer (ax g 0) (peer (ax g 1) c), peer (ax g 2) c, peer (ax g 0) (peer (ax g 2) c),
      peer (ax g 1) (peer (ax g 2) c), peer (ax g 0) (peer (ax g 1) (peer (ax g 2) c))] (List.finRange 8) := by decide

theorem A3_sum (c : Dev nD) (g : Fin 3) (r : ℕ) (j : Fin 256) : A3 I c g r j = (∑ d : Dev nD, A0 I d g r j : EReal) := by
  have h := ((all_devices g c).map fun d => (A0 I d g r j : EReal)).sum_eq
  rw [show (∑ d : Dev nD, A0 I d g r j : EReal) = ((List.finRange 8).map fun d => (A0 I d g r j : EReal)).sum from Fin.sum_univ_def _, ← h]
  simp only [List.map_cons, List.map_nil, List.sum_cons, List.sum_nil, add_zero]
  show ((A0 I _ g r j + A0 I _ g r j : EReal) + (A0 I _ g r j + A0 I _ g r j)) + ((A0 I _ g r j + A0 I _ g r j) + (A0 I _ g r j + A0 I _ g r j)) = _
  simp only [add_assoc, add_zero]

theorem fin_sum (c : Dev nD) (g : Fin 3) (r : ℕ) (j : Fin 256) : fin I c g r j = (∑ d : Dev nD, A0 I d g r j : EReal) := by
  unfold fin A4
  split_ifs <;> exact A3_sum _ g r j

/-- What every device leaves in its result is the whole contraction. -/
theorem out_apply (P : Parts X W K V O I) (rX : ∀ x, Real' (X x)) (rW : ∀ x, Real' (W x)) (rK : ∀ x, Real' (K x))
    (c : Dev nD) (b : Fin 2) (i : Fin 512) (n : Fin 768) : outC I c (ix3 b i n) = project X W K V O b i n := by
  show fin I c _ _ _ = _
  rw [fin_sum]
  have h : ∀ d : Dev nD, A0 I d ⟨n.val / 256, by omega⟩ (512 * b.val + i.val) ⟨n.val % 256, Nat.mod_lt _ (by decide)⟩ = outB I d b.val (ix2 i n) := by
    intro d
    show outB I d ((512 * b.val + i.val) / 512) (ix2 (⟨(512 * b.val + i.val) % 512, _⟩ : Fin 512) (⟨256 * (n.val / 256) + n.val % 256, _⟩ : Fin 768)) = _
    have h1 : (512 * b.val + i.val) / 512 = b.val := by omega
    rw [h1]
    congr 2 <;> exact Fin.ext (by dsimp only; omega)
  refine (Finset.sum_congr rfl fun d _ => (h d).trans (dev_out P rX rW rK d b.val i n)).trans ?_
  have hb : (⟨b.val % 2, Nat.mod_lt _ (by decide)⟩ : Fin 2) = b := Fin.ext (Nat.mod_eq_of_lt b.isLt)
  rw [hb, project]
  refine Eq.trans ?_ ((finProdFinEquiv (m := 8) (n := 512)).sum_comp
    (fun m : Fin 4096 => context X W K V b i ⟨m.val / 64, by omega⟩ ⟨m.val % 64, by omega⟩ * O (ix2 m n)))
  rw [Fintype.sum_prod_type]
  refine Finset.sum_congr rfl fun d _ => Finset.sum_congr rfl fun m _ => ?_
  have e : finProdFinEquiv (m := 8) (n := 512) (d, m) = (⟨512 * d.val + m.val, col_lt d m⟩ : Fin 4096) :=
    Fin.ext (by show m.val + 512 * d.val = _; ring)
  rw [e]

end Cert.CubeProof

end
-- ==== Proof.lean ====
/-
# The claims, proved

Each claim from its lemma: the two kernels' runs and the reference's, the named mask constant, and the results' agreement.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bridge
public import proofs.«01_k».proof.Proof.Launch
public import proofs.«01_k».proof.Proof.ValRef
public import proofs.«01_k».proof.Proof.ValKernel

@[expose] public section

noncomputable section

namespace Cert.Proof

open Idealize.ShloMosaic Idealize.SL.Sem Cert.Kernel Cert.Softmax

/-- The reference's run leaves its arguments as they were, and it has no semaphore. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel's run, without what its result holds. -/
theorem quiescent_ideal : Cert.quiescent_KernelIdeal (hKernelIdeal := Cert.KernelIdeal.Gen.facts) := fun m g _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.CubeProof.run_all (F := Ideal) m g)

attribute [local instance] namedBits in
/-- The kernel's run is the idealized kernel's text at machine floats. -/
theorem quiescent_kernel : Cert.quiescent_Kernel (hKernel := Cert.Kernel.Gen.facts) :=
  haveI := Cert.ReferenceIdeal.Gen.facts
  quiescent_of fun m g => (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.CubeProof.run_all (F := Bits) m g)

/-! ## The precondition -/

theorem pre_kernel : Cert.Pre_finite_scores_KernelIdeal.Facts where
  bcast_S_S2x512x768 := by decide
  bcast_S_S768x4096 := by decide
  bcast_S_S2x512x8x64 := by decide

theorem pre_reference : Cert.Pre_finite_scores_ReferenceIdeal.Facts where
  bcast_S_S2x512x768 := by decide
  bcast_S_S768x4096 := by decide
  bcast_S_S2x512x64x64 := by decide

theorem bits_inf : Ideal.ofBits .bf16 0x7F80#16 = (⊤ : EReal) := by
  simp [Ideal.ofBits, Ideal.ieee, -EReal.coe_mul]

/-- An absolute value below infinity is that of a real. -/
theorem real_of_abs {x : EReal} (h : FloatOps.cmpf (F := Ideal) (φ := .bf16) .olt (max x (-x)) (Ideal.ofBits .bf16 0x7F80#16) = 1#1) : Real' x := by
  rw [bits_inf] at h
  induction x with
  | coe r => exact ⟨r, rfl⟩
  | top => exact absurd h (by simp [FloatOps.cmpf, Ideal.cmp])
  | bot => exact absurd h (by simp [FloatOps.cmpf, Ideal.cmp])

/-- What the precondition says of a device's activations, query weights and keys. -/
theorem real_of_pre (x : Cert.Pre_finite_scores_KernelIdeal.S2x512x768.Idx → EReal) (w : Cert.Pre_finite_scores_KernelIdeal.S768x4096.Idx → EReal)
    (k v : Cert.Pre_finite_scores_KernelIdeal.S2x512x8x64.Idx → EReal) (o : Cert.Pre_finite_scores_KernelIdeal.S4096x768.Idx → EReal)
    (h : haveI := pre_kernel; (Cert.Pre_finite_scores_KernelIdeal.fn (F := Ideal) x w k v o).1 = (fun _ => 1#1)
      ∧ (Cert.Pre_finite_scores_KernelIdeal.fn (F := Ideal) x w k v o).2.1 = (fun _ => 1#1)
      ∧ (Cert.Pre_finite_scores_KernelIdeal.fn (F := Ideal) x w k v o).2.2 = (fun _ => 1#1)) :
    (∀ i, Real' (x i)) ∧ (∀ i, Real' (w i)) ∧ ∀ i, Real' (k i) :=
  ⟨fun i => real_of_abs (congrFun h.1 i), fun i => real_of_abs (congrFun h.2.1 i), fun i => real_of_abs (congrFun h.2.2 i)⟩

/-- The frames under the precondition are the frames without it. -/
theorem quiescent_ideal_pre : Cert.quiescent_KernelIdeal_pre_finite_scores_KernelIdeal (hKernelIdeal := Cert.KernelIdeal.Gen.facts)
    (hPre_finite_scores_KernelIdeal := pre_kernel) := fun m g _ => quiescent_ideal m g trivial

theorem quiescent_reference_pre : Cert.quiescent_ReferenceIdeal_pre_finite_scores_ReferenceIdeal (hReferenceIdeal := Cert.ReferenceIdeal.Gen.facts)
    (hPre_finite_scores_ReferenceIdeal := pre_reference) := fun m g _ => quiescent_reference m g trivial

/-! ## The results agree -/

/-- Where a device's block of the heads lies in the whole. -/
theorem block_heads (K : (⟨4, ![2, 512, 64, 64]⟩ : Shape).Idx → EReal) (c : Fin 8) (b : Fin 2) (j : Fin 512) (h : Fin 8) (e : Fin 64) :
    Layout.block ⟨4, ![2, 512, 8, 64]⟩ ⟨4, ![2, 512, 64, 64]⟩ 2 8 c K (by decide) (ix4 b j h e)
      = K (ix4 b j (⟨8 * c.val + h.val, by omega⟩ : Fin 64) e) := by
  rw [Layout.block_apply]
  congr 1
  funext a
  apply Fin.ext
  fin_cases a
  · rfl
  · rfl
  · show c.val * 8 + h.val = 8 * c.val + h.val
    omega
  · rfl

theorem agree : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_kernel) := by
  intro m g m' g' hpre hag
  have P : Cert.CubeProof.Parts (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (Cert.CubeProof.insOf m) :=
    ⟨fun c => (hag c).1, fun c => (hag c).2.1,
      fun c b j h e => (congrFun (hag c).2.2.1 (ix4 b j h e)).trans (block_heads _ c b j h e),
      fun c b j h e => (congrFun (hag c).2.2.2.1 (ix4 b j h e)).trans (block_heads _ c b j h e), fun c => (hag c).2.2.2.2⟩
  have R := fun c => real_of_pre _ _ _ _ _ (hpre c)
  have rX : ∀ i, Real' (m' (((0 : Dev Cert.ReferenceIdeal.nD).tc : Thread Cert.ReferenceIdeal.nD Cert.ReferenceIdeal.τ).loc Cert.ReferenceIdeal.main_arg0) i) := by
    rw [← (hag 0).1]
    exact (R 0).1
  have rW : ∀ i, Real' (m' (((0 : Dev Cert.ReferenceIdeal.nD).tc : Thread Cert.ReferenceIdeal.nD Cert.ReferenceIdeal.τ).loc Cert.ReferenceIdeal.main_arg1) i) := by
    rw [← (hag 0).2.1]
    exact (R 0).2.1
  have rK : ∀ i, Real' (m' (((0 : Dev Cert.ReferenceIdeal.nD).tc : Thread Cert.ReferenceIdeal.nD Cert.ReferenceIdeal.τ).loc Cert.ReferenceIdeal.main_arg2) i) := by
    intro i
    obtain ⟨b, j, h, e, rfl⟩ : ∃ (b : Fin 2) (j : Fin 512) (h e : Fin 64), i = ix4 b j h e := ⟨i 0, i 1, i 2, i 3, eq_ix4 i⟩
    have hK := P.hK ⟨h.val / 8, by have := h.isLt; show _ < 8; omega⟩ b j ⟨h.val % 8, by omega⟩ e
    have eh : (⟨8 * (h.val / 8) + h.val % 8, by omega⟩ : Fin 64) = h := Fin.ext (by dsimp only; omega)
    dsimp only at hK
    rw [eh] at hK
    rw [← hK]
    exact (R _).2.2 _
  refine ⟨Cert.ReferenceIdeal.Value.res_main_v47 m' 0, (θ_run _ _ _).mono (fun r h c => ?_) (Cert.CubeProof.run_all (F := Ideal) m g),
    (θ_run _ _ _).mono (fun _ h => h 0) (Cert.ReferenceIdeal.Value.run (F := Ideal) m' g')⟩
  refine ⟨(h.1 c).2.2.2.2.2.trans ?_, (h.1 c).1, (h.1 c).2.1, (h.1 c).2.2.1, (h.1 c).2.2.2.1, (h.1 c).2.2.2.2.1⟩
  funext i
  obtain ⟨b, j, n, rfl⟩ : ∃ (b : Fin 2) (j : Fin 512) (n : Fin 768), i = ix3 b j n := ⟨i 0, i 1, i 2, eq_ix3 i⟩
  exact (Cert.CubeProof.out_apply P rX rW rK c b j n).trans (Cert.RefValue.ref_apply m' 0 b j n).symm

theorem claim : Cert.Claim := ⟨Cert.Kernel.Gen.facts, Cert.KernelIdeal.Gen.facts, Cert.ReferenceIdeal.Gen.facts, pre_kernel, pre_reference,
  quiescent_kernel, quiescent_ideal, quiescent_ideal_pre, quiescent_reference, quiescent_reference_pre,
  IdealRules.named_const.statement Cert.KernelIdeal.κ "mask" .f32 0xCE6E6B28#32 ⊥ rfl, agree⟩

end Cert.Proof

end
